-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨5, ![1, 1, 1, 1024, 1024]⟩ ⟨5, ![2, 2, 2, 1024, 1024]⟩ (Layout.meshBlock [2, 2, 2] ![[0], [1], [2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1x1x1024x1024 : Shape := ⟨5, ![1, 1, 1, 1024, 1024]⟩
abbrev S1024x1024 : Shape := ⟨2, ![1024, 1024]⟩
abbrev S16x56x1024 : Shape := ⟨3, ![16, 56, 1024]⟩
abbrev S6x16 : Shape := ⟨2, ![6, 16]⟩
abbrev S_ : Shape := ⟨0, ![]⟩
abbrev S64x1024 : Shape := ⟨2, ![64, 1024]⟩
abbrev S1x1 : Shape := ⟨2, ![1, 1]⟩
abbrev S1x32x1024 : Shape := ⟨3, ![1, 32, 1024]⟩
abbrev S32x1024 : Shape := ⟨2, ![32, 1024]⟩
abbrev S16x1024 : Shape := ⟨2, ![16, 1024]⟩
abbrev S1x16x1024 : Shape := ⟨3, ![1, 16, 1024]⟩
abbrev S8x1024 : Shape := ⟨2, ![8, 1024]⟩
abbrev S1x8x1024 : Shape := ⟨3, ![1, 8, 1024]⟩

abbrev nBuf : Space → Nat
  | .hbm => 3
  | .vmem => 3
  | .smem => 0
  | _ => 0

abbrev bufTy : (tb : Table) → Fin (tcTables nBuf tb) → BufTy
  | .hbm, ⟨0, _⟩ => ⟨S1x1x1x1024x1024, .bf16⟩
  | .hbm, ⟨1, _⟩ => ⟨S1024x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S16x56x1024, .bf16⟩
  | _, _ => ⟨S1x1x1x1024x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 194 → Bool
  | ⟨i, _⟩ => dmaSemScopedAt i

abbrev sig : RefSig :=
  (ofTc nBuf bufTy 1 194 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_3 v2
  let c4_i32_5 : BitVec 32 := 4#32
  let v11 : BitVec 32 := Scalar.muli v10 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_dev2 (d0 : Dev nD) : Nat :=
  let c0_i32_11 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_10 : BitVec 32 := 4#32
  let v18 : BitVec 32 := Scalar.muli v2 c4_i32_10
  let v19 : BitVec 32 := Scalar.addi c0_i32_11 v18
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let c2_i32_12 : BitVec 32 := 2#32
  let v20 : BitVec 32 := Scalar.muli v17 c2_i32_12
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_13 : BitVec 32 := 1#32
  let v22 : BitVec 32 := Scalar.muli v8 c1_i32_13
  let v23 : BitVec 32 := Scalar.addi v21 v22
  v23.toNat
def k0_dev3 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_14 v8
  let c1_i32_19 : BitVec 32 := 1#32
  let v29 : BitVec 32 := Scalar.muli v24 c1_i32_19
  let v30 : BitVec 32 := Scalar.addi v28 v29
  v30.toNat
def k0_off1 (d0 : Dev nD) (c0_i32_24 : BitVec 32) (c4_i32 : BitVec 32) : Fin 2 → Nat :=
  let c1_i32_23 : BitVec 32 := 1#32
  let v0 : BitVec 32 := Dev.word d0
  let v1 : BitVec 32 := Scalar.divsi v0 c4_i32
  let c2_i32 : BitVec 32 := 2#32
  let v2 : BitVec 32 := Scalar.remsi v1 c2_i32
  let v34 : BitVec 32 := Scalar.subi c1_i32_23 v2
  let c32_i32 : BitVec 32 := 32#32
  let v35 : BitVec 32 := Scalar.muli v34 c32_i32
  let v36 : BitVec 32 := Scalar.addi c0_i32_24 v35
  let c0_i32_37 : BitVec 32 := 0#32
  ![v36.toNat, 0]
def k0_off1_at (r : Fin 16) : BitVec 32 × BitVec 32 :=
  if r.val < 8 then
    if r.val < 4 then
      if r.val < 2 then
        if r.val < 1 then
          (0#32, 4#32)
        else
          (384#32, 2#32)
      else
        if r.val < 3 then
          (704#32, 1#32)
        else
          (64#32, 4#32)
    else
      if r.val < 6 then
        if r.val < 5 then
          (448#32, 2#32)
        else
          (768#32, 1#32)
      else
        if r.val < 7 then
          (128#32, 4#32)
        else
          (512#32, 2#32)
  else
    if r.val < 12 then
      if r.val < 10 then
        if r.val < 9 then
          (832#32, 1#32)
        else
          (192#32, 4#32)
      else
        if r.val < 11 then
          (576#32, 2#32)
        else
          (896#32, 1#32)
    else
      if r.val < 14 then
        if r.val < 13 then
          (256#32, 4#32)
        else
          (640#32, 2#32)
      else
        if r.val < 15 then
          (960#32, 1#32)
        else
          (320#32, 4#32)
def k0_dev4 (d0 : Dev nD) : Nat :=
  let c0_i32_32 : BitVec 32 := 0#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_25 v2
  let c4_i32_31 : BitVec 32 := 4#32
  let v38 : BitVec 32 := Scalar.muli v37 c4_i32_31
  let v39 : BitVec 32 := Scalar.addi c0_i32_32 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_33 : BitVec 32 := 2#32
  let v40 : BitVec 32 := Scalar.muli v5 c2_i32_33
  let v41 : BitVec 32 := Scalar.addi v39 v40
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_34 : BitVec 32 := 1#32
  let v42 : BitVec 32 := Scalar.muli v8 c1_i32_34
  let v43 : BitVec 32 := Scalar.addi v41 v42
  v43.toNat
def k0_dev5 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_48 : BitVec 32 := 4#32
  let v58 : BitVec 32 := Scalar.muli v2 c4_i32_48
  let v59 : BitVec 32 := Scalar.addi c0_i32_49 v58
  let c1_i32_43 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_43 v5
  let c2_i32_50 : BitVec 32 := 2#32
  let v60 : BitVec 32 := Scalar.muli v57 c2_i32_50
  let v61 : BitVec 32 := Scalar.addi v59 v60
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_51 : BitVec 32 := 1#32
  let v62 : BitVec 32 := Scalar.muli v8 c1_i32_51
  let v63 : BitVec 32 := Scalar.addi v61 v62
  v63.toNat
def k0_dev6 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_65 : BitVec 32 := 4#32
  let v78 : BitVec 32 := Scalar.muli v2 c4_i32_65
  let v79 : BitVec 32 := Scalar.addi c0_i32_66 v78
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v80 : BitVec 32 := Scalar.muli v5 c2_i32_67
  let v81 : BitVec 32 := Scalar.addi v79 v80
  let c1_i32_60 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v77 : BitVec 32 := Scalar.subi c1_i32_60 v8
  let c1_i32_68 : BitVec 32 := 1#32
  let v82 : BitVec 32 := Scalar.muli v77 c1_i32_68
  let v83 : BitVec 32 := Scalar.addi v81 v82
  v83.toNat
def k0_dev7 (d0 : Dev nD) : Nat :=
  let c0_i32_84 : BitVec 32 := 0#32
  let c1_i32_77 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v97 : BitVec 32 := Scalar.subi c1_i32_77 v2
  let c4_i32_83 : BitVec 32 := 4#32
  let v98 : BitVec 32 := Scalar.muli v97 c4_i32_83
  let v99 : BitVec 32 := Scalar.addi c0_i32_84 v98
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_85 : BitVec 32 := 2#32
  let v100 : BitVec 32 := Scalar.muli v5 c2_i32_85
  let v101 : BitVec 32 := Scalar.addi v99 v100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_86 : BitVec 32 := 1#32
  let v102 : BitVec 32 := Scalar.muli v8 c1_i32_86
  let v103 : BitVec 32 := Scalar.addi v101 v102
  v103.toNat
def k0_dev8 (d0 : Dev nD) : Nat :=
  let c0_i32_101 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_100 : BitVec 32 := 4#32
  let v118 : BitVec 32 := Scalar.muli v2 c4_i32_100
  let v119 : BitVec 32 := Scalar.addi c0_i32_101 v118
  let c1_i32_95 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v117 : BitVec 32 := Scalar.subi c1_i32_95 v5
  let c2_i32_102 : BitVec 32 := 2#32
  let v120 : BitVec 32 := Scalar.muli v117 c2_i32_102
  let v121 : BitVec 32 := Scalar.addi v119 v120
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_103 : BitVec 32 := 1#32
  let v122 : BitVec 32 := Scalar.muli v8 c1_i32_103
  let v123 : BitVec 32 := Scalar.addi v121 v122
  v123.toNat
def k0_dev9 (d0 : Dev nD) : Nat :=
  let c0_i32_118 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_117 : BitVec 32 := 4#32
  let v138 : BitVec 32 := Scalar.muli v2 c4_i32_117
  let v139 : BitVec 32 := Scalar.addi c0_i32_118 v138
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_119 : BitVec 32 := 2#32
  let v140 : BitVec 32 := Scalar.muli v5 c2_i32_119
  let v141 : BitVec 32 := Scalar.addi v139 v140
  let c1_i32_112 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v137 : BitVec 32 := Scalar.subi c1_i32_112 v8
  let c1_i32_120 : BitVec 32 := 1#32
  let v142 : BitVec 32 := Scalar.muli v137 c1_i32_120
  let v143 : BitVec 32 := Scalar.addi v141 v142
  v143.toNat
def k0_dev10 (d0 : Dev nD) : Nat :=
  let c0_i32_136 : BitVec 32 := 0#32
  let c1_i32_129 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v157 : BitVec 32 := Scalar.subi c1_i32_129 v2
  let c4_i32_135 : BitVec 32 := 4#32
  let v158 : BitVec 32 := Scalar.muli v157 c4_i32_135
  let v159 : BitVec 32 := Scalar.addi c0_i32_136 v158
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_137 : BitVec 32 := 2#32
  let v160 : BitVec 32 := Scalar.muli v5 c2_i32_137
  let v161 : BitVec 32 := Scalar.addi v159 v160
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_138 : BitVec 32 := 1#32
  let v162 : BitVec 32 := Scalar.muli v8 c1_i32_138
  let v163 : BitVec 32 := Scalar.addi v161 v162
  v163.toNat
def k0_dev11 (d0 : Dev nD) : Nat :=
  let c0_i32_153 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_152 : BitVec 32 := 4#32
  let v178 : BitVec 32 := Scalar.muli v2 c4_i32_152
  let v179 : BitVec 32 := Scalar.addi c0_i32_153 v178
  let c1_i32_147 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v177 : BitVec 32 := Scalar.subi c1_i32_147 v5
  let c2_i32_154 : BitVec 32 := 2#32
  let v180 : BitVec 32 := Scalar.muli v177 c2_i32_154
  let v181 : BitVec 32 := Scalar.addi v179 v180
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_155 : BitVec 32 := 1#32
  let v182 : BitVec 32 := Scalar.muli v8 c1_i32_155
  let v183 : BitVec 32 := Scalar.addi v181 v182
  v183.toNat
def k0_dev12 (d0 : Dev nD) : Nat :=
  let c0_i32_170 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_169 : BitVec 32 := 4#32
  let v198 : BitVec 32 := Scalar.muli v2 c4_i32_169
  let v199 : BitVec 32 := Scalar.addi c0_i32_170 v198
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_171 : BitVec 32 := 2#32
  let v200 : BitVec 32 := Scalar.muli v5 c2_i32_171
  let v201 : BitVec 32 := Scalar.addi v199 v200
  let c1_i32_164 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v197 : BitVec 32 := Scalar.subi c1_i32_164 v8
  let c1_i32_172 : BitVec 32 := 1#32
  let v202 : BitVec 32 := Scalar.muli v197 c1_i32_172
  let v203 : BitVec 32 := Scalar.addi v201 v202
  v203.toNat
def k0_dev13 (d0 : Dev nD) : Nat :=
  let c0_i32_188 : BitVec 32 := 0#32
  let c1_i32_181 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v217 : BitVec 32 := Scalar.subi c1_i32_181 v2
  let c4_i32_187 : BitVec 32 := 4#32
  let v218 : BitVec 32 := Scalar.muli v217 c4_i32_187
  let v219 : BitVec 32 := Scalar.addi c0_i32_188 v218
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_189 : BitVec 32 := 2#32
  let v220 : BitVec 32 := Scalar.muli v5 c2_i32_189
  let v221 : BitVec 32 := Scalar.addi v219 v220
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_190 : BitVec 32 := 1#32
  let v222 : BitVec 32 := Scalar.muli v8 c1_i32_190
  let v223 : BitVec 32 := Scalar.addi v221 v222
  v223.toNat
def k0_dev14 (d0 : Dev nD) : Nat :=
  let c0_i32_205 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_204 : BitVec 32 := 4#32
  let v238 : BitVec 32 := Scalar.muli v2 c4_i32_204
  let v239 : BitVec 32 := Scalar.addi c0_i32_205 v238
  let c1_i32_199 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v237 : BitVec 32 := Scalar.subi c1_i32_199 v5
  let c2_i32_206 : BitVec 32 := 2#32
  let v240 : BitVec 32 := Scalar.muli v237 c2_i32_206
  let v241 : BitVec 32 := Scalar.addi v239 v240
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_207 : BitVec 32 := 1#32
  let v242 : BitVec 32 := Scalar.muli v8 c1_i32_207
  let v243 : BitVec 32 := Scalar.addi v241 v242
  v243.toNat
def k0_dev15 (d0 : Dev nD) : Nat :=
  let c0_i32_222 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_221 : BitVec 32 := 4#32
  let v258 : BitVec 32 := Scalar.muli v2 c4_i32_221
  let v259 : BitVec 32 := Scalar.addi c0_i32_222 v258
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_223 : BitVec 32 := 2#32
  let v260 : BitVec 32 := Scalar.muli v5 c2_i32_223
  let v261 : BitVec 32 := Scalar.addi v259 v260
  let c1_i32_216 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v257 : BitVec 32 := Scalar.subi c1_i32_216 v8
  let c1_i32_224 : BitVec 32 := 1#32
  let v262 : BitVec 32 := Scalar.muli v257 c1_i32_224
  let v263 : BitVec 32 := Scalar.addi v261 v262
  v263.toNat
def k0_dev16 (d0 : Dev nD) : Nat :=
  let c0_i32_240 : BitVec 32 := 0#32
  let c1_i32_233 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v277 : BitVec 32 := Scalar.subi c1_i32_233 v2
  let c4_i32_239 : BitVec 32 := 4#32
  let v278 : BitVec 32 := Scalar.muli v277 c4_i32_239
  let v279 : BitVec 32 := Scalar.addi c0_i32_240 v278
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_241 : BitVec 32 := 2#32
  let v280 : BitVec 32 := Scalar.muli v5 c2_i32_241
  let v281 : BitVec 32 := Scalar.addi v279 v280
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_242 : BitVec 32 := 1#32
  let v282 : BitVec 32 := Scalar.muli v8 c1_i32_242
  let v283 : BitVec 32 := Scalar.addi v281 v282
  v283.toNat
def k0_dev17 (d0 : Dev nD) : Nat :=
  let c0_i32_257 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_256 : BitVec 32 := 4#32
  let v298 : BitVec 32 := Scalar.muli v2 c4_i32_256
  let v299 : BitVec 32 := Scalar.addi c0_i32_257 v298
  let c1_i32_251 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v297 : BitVec 32 := Scalar.subi c1_i32_251 v5
  let c2_i32_258 : BitVec 32 := 2#32
  let v300 : BitVec 32 := Scalar.muli v297 c2_i32_258
  let v301 : BitVec 32 := Scalar.addi v299 v300
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_259 : BitVec 32 := 1#32
  let v302 : BitVec 32 := Scalar.muli v8 c1_i32_259
  let v303 : BitVec 32 := Scalar.addi v301 v302
  v303.toNat
def k0_dev18 (d0 : Dev nD) : Nat :=
  let c0_i32_274 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_273 : BitVec 32 := 4#32
  let v318 : BitVec 32 := Scalar.muli v2 c4_i32_273
  let v319 : BitVec 32 := Scalar.addi c0_i32_274 v318
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_275 : BitVec 32 := 2#32
  let v320 : BitVec 32 := Scalar.muli v5 c2_i32_275
  let v321 : BitVec 32 := Scalar.addi v319 v320
  let c1_i32_268 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v317 : BitVec 32 := Scalar.subi c1_i32_268 v8
  let c1_i32_276 : BitVec 32 := 1#32
  let v322 : BitVec 32 := Scalar.muli v317 c1_i32_276
  let v323 : BitVec 32 := Scalar.addi v321 v322
  v323.toNat
def k0_dev19 (d0 : Dev nD) : Nat :=
  let c0_i32_291 : BitVec 32 := 0#32
  let c1_i32_285 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v337 : BitVec 32 := Scalar.subi c1_i32_285 v2
  let c4_i32_290 : BitVec 32 := 4#32
  let v338 : BitVec 32 := Scalar.muli v337 c4_i32_290
  let v339 : BitVec 32 := Scalar.addi c0_i32_291 v338
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_292 : BitVec 32 := 2#32
  let v340 : BitVec 32 := Scalar.muli v5 c2_i32_292
  let v341 : BitVec 32 := Scalar.addi v339 v340
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_293 : BitVec 32 := 1#32
  let v342 : BitVec 32 := Scalar.muli v8 c1_i32_293
  let v343 : BitVec 32 := Scalar.addi v341 v342
  v343.toNat
def k0_off2 (d0 : Dev nD) (c0_i32_310 : BitVec 32) (c4_i32 : BitVec 32) (c2_i32_1 : BitVec 32) : Fin 2 → Nat :=
  let v0 : BitVec 32 := Dev.word d0
  let v1 : BitVec 32 := Scalar.divsi v0 c4_i32
  let c2_i32 : BitVec 32 := 2#32
  let v2 : BitVec 32 := Scalar.remsi v1 c2_i32
  let c32_i32_309 : BitVec 32 := 32#32
  let v362 : BitVec 32 := Scalar.muli v2 c32_i32_309
  let v363 : BitVec 32 := Scalar.addi c0_i32_310 v362
  let c1_i32_311 : BitVec 32 := 1#32
  let v3 : BitVec 32 := Dev.word d0
  let v4 : BitVec 32 := Scalar.divsi v3 c2_i32_1
  let c2_i32_0 : BitVec 32 := 2#32
  let v5 : BitVec 32 := Scalar.remsi v4 c2_i32_0
  let v364 : BitVec 32 := Scalar.subi c1_i32_311 v5
  let c16_i32 : BitVec 32 := 16#32
  let v365 : BitVec 32 := Scalar.muli v364 c16_i32
  let v367 : BitVec 32 := Scalar.addi v363 v365
  let v368 : Index := Scalar.indexCast v367
  let c0_313 : Index := 0#32
  ![v368.toNat, 0]
def k0_off2_at (r : Fin 16) : BitVec 32 × BitVec 32 × BitVec 32 :=
  if r.val < 8 then
    if r.val < 4 then
      if r.val < 2 then
        if r.val < 1 then
          (0#32, 4#32, 2#32)
        else
          (384#32, 2#32, 1#32)
      else
        if r.val < 3 then
          (704#32, 1#32, 4#32)
        else
          (64#32, 4#32, 2#32)
    else
      if r.val < 6 then
        if r.val < 5 then
          (448#32, 2#32, 1#32)
        else
          (768#32, 1#32, 4#32)
      else
        if r.val < 7 then
          (128#32, 4#32, 2#32)
        else
          (512#32, 2#32, 1#32)
  else
    if r.val < 12 then
      if r.val < 10 then
        if r.val < 9 then
          (832#32, 1#32, 4#32)
        else
          (192#32, 4#32, 2#32)
      else
        if r.val < 11 then
          (576#32, 2#32, 1#32)
        else
          (896#32, 1#32, 4#32)
    else
      if r.val < 14 then
        if r.val < 13 then
          (256#32, 4#32, 2#32)
        else
          (640#32, 2#32, 1#32)
      else
        if r.val < 15 then
          (960#32, 1#32, 4#32)
        else
          (320#32, 4#32, 2#32)
def k0_off3 (d0 : Dev nD) : Fin 3 → Nat :=
  let c0_315 : Index := 0#32
  let c0_i32_314 : BitVec 32 := 0#32
  let c1_i32_311 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v364 : BitVec 32 := Scalar.subi c1_i32_311 v5
  let c16_i32 : BitVec 32 := 16#32
  let v365 : BitVec 32 := Scalar.muli v364 c16_i32
  let v371 : BitVec 32 := Scalar.addi c0_i32_314 v365
  let v372 : Index := Scalar.indexCast v371
  let c0_316 : Index := 0#32
  ![0, v372.toNat, 0]
def k0_off4 (d0 : Dev nD) (c0_i32_310 : BitVec 32) (c4_i32 : BitVec 32) (c2_i32_1 : BitVec 32) : Fin 2 → Nat :=
  let v0 : BitVec 32 := Dev.word d0
  let v1 : BitVec 32 := Scalar.divsi v0 c4_i32
  let c2_i32 : BitVec 32 := 2#32
  let v2 : BitVec 32 := Scalar.remsi v1 c2_i32
  let c32_i32_309 : BitVec 32 := 32#32
  let v362 : BitVec 32 := Scalar.muli v2 c32_i32_309
  let v363 : BitVec 32 := Scalar.addi c0_i32_310 v362
  let c1_i32_318 : BitVec 32 := 1#32
  let v3 : BitVec 32 := Dev.word d0
  let v4 : BitVec 32 := Scalar.divsi v3 c2_i32_1
  let c2_i32_0 : BitVec 32 := 2#32
  let v5 : BitVec 32 := Scalar.remsi v4 c2_i32_0
  let v379 : BitVec 32 := Scalar.subi c1_i32_318 v5
  let c16_i32_319 : BitVec 32 := 16#32
  let v380 : BitVec 32 := Scalar.muli v379 c16_i32_319
  let v381 : BitVec 32 := Scalar.addi v363 v380
  let c0_i32_332 : BitVec 32 := 0#32
  ![v381.toNat, 0]
def k0_off4_at (r : Fin 16) : BitVec 32 × BitVec 32 × BitVec 32 :=
  if r.val < 8 then
    if r.val < 4 then
      if r.val < 2 then
        if r.val < 1 then
          (0#32, 4#32, 2#32)
        else
          (384#32, 2#32, 1#32)
      else
        if r.val < 3 then
          (704#32, 1#32, 4#32)
        else
          (64#32, 4#32, 2#32)
    else
      if r.val < 6 then
        if r.val < 5 then
          (448#32, 2#32, 1#32)
        else
          (768#32, 1#32, 4#32)
      else
        if r.val < 7 then
          (128#32, 4#32, 2#32)
        else
          (512#32, 2#32, 1#32)
  else
    if r.val < 12 then
      if r.val < 10 then
        if r.val < 9 then
          (832#32, 1#32, 4#32)
        else
          (192#32, 4#32, 2#32)
      else
        if r.val < 11 then
          (576#32, 2#32, 1#32)
        else
          (896#32, 1#32, 4#32)
    else
      if r.val < 14 then
        if r.val < 13 then
          (256#32, 4#32, 2#32)
        else
          (640#32, 2#32, 1#32)
      else
        if r.val < 15 then
          (960#32, 1#32, 4#32)
        else
          (320#32, 4#32, 2#32)
def k0_dev20 (d0 : Dev nD) : Nat :=
  let c0_i32_327 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_326 : BitVec 32 := 4#32
  let v383 : BitVec 32 := Scalar.muli v2 c4_i32_326
  let v384 : BitVec 32 := Scalar.addi c0_i32_327 v383
  let c1_i32_320 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v382 : BitVec 32 := Scalar.subi c1_i32_320 v5
  let c2_i32_328 : BitVec 32 := 2#32
  let v385 : BitVec 32 := Scalar.muli v382 c2_i32_328
  let v386 : BitVec 32 := Scalar.addi v384 v385
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_329 : BitVec 32 := 1#32
  let v387 : BitVec 32 := Scalar.muli v8 c1_i32_329
  let v388 : BitVec 32 := Scalar.addi v386 v387
  v388.toNat
def k0_off5 (d0 : Dev nD) (c0_i32_310 : BitVec 32) (c4_i32 : BitVec 32) (c2_i32_1 : BitVec 32) : Fin 2 → Nat :=
  let v0 : BitVec 32 := Dev.word d0
  let v1 : BitVec 32 := Scalar.divsi v0 c4_i32
  let c2_i32 : BitVec 32 := 2#32
  let v2 : BitVec 32 := Scalar.remsi v1 c2_i32
  let c32_i32_309 : BitVec 32 := 32#32
  let v362 : BitVec 32 := Scalar.muli v2 c32_i32_309
  let v363 : BitVec 32 := Scalar.addi c0_i32_310 v362
  let v3 : BitVec 32 := Dev.word d0
  let v4 : BitVec 32 := Scalar.divsi v3 c2_i32_1
  let c2_i32_0 : BitVec 32 := 2#32
  let v5 : BitVec 32 := Scalar.remsi v4 c2_i32_0
  let c16_i32_312 : BitVec 32 := 16#32
  let v366 : BitVec 32 := Scalar.muli v5 c16_i32_312
  let v396 : BitVec 32 := Scalar.addi v363 v366
  let v397 : Index := Scalar.indexCast v396
  let c0_333 : Index := 0#32
  ![v397.toNat, 0]
def k0_off5_at (r : Fin 16) : BitVec 32 × BitVec 32 × BitVec 32 :=
  if r.val < 8 then
    if r.val < 4 then
      if r.val < 2 then
        if r.val < 1 then
          (0#32, 4#32, 2#32)
        else
          (384#32, 2#32, 1#32)
      else
        if r.val < 3 then
          (704#32, 1#32, 4#32)
        else
          (64#32, 4#32, 2#32)
    else
      if r.val < 6 then
        if r.val < 5 then
          (448#32, 2#32, 1#32)
        else
          (768#32, 1#32, 4#32)
      else
        if r.val < 7 then
          (128#32, 4#32, 2#32)
        else
          (512#32, 2#32, 1#32)
  else
    if r.val < 12 then
      if r.val < 10 then
        if r.val < 9 then
          (832#32, 1#32, 4#32)
        else
          (192#32, 4#32, 2#32)
      else
        if r.val < 11 then
          (576#32, 2#32, 1#32)
        else
          (896#32, 1#32, 4#32)
    else
      if r.val < 14 then
        if r.val < 13 then
          (256#32, 4#32, 2#32)
        else
          (640#32, 2#32, 1#32)
      else
        if r.val < 15 then
          (960#32, 1#32, 4#32)
        else
          (320#32, 4#32, 2#32)
def k0_off6 (d0 : Dev nD) : Fin 3 → Nat :=
  let c0_335 : Index := 0#32
  let c0_i32_334 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c16_i32_312 : BitVec 32 := 16#32
  let v366 : BitVec 32 := Scalar.muli v5 c16_i32_312
  let v400 : BitVec 32 := Scalar.addi c0_i32_334 v366
  let v401 : Index := Scalar.indexCast v400
  let c0_336 : Index := 0#32
  ![0, v401.toNat, 0]
def k0_off7 (d0 : Dev nD) : Fin 3 → Nat :=
  let c6 : Index := 6#32
  let c0_i32_356 : BitVec 32 := 0#32
  let c1_i32_352 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v421 : BitVec 32 := Scalar.subi c1_i32_352 v8
  let c16_i32_353 : BitVec 32 := 16#32
  let v422 : BitVec 32 := Scalar.muli v421 c16_i32_353
  let v428 : BitVec 32 := Scalar.addi c0_i32_356 v422
  let v429 : Index := Scalar.indexCast v428
  let c0_357 : Index := 0#32
  ![6, v429.toNat, 0]
def k0_dev21 (d0 : Dev nD) : Nat :=
  let c0_i32_368 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_367 : BitVec 32 := 4#32
  let v440 : BitVec 32 := Scalar.muli v2 c4_i32_367
  let v441 : BitVec 32 := Scalar.addi c0_i32_368 v440
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_369 : BitVec 32 := 2#32
  let v442 : BitVec 32 := Scalar.muli v5 c2_i32_369
  let v443 : BitVec 32 := Scalar.addi v441 v442
  let c1_i32_361 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v439 : BitVec 32 := Scalar.subi c1_i32_361 v8
  let c1_i32_370 : BitVec 32 := 1#32
  let v444 : BitVec 32 := Scalar.muli v439 c1_i32_370
  let v445 : BitVec 32 := Scalar.addi v443 v444
  v445.toNat
def k0_off8 (d0 : Dev nD) : Fin 3 → Nat :=
  let c6_376 : Index := 6#32
  let c0_i32_375 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16_i32_354 : BitVec 32 := 16#32
  let v423 : BitVec 32 := Scalar.muli v8 c16_i32_354
  let v457 : BitVec 32 := Scalar.addi c0_i32_375 v423
  let v458 : Index := Scalar.indexCast v457
  let c0_377 : Index := 0#32
  ![6, v458.toNat, 0]
def k0_off9 (d0 : Dev nD) : Fin 3 → Nat :=
  let c11 : Index := 11#32
  let c0_i32_397 : BitVec 32 := 0#32
  let c1_i32_393 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v478 : BitVec 32 := Scalar.subi c1_i32_393 v2
  let c16_i32_394 : BitVec 32 := 16#32
  let v479 : BitVec 32 := Scalar.muli v478 c16_i32_394
  let v485 : BitVec 32 := Scalar.addi c0_i32_397 v479
  let v486 : Index := Scalar.indexCast v485
  let c0_398 : Index := 0#32
  ![11, v486.toNat, 0]
def k0_dev22 (d0 : Dev nD) : Nat :=
  let c0_i32_409 : BitVec 32 := 0#32
  let c1_i32_402 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v496 : BitVec 32 := Scalar.subi c1_i32_402 v2
  let c4_i32_408 : BitVec 32 := 4#32
  let v497 : BitVec 32 := Scalar.muli v496 c4_i32_408
  let v498 : BitVec 32 := Scalar.addi c0_i32_409 v497
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_410 : BitVec 32 := 2#32
  let v499 : BitVec 32 := Scalar.muli v5 c2_i32_410
  let v500 : BitVec 32 := Scalar.addi v498 v499
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_411 : BitVec 32 := 1#32
  let v501 : BitVec 32 := Scalar.muli v8 c1_i32_411
  let v502 : BitVec 32 := Scalar.addi v500 v501
  v502.toNat
def k0_off10 (d0 : Dev nD) : Fin 3 → Nat :=
  let c11_417 : Index := 11#32
  let c0_i32_416 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c16_i32_395 : BitVec 32 := 16#32
  let v480 : BitVec 32 := Scalar.muli v2 c16_i32_395
  let v514 : BitVec 32 := Scalar.addi c0_i32_416 v480
  let v515 : Index := Scalar.indexCast v514
  let c0_418 : Index := 0#32
  ![11, v515.toNat, 0]
def k0_off11 (d0 : Dev nD) : Fin 3 → Nat :=
  let c1 : Index := 1#32
  let c0_i32_438 : BitVec 32 := 0#32
  let c1_i32_434 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v535 : BitVec 32 := Scalar.subi c1_i32_434 v5
  let c16_i32_435 : BitVec 32 := 16#32
  let v536 : BitVec 32 := Scalar.muli v535 c16_i32_435
  let v542 : BitVec 32 := Scalar.addi c0_i32_438 v536
  let v543 : Index := Scalar.indexCast v542
  let c0_439 : Index := 0#32
  ![1, v543.toNat, 0]
def k0_dev23 (d0 : Dev nD) : Nat :=
  let c0_i32_450 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_449 : BitVec 32 := 4#32
  let v554 : BitVec 32 := Scalar.muli v2 c4_i32_449
  let v555 : BitVec 32 := Scalar.addi c0_i32_450 v554
  let c1_i32_443 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v553 : BitVec 32 := Scalar.subi c1_i32_443 v5
  let c2_i32_451 : BitVec 32 := 2#32
  let v556 : BitVec 32 := Scalar.muli v553 c2_i32_451
  let v557 : BitVec 32 := Scalar.addi v555 v556
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_452 : BitVec 32 := 1#32
  let v558 : BitVec 32 := Scalar.muli v8 c1_i32_452
  let v559 : BitVec 32 := Scalar.addi v557 v558
  v559.toNat
def k0_off12 (d0 : Dev nD) : Fin 3 → Nat :=
  let c1_458 : Index := 1#32
  let c0_i32_457 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c16_i32_436 : BitVec 32 := 16#32
  let v537 : BitVec 32 := Scalar.muli v5 c16_i32_436
  let v571 : BitVec 32 := Scalar.addi c0_i32_457 v537
  let v572 : Index := Scalar.indexCast v571
  let c0_459 : Index := 0#32
  ![1, v572.toNat, 0]
def k0_off13 (d0 : Dev nD) : Fin 3 → Nat :=
  let c7 : Index := 7#32
  let c0_i32_479 : BitVec 32 := 0#32
  let c1_i32_475 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v592 : BitVec 32 := Scalar.subi c1_i32_475 v8
  let c16_i32_476 : BitVec 32 := 16#32
  let v593 : BitVec 32 := Scalar.muli v592 c16_i32_476
  let v599 : BitVec 32 := Scalar.addi c0_i32_479 v593
  let v600 : Index := Scalar.indexCast v599
  let c0_480 : Index := 0#32
  ![7, v600.toNat, 0]
def k0_dev24 (d0 : Dev nD) : Nat :=
  let c0_i32_491 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_490 : BitVec 32 := 4#32
  let v611 : BitVec 32 := Scalar.muli v2 c4_i32_490
  let v612 : BitVec 32 := Scalar.addi c0_i32_491 v611
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_492 : BitVec 32 := 2#32
  let v613 : BitVec 32 := Scalar.muli v5 c2_i32_492
  let v614 : BitVec 32 := Scalar.addi v612 v613
  let c1_i32_484 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v610 : BitVec 32 := Scalar.subi c1_i32_484 v8
  let c1_i32_493 : BitVec 32 := 1#32
  let v615 : BitVec 32 := Scalar.muli v610 c1_i32_493
  let v616 : BitVec 32 := Scalar.addi v614 v615
  v616.toNat
def k0_off14 (d0 : Dev nD) : Fin 3 → Nat :=
  let c7_499 : Index := 7#32
  let c0_i32_498 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16_i32_477 : BitVec 32 := 16#32
  let v594 : BitVec 32 := Scalar.muli v8 c16_i32_477
  let v628 : BitVec 32 := Scalar.addi c0_i32_498 v594
  let v629 : Index := Scalar.indexCast v628
  let c0_500 : Index := 0#32
  ![7, v629.toNat, 0]
def k0_off15 (d0 : Dev nD) : Fin 3 → Nat :=
  let c12 : Index := 12#32
  let c0_i32_520 : BitVec 32 := 0#32
  let c1_i32_516 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v649 : BitVec 32 := Scalar.subi c1_i32_516 v2
  let c16_i32_517 : BitVec 32 := 16#32
  let v650 : BitVec 32 := Scalar.muli v649 c16_i32_517
  let v656 : BitVec 32 := Scalar.addi c0_i32_520 v650
  let v657 : Index := Scalar.indexCast v656
  let c0_521 : Index := 0#32
  ![12, v657.toNat, 0]
def k0_dev25 (d0 : Dev nD) : Nat :=
  let c0_i32_532 : BitVec 32 := 0#32
  let c1_i32_525 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v667 : BitVec 32 := Scalar.subi c1_i32_525 v2
  let c4_i32_531 : BitVec 32 := 4#32
  let v668 : BitVec 32 := Scalar.muli v667 c4_i32_531
  let v669 : BitVec 32 := Scalar.addi c0_i32_532 v668
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_533 : BitVec 32 := 2#32
  let v670 : BitVec 32 := Scalar.muli v5 c2_i32_533
  let v671 : BitVec 32 := Scalar.addi v669 v670
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_534 : BitVec 32 := 1#32
  let v672 : BitVec 32 := Scalar.muli v8 c1_i32_534
  let v673 : BitVec 32 := Scalar.addi v671 v672
  v673.toNat
def k0_off16 (d0 : Dev nD) : Fin 3 → Nat :=
  let c12_540 : Index := 12#32
  let c0_i32_539 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c16_i32_518 : BitVec 32 := 16#32
  let v651 : BitVec 32 := Scalar.muli v2 c16_i32_518
  let v685 : BitVec 32 := Scalar.addi c0_i32_539 v651
  let v686 : Index := Scalar.indexCast v685
  let c0_541 : Index := 0#32
  ![12, v686.toNat, 0]
def k0_off17 (d0 : Dev nD) : Fin 3 → Nat :=
  let c2 : Index := 2#32
  let c0_i32_561 : BitVec 32 := 0#32
  let c1_i32_557 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v706 : BitVec 32 := Scalar.subi c1_i32_557 v5
  let c16_i32_558 : BitVec 32 := 16#32
  let v707 : BitVec 32 := Scalar.muli v706 c16_i32_558
  let v713 : BitVec 32 := Scalar.addi c0_i32_561 v707
  let v714 : Index := Scalar.indexCast v713
  let c0_562 : Index := 0#32
  ![2, v714.toNat, 0]
def k0_dev26 (d0 : Dev nD) : Nat :=
  let c0_i32_573 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_572 : BitVec 32 := 4#32
  let v725 : BitVec 32 := Scalar.muli v2 c4_i32_572
  let v726 : BitVec 32 := Scalar.addi c0_i32_573 v725
  let c1_i32_566 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v724 : BitVec 32 := Scalar.subi c1_i32_566 v5
  let c2_i32_574 : BitVec 32 := 2#32
  let v727 : BitVec 32 := Scalar.muli v724 c2_i32_574
  let v728 : BitVec 32 := Scalar.addi v726 v727
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_575 : BitVec 32 := 1#32
  let v729 : BitVec 32 := Scalar.muli v8 c1_i32_575
  let v730 : BitVec 32 := Scalar.addi v728 v729
  v730.toNat
def k0_off18 (d0 : Dev nD) : Fin 3 → Nat :=
  let c2_581 : Index := 2#32
  let c0_i32_580 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c16_i32_559 : BitVec 32 := 16#32
  let v708 : BitVec 32 := Scalar.muli v5 c16_i32_559
  let v742 : BitVec 32 := Scalar.addi c0_i32_580 v708
  let v743 : Index := Scalar.indexCast v742
  let c0_582 : Index := 0#32
  ![2, v743.toNat, 0]
def k0_off19 (d0 : Dev nD) : Fin 3 → Nat :=
  let c8 : Index := 8#32
  let c0_i32_602 : BitVec 32 := 0#32
  let c1_i32_598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v763 : BitVec 32 := Scalar.subi c1_i32_598 v8
  let c16_i32_599 : BitVec 32 := 16#32
  let v764 : BitVec 32 := Scalar.muli v763 c16_i32_599
  let v770 : BitVec 32 := Scalar.addi c0_i32_602 v764
  let v771 : Index := Scalar.indexCast v770
  let c0_603 : Index := 0#32
  ![8, v771.toNat, 0]
def k0_dev27 (d0 : Dev nD) : Nat :=
  let c0_i32_614 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_613 : BitVec 32 := 4#32
  let v782 : BitVec 32 := Scalar.muli v2 c4_i32_613
  let v783 : BitVec 32 := Scalar.addi c0_i32_614 v782
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_615 : BitVec 32 := 2#32
  let v784 : BitVec 32 := Scalar.muli v5 c2_i32_615
  let v785 : BitVec 32 := Scalar.addi v783 v784
  let c1_i32_607 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v781 : BitVec 32 := Scalar.subi c1_i32_607 v8
  let c1_i32_616 : BitVec 32 := 1#32
  let v786 : BitVec 32 := Scalar.muli v781 c1_i32_616
  let v787 : BitVec 32 := Scalar.addi v785 v786
  v787.toNat
def k0_off20 (d0 : Dev nD) : Fin 3 → Nat :=
  let c8_622 : Index := 8#32
  let c0_i32_621 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16_i32_600 : BitVec 32 := 16#32
  let v765 : BitVec 32 := Scalar.muli v8 c16_i32_600
  let v799 : BitVec 32 := Scalar.addi c0_i32_621 v765
  let v800 : Index := Scalar.indexCast v799
  let c0_623 : Index := 0#32
  ![8, v800.toNat, 0]
def k0_off21 (d0 : Dev nD) : Fin 3 → Nat :=
  let c13 : Index := 13#32
  let c0_i32_643 : BitVec 32 := 0#32
  let c1_i32_639 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v820 : BitVec 32 := Scalar.subi c1_i32_639 v2
  let c16_i32_640 : BitVec 32 := 16#32
  let v821 : BitVec 32 := Scalar.muli v820 c16_i32_640
  let v827 : BitVec 32 := Scalar.addi c0_i32_643 v821
  let v828 : Index := Scalar.indexCast v827
  let c0_644 : Index := 0#32
  ![13, v828.toNat, 0]
def k0_dev28 (d0 : Dev nD) : Nat :=
  let c0_i32_655 : BitVec 32 := 0#32
  let c1_i32_648 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v838 : BitVec 32 := Scalar.subi c1_i32_648 v2
  let c4_i32_654 : BitVec 32 := 4#32
  let v839 : BitVec 32 := Scalar.muli v838 c4_i32_654
  let v840 : BitVec 32 := Scalar.addi c0_i32_655 v839
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_656 : BitVec 32 := 2#32
  let v841 : BitVec 32 := Scalar.muli v5 c2_i32_656
  let v842 : BitVec 32 := Scalar.addi v840 v841
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_657 : BitVec 32 := 1#32
  let v843 : BitVec 32 := Scalar.muli v8 c1_i32_657
  let v844 : BitVec 32 := Scalar.addi v842 v843
  v844.toNat
def k0_off22 (d0 : Dev nD) : Fin 3 → Nat :=
  let c13_663 : Index := 13#32
  let c0_i32_662 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c16_i32_641 : BitVec 32 := 16#32
  let v822 : BitVec 32 := Scalar.muli v2 c16_i32_641
  let v856 : BitVec 32 := Scalar.addi c0_i32_662 v822
  let v857 : Index := Scalar.indexCast v856
  let c0_664 : Index := 0#32
  ![13, v857.toNat, 0]
def k0_off23 (d0 : Dev nD) : Fin 3 → Nat :=
  let c3 : Index := 3#32
  let c0_i32_684 : BitVec 32 := 0#32
  let c1_i32_680 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v877 : BitVec 32 := Scalar.subi c1_i32_680 v5
  let c16_i32_681 : BitVec 32 := 16#32
  let v878 : BitVec 32 := Scalar.muli v877 c16_i32_681
  let v884 : BitVec 32 := Scalar.addi c0_i32_684 v878
  let v885 : Index := Scalar.indexCast v884
  let c0_685 : Index := 0#32
  ![3, v885.toNat, 0]
def k0_dev29 (d0 : Dev nD) : Nat :=
  let c0_i32_696 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_695 : BitVec 32 := 4#32
  let v896 : BitVec 32 := Scalar.muli v2 c4_i32_695
  let v897 : BitVec 32 := Scalar.addi c0_i32_696 v896
  let c1_i32_689 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v895 : BitVec 32 := Scalar.subi c1_i32_689 v5
  let c2_i32_697 : BitVec 32 := 2#32
  let v898 : BitVec 32 := Scalar.muli v895 c2_i32_697
  let v899 : BitVec 32 := Scalar.addi v897 v898
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_698 : BitVec 32 := 1#32
  let v900 : BitVec 32 := Scalar.muli v8 c1_i32_698
  let v901 : BitVec 32 := Scalar.addi v899 v900
  v901.toNat
def k0_off24 (d0 : Dev nD) : Fin 3 → Nat :=
  let c3_704 : Index := 3#32
  let c0_i32_703 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c16_i32_682 : BitVec 32 := 16#32
  let v879 : BitVec 32 := Scalar.muli v5 c16_i32_682
  let v913 : BitVec 32 := Scalar.addi c0_i32_703 v879
  let v914 : Index := Scalar.indexCast v913
  let c0_705 : Index := 0#32
  ![3, v914.toNat, 0]
def k0_off25 (d0 : Dev nD) : Fin 3 → Nat :=
  let c9 : Index := 9#32
  let c0_i32_725 : BitVec 32 := 0#32
  let c1_i32_721 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v934 : BitVec 32 := Scalar.subi c1_i32_721 v8
  let c16_i32_722 : BitVec 32 := 16#32
  let v935 : BitVec 32 := Scalar.muli v934 c16_i32_722
  let v941 : BitVec 32 := Scalar.addi c0_i32_725 v935
  let v942 : Index := Scalar.indexCast v941
  let c0_726 : Index := 0#32
  ![9, v942.toNat, 0]
def k0_dev30 (d0 : Dev nD) : Nat :=
  let c0_i32_737 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_736 : BitVec 32 := 4#32
  let v953 : BitVec 32 := Scalar.muli v2 c4_i32_736
  let v954 : BitVec 32 := Scalar.addi c0_i32_737 v953
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_738 : BitVec 32 := 2#32
  let v955 : BitVec 32 := Scalar.muli v5 c2_i32_738
  let v956 : BitVec 32 := Scalar.addi v954 v955
  let c1_i32_730 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v952 : BitVec 32 := Scalar.subi c1_i32_730 v8
  let c1_i32_739 : BitVec 32 := 1#32
  let v957 : BitVec 32 := Scalar.muli v952 c1_i32_739
  let v958 : BitVec 32 := Scalar.addi v956 v957
  v958.toNat
def k0_off26 (d0 : Dev nD) : Fin 3 → Nat :=
  let c9_745 : Index := 9#32
  let c0_i32_744 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16_i32_723 : BitVec 32 := 16#32
  let v936 : BitVec 32 := Scalar.muli v8 c16_i32_723
  let v970 : BitVec 32 := Scalar.addi c0_i32_744 v936
  let v971 : Index := Scalar.indexCast v970
  let c0_746 : Index := 0#32
  ![9, v971.toNat, 0]
def k0_off27 (d0 : Dev nD) : Fin 3 → Nat :=
  let c14 : Index := 14#32
  let c0_i32_766 : BitVec 32 := 0#32
  let c1_i32_762 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v991 : BitVec 32 := Scalar.subi c1_i32_762 v2
  let c16_i32_763 : BitVec 32 := 16#32
  let v992 : BitVec 32 := Scalar.muli v991 c16_i32_763
  let v998 : BitVec 32 := Scalar.addi c0_i32_766 v992
  let v999 : Index := Scalar.indexCast v998
  let c0_767 : Index := 0#32
  ![14, v999.toNat, 0]
def k0_dev31 (d0 : Dev nD) : Nat :=
  let c0_i32_778 : BitVec 32 := 0#32
  let c1_i32_771 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1009 : BitVec 32 := Scalar.subi c1_i32_771 v2
  let c4_i32_777 : BitVec 32 := 4#32
  let v1010 : BitVec 32 := Scalar.muli v1009 c4_i32_777
  let v1011 : BitVec 32 := Scalar.addi c0_i32_778 v1010
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_779 : BitVec 32 := 2#32
  let v1012 : BitVec 32 := Scalar.muli v5 c2_i32_779
  let v1013 : BitVec 32 := Scalar.addi v1011 v1012
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_780 : BitVec 32 := 1#32
  let v1014 : BitVec 32 := Scalar.muli v8 c1_i32_780
  let v1015 : BitVec 32 := Scalar.addi v1013 v1014
  v1015.toNat
def k0_off28 (d0 : Dev nD) : Fin 3 → Nat :=
  let c14_786 : Index := 14#32
  let c0_i32_785 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c16_i32_764 : BitVec 32 := 16#32
  let v993 : BitVec 32 := Scalar.muli v2 c16_i32_764
  let v1027 : BitVec 32 := Scalar.addi c0_i32_785 v993
  let v1028 : Index := Scalar.indexCast v1027
  let c0_787 : Index := 0#32
  ![14, v1028.toNat, 0]
def k0_off29 (d0 : Dev nD) : Fin 3 → Nat :=
  let c4 : Index := 4#32
  let c0_i32_807 : BitVec 32 := 0#32
  let c1_i32_803 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1048 : BitVec 32 := Scalar.subi c1_i32_803 v5
  let c16_i32_804 : BitVec 32 := 16#32
  let v1049 : BitVec 32 := Scalar.muli v1048 c16_i32_804
  let v1055 : BitVec 32 := Scalar.addi c0_i32_807 v1049
  let v1056 : Index := Scalar.indexCast v1055
  let c0_808 : Index := 0#32
  ![4, v1056.toNat, 0]
def k0_dev32 (d0 : Dev nD) : Nat :=
  let c0_i32_819 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_818 : BitVec 32 := 4#32
  let v1067 : BitVec 32 := Scalar.muli v2 c4_i32_818
  let v1068 : BitVec 32 := Scalar.addi c0_i32_819 v1067
  let c1_i32_812 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1066 : BitVec 32 := Scalar.subi c1_i32_812 v5
  let c2_i32_820 : BitVec 32 := 2#32
  let v1069 : BitVec 32 := Scalar.muli v1066 c2_i32_820
  let v1070 : BitVec 32 := Scalar.addi v1068 v1069
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_821 : BitVec 32 := 1#32
  let v1071 : BitVec 32 := Scalar.muli v8 c1_i32_821
  let v1072 : BitVec 32 := Scalar.addi v1070 v1071
  v1072.toNat
def k0_off30 (d0 : Dev nD) : Fin 3 → Nat :=
  let c4_827 : Index := 4#32
  let c0_i32_826 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c16_i32_805 : BitVec 32 := 16#32
  let v1050 : BitVec 32 := Scalar.muli v5 c16_i32_805
  let v1084 : BitVec 32 := Scalar.addi c0_i32_826 v1050
  let v1085 : Index := Scalar.indexCast v1084
  let c0_828 : Index := 0#32
  ![4, v1085.toNat, 0]
def k0_off31 (d0 : Dev nD) : Fin 3 → Nat :=
  let c10 : Index := 10#32
  let c0_i32_848 : BitVec 32 := 0#32
  let c1_i32_844 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1105 : BitVec 32 := Scalar.subi c1_i32_844 v8
  let c16_i32_845 : BitVec 32 := 16#32
  let v1106 : BitVec 32 := Scalar.muli v1105 c16_i32_845
  let v1112 : BitVec 32 := Scalar.addi c0_i32_848 v1106
  let v1113 : Index := Scalar.indexCast v1112
  let c0_849 : Index := 0#32
  ![10, v1113.toNat, 0]
def k0_dev33 (d0 : Dev nD) : Nat :=
  let c0_i32_860 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_859 : BitVec 32 := 4#32
  let v1124 : BitVec 32 := Scalar.muli v2 c4_i32_859
  let v1125 : BitVec 32 := Scalar.addi c0_i32_860 v1124
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_861 : BitVec 32 := 2#32
  let v1126 : BitVec 32 := Scalar.muli v5 c2_i32_861
  let v1127 : BitVec 32 := Scalar.addi v1125 v1126
  let c1_i32_853 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1123 : BitVec 32 := Scalar.subi c1_i32_853 v8
  let c1_i32_862 : BitVec 32 := 1#32
  let v1128 : BitVec 32 := Scalar.muli v1123 c1_i32_862
  let v1129 : BitVec 32 := Scalar.addi v1127 v1128
  v1129.toNat
def k0_off32 (d0 : Dev nD) : Fin 3 → Nat :=
  let c10_868 : Index := 10#32
  let c0_i32_867 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16_i32_846 : BitVec 32 := 16#32
  let v1107 : BitVec 32 := Scalar.muli v8 c16_i32_846
  let v1141 : BitVec 32 := Scalar.addi c0_i32_867 v1107
  let v1142 : Index := Scalar.indexCast v1141
  let c0_869 : Index := 0#32
  ![10, v1142.toNat, 0]
def k0_off33 (d0 : Dev nD) : Fin 3 → Nat :=
  let c15 : Index := 15#32
  let c0_i32_889 : BitVec 32 := 0#32
  let c1_i32_885 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1162 : BitVec 32 := Scalar.subi c1_i32_885 v2
  let c16_i32_886 : BitVec 32 := 16#32
  let v1163 : BitVec 32 := Scalar.muli v1162 c16_i32_886
  let v1169 : BitVec 32 := Scalar.addi c0_i32_889 v1163
  let v1170 : Index := Scalar.indexCast v1169
  let c0_890 : Index := 0#32
  ![15, v1170.toNat, 0]
def k0_dev34 (d0 : Dev nD) : Nat :=
  let c0_i32_901 : BitVec 32 := 0#32
  let c1_i32_894 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1180 : BitVec 32 := Scalar.subi c1_i32_894 v2
  let c4_i32_900 : BitVec 32 := 4#32
  let v1181 : BitVec 32 := Scalar.muli v1180 c4_i32_900
  let v1182 : BitVec 32 := Scalar.addi c0_i32_901 v1181
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_902 : BitVec 32 := 2#32
  let v1183 : BitVec 32 := Scalar.muli v5 c2_i32_902
  let v1184 : BitVec 32 := Scalar.addi v1182 v1183
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_903 : BitVec 32 := 1#32
  let v1185 : BitVec 32 := Scalar.muli v8 c1_i32_903
  let v1186 : BitVec 32 := Scalar.addi v1184 v1185
  v1186.toNat
def k0_off34 (d0 : Dev nD) : Fin 3 → Nat :=
  let c15_909 : Index := 15#32
  let c0_i32_908 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c16_i32_887 : BitVec 32 := 16#32
  let v1164 : BitVec 32 := Scalar.muli v2 c16_i32_887
  let v1198 : BitVec 32 := Scalar.addi c0_i32_908 v1164
  let v1199 : Index := Scalar.indexCast v1198
  let c0_910 : Index := 0#32
  ![15, v1199.toNat, 0]
def k0_off35 (d0 : Dev nD) : Fin 3 → Nat :=
  let c5 : Index := 5#32
  let c0_i32_930 : BitVec 32 := 0#32
  let c1_i32_926 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1219 : BitVec 32 := Scalar.subi c1_i32_926 v5
  let c16_i32_927 : BitVec 32 := 16#32
  let v1220 : BitVec 32 := Scalar.muli v1219 c16_i32_927
  let v1226 : BitVec 32 := Scalar.addi c0_i32_930 v1220
  let v1227 : Index := Scalar.indexCast v1226
  let c0_931 : Index := 0#32
  ![5, v1227.toNat, 0]
def k0_dev35 (d0 : Dev nD) : Nat :=
  let c0_i32_942 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_941 : BitVec 32 := 4#32
  let v1238 : BitVec 32 := Scalar.muli v2 c4_i32_941
  let v1239 : BitVec 32 := Scalar.addi c0_i32_942 v1238
  let c1_i32_935 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1237 : BitVec 32 := Scalar.subi c1_i32_935 v5
  let c2_i32_943 : BitVec 32 := 2#32
  let v1240 : BitVec 32 := Scalar.muli v1237 c2_i32_943
  let v1241 : BitVec 32 := Scalar.addi v1239 v1240
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_944 : BitVec 32 := 1#32
  let v1242 : BitVec 32 := Scalar.muli v8 c1_i32_944
  let v1243 : BitVec 32 := Scalar.addi v1241 v1242
  v1243.toNat
def k0_off36 (d0 : Dev nD) : Fin 3 → Nat :=
  let c5_950 : Index := 5#32
  let c0_i32_949 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c16_i32_928 : BitVec 32 := 16#32
  let v1221 : BitVec 32 := Scalar.muli v5 c16_i32_928
  let v1255 : BitVec 32 := Scalar.addi c0_i32_949 v1221
  let v1256 : Index := Scalar.indexCast v1255
  let c0_951 : Index := 0#32
  ![5, v1256.toNat, 0]
def k0_off37 (d0 : Dev nD) (c0_i32_310 : BitVec 32) (c4_i32 : BitVec 32) (c2_i32_1 : BitVec 32) (c1_i32 : BitVec 32) : Fin 2 → Nat :=
  let v0 : BitVec 32 := Dev.word d0
  let v1 : BitVec 32 := Scalar.divsi v0 c4_i32
  let c2_i32 : BitVec 32 := 2#32
  let v2 : BitVec 32 := Scalar.remsi v1 c2_i32
  let c32_i32_309 : BitVec 32 := 32#32
  let v362 : BitVec 32 := Scalar.muli v2 c32_i32_309
  let v363 : BitVec 32 := Scalar.addi c0_i32_310 v362
  let v3 : BitVec 32 := Dev.word d0
  let v4 : BitVec 32 := Scalar.divsi v3 c2_i32_1
  let c2_i32_0 : BitVec 32 := 2#32
  let v5 : BitVec 32 := Scalar.remsi v4 c2_i32_0
  let c16_i32_965 : BitVec 32 := 16#32
  let v1274 : BitVec 32 := Scalar.muli v5 c16_i32_965
  let v1275 : BitVec 32 := Scalar.addi v363 v1274
  let c1_i32_966 : BitVec 32 := 1#32
  let v6 : BitVec 32 := Dev.word d0
  let v7 : BitVec 32 := Scalar.divsi v6 c1_i32
  let c2_i32_2 : BitVec 32 := 2#32
  let v8 : BitVec 32 := Scalar.remsi v7 c2_i32_2
  let v1276 : BitVec 32 := Scalar.subi c1_i32_966 v8
  let c8_i32_967 : BitVec 32 := 8#32
  let v1277 : BitVec 32 := Scalar.muli v1276 c8_i32_967
  let v1279 : BitVec 32 := Scalar.addi v1275 v1277
  let v1280 : Index := Scalar.indexCast v1279
  let c0_969 : Index := 0#32
  ![v1280.toNat, 0]
def k0_off37_at (r : Fin 16) : BitVec 32 × BitVec 32 × BitVec 32 × BitVec 32 :=
  if r.val < 8 then
    if r.val < 4 then
      if r.val < 2 then
        if r.val < 1 then
          (0#32, 4#32, 2#32, 1#32)
        else
          (384#32, 2#32, 1#32, 4#32)
      else
        if r.val < 3 then
          (704#32, 1#32, 4#32, 2#32)
        else
          (64#32, 4#32, 2#32, 1#32)
    else
      if r.val < 6 then
        if r.val < 5 then
          (448#32, 2#32, 1#32, 4#32)
        else
          (768#32, 1#32, 4#32, 2#32)
      else
        if r.val < 7 then
          (128#32, 4#32, 2#32, 1#32)
        else
          (512#32, 2#32, 1#32, 4#32)
  else
    if r.val < 12 then
      if r.val < 10 then
        if r.val < 9 then
          (832#32, 1#32, 4#32, 2#32)
        else
          (192#32, 4#32, 2#32, 1#32)
      else
        if r.val < 11 then
          (576#32, 2#32, 1#32, 4#32)
        else
          (896#32, 1#32, 4#32, 2#32)
    else
      if r.val < 14 then
        if r.val < 13 then
          (256#32, 4#32, 2#32, 1#32)
        else
          (640#32, 2#32, 1#32, 4#32)
      else
        if r.val < 15 then
          (960#32, 1#32, 4#32, 2#32)
        else
          (320#32, 4#32, 2#32, 1#32)
def k0_off38 (d0 : Dev nD) : Fin 3 → Nat :=
  let c0_971 : Index := 0#32
  let c32_i32_970 : BitVec 32 := 32#32
  let c1_i32_966 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1276 : BitVec 32 := Scalar.subi c1_i32_966 v8
  let c8_i32_967 : BitVec 32 := 8#32
  let v1277 : BitVec 32 := Scalar.muli v1276 c8_i32_967
  let v1283 : BitVec 32 := Scalar.addi c32_i32_970 v1277
  let v1284 : Index := Scalar.indexCast v1283
  let c0_972 : Index := 0#32
  ![0, v1284.toNat, 0]
def k0_off39 (d0 : Dev nD) (c0_i32_310 : BitVec 32) (c4_i32 : BitVec 32) (c2_i32_1 : BitVec 32) (c1_i32 : BitVec 32) : Fin 2 → Nat :=
  let v0 : BitVec 32 := Dev.word d0
  let v1 : BitVec 32 := Scalar.divsi v0 c4_i32
  let c2_i32 : BitVec 32 := 2#32
  let v2 : BitVec 32 := Scalar.remsi v1 c2_i32
  let c32_i32_309 : BitVec 32 := 32#32
  let v362 : BitVec 32 := Scalar.muli v2 c32_i32_309
  let v363 : BitVec 32 := Scalar.addi c0_i32_310 v362
  let v3 : BitVec 32 := Dev.word d0
  let v4 : BitVec 32 := Scalar.divsi v3 c2_i32_1
  let c2_i32_0 : BitVec 32 := 2#32
  let v5 : BitVec 32 := Scalar.remsi v4 c2_i32_0
  let c16_i32_965 : BitVec 32 := 16#32
  let v1274 : BitVec 32 := Scalar.muli v5 c16_i32_965
  let v1275 : BitVec 32 := Scalar.addi v363 v1274
  let c1_i32_974 : BitVec 32 := 1#32
  let v6 : BitVec 32 := Dev.word d0
  let v7 : BitVec 32 := Scalar.divsi v6 c1_i32
  let c2_i32_2 : BitVec 32 := 2#32
  let v8 : BitVec 32 := Scalar.remsi v7 c2_i32_2
  let v1291 : BitVec 32 := Scalar.subi c1_i32_974 v8
  let c8_i32_975 : BitVec 32 := 8#32
  let v1292 : BitVec 32 := Scalar.muli v1291 c8_i32_975
  let v1293 : BitVec 32 := Scalar.addi v1275 v1292
  let c0_i32_987 : BitVec 32 := 0#32
  ![v1293.toNat, 0]
def k0_off39_at (r : Fin 16) : BitVec 32 × BitVec 32 × BitVec 32 × BitVec 32 :=
  if r.val < 8 then
    if r.val < 4 then
      if r.val < 2 then
        if r.val < 1 then
          (0#32, 4#32, 2#32, 1#32)
        else
          (384#32, 2#32, 1#32, 4#32)
      else
        if r.val < 3 then
          (704#32, 1#32, 4#32, 2#32)
        else
          (64#32, 4#32, 2#32, 1#32)
    else
      if r.val < 6 then
        if r.val < 5 then
          (448#32, 2#32, 1#32, 4#32)
        else
          (768#32, 1#32, 4#32, 2#32)
      else
        if r.val < 7 then
          (128#32, 4#32, 2#32, 1#32)
        else
          (512#32, 2#32, 1#32, 4#32)
  else
    if r.val < 12 then
      if r.val < 10 then
        if r.val < 9 then
          (832#32, 1#32, 4#32, 2#32)
        else
          (192#32, 4#32, 2#32, 1#32)
      else
        if r.val < 11 then
          (576#32, 2#32, 1#32, 4#32)
        else
          (896#32, 1#32, 4#32, 2#32)
    else
      if r.val < 14 then
        if r.val < 13 then
          (256#32, 4#32, 2#32, 1#32)
        else
          (640#32, 2#32, 1#32, 4#32)
      else
        if r.val < 15 then
          (960#32, 1#32, 4#32, 2#32)
        else
          (320#32, 4#32, 2#32, 1#32)
def k0_dev36 (d0 : Dev nD) : Nat :=
  let c0_i32_983 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_982 : BitVec 32 := 4#32
  let v1295 : BitVec 32 := Scalar.muli v2 c4_i32_982
  let v1296 : BitVec 32 := Scalar.addi c0_i32_983 v1295
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_984 : BitVec 32 := 2#32
  let v1297 : BitVec 32 := Scalar.muli v5 c2_i32_984
  let v1298 : BitVec 32 := Scalar.addi v1296 v1297
  let c1_i32_976 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1294 : BitVec 32 := Scalar.subi c1_i32_976 v8
  let c1_i32_985 : BitVec 32 := 1#32
  let v1299 : BitVec 32 := Scalar.muli v1294 c1_i32_985
  let v1300 : BitVec 32 := Scalar.addi v1298 v1299
  v1300.toNat
def k0_off40 (d0 : Dev nD) (c0_i32_310 : BitVec 32) (c4_i32 : BitVec 32) (c2_i32_1 : BitVec 32) (c1_i32 : BitVec 32) : Fin 2 → Nat :=
  let v0 : BitVec 32 := Dev.word d0
  let v1 : BitVec 32 := Scalar.divsi v0 c4_i32
  let c2_i32 : BitVec 32 := 2#32
  let v2 : BitVec 32 := Scalar.remsi v1 c2_i32
  let c32_i32_309 : BitVec 32 := 32#32
  let v362 : BitVec 32 := Scalar.muli v2 c32_i32_309
  let v363 : BitVec 32 := Scalar.addi c0_i32_310 v362
  let v3 : BitVec 32 := Dev.word d0
  let v4 : BitVec 32 := Scalar.divsi v3 c2_i32_1
  let c2_i32_0 : BitVec 32 := 2#32
  let v5 : BitVec 32 := Scalar.remsi v4 c2_i32_0
  let c16_i32_965 : BitVec 32 := 16#32
  let v1274 : BitVec 32 := Scalar.muli v5 c16_i32_965
  let v1275 : BitVec 32 := Scalar.addi v363 v1274
  let v6 : BitVec 32 := Dev.word d0
  let v7 : BitVec 32 := Scalar.divsi v6 c1_i32
  let c2_i32_2 : BitVec 32 := 2#32
  let v8 : BitVec 32 := Scalar.remsi v7 c2_i32_2
  let c8_i32_968 : BitVec 32 := 8#32
  let v1278 : BitVec 32 := Scalar.muli v8 c8_i32_968
  let v1308 : BitVec 32 := Scalar.addi v1275 v1278
  let v1309 : Index := Scalar.indexCast v1308
  let c0_988 : Index := 0#32
  ![v1309.toNat, 0]
def k0_off40_at (r : Fin 16) : BitVec 32 × BitVec 32 × BitVec 32 × BitVec 32 :=
  if r.val < 8 then
    if r.val < 4 then
      if r.val < 2 then
        if r.val < 1 then
          (0#32, 4#32, 2#32, 1#32)
        else
          (384#32, 2#32, 1#32, 4#32)
      else
        if r.val < 3 then
          (704#32, 1#32, 4#32, 2#32)
        else
          (64#32, 4#32, 2#32, 1#32)
    else
      if r.val < 6 then
        if r.val < 5 then
          (448#32, 2#32, 1#32, 4#32)
        else
          (768#32, 1#32, 4#32, 2#32)
      else
        if r.val < 7 then
          (128#32, 4#32, 2#32, 1#32)
        else
          (512#32, 2#32, 1#32, 4#32)
  else
    if r.val < 12 then
      if r.val < 10 then
        if r.val < 9 then
          (832#32, 1#32, 4#32, 2#32)
        else
          (192#32, 4#32, 2#32, 1#32)
      else
        if r.val < 11 then
          (576#32, 2#32, 1#32, 4#32)
        else
          (896#32, 1#32, 4#32, 2#32)
    else
      if r.val < 14 then
        if r.val < 13 then
          (256#32, 4#32, 2#32, 1#32)
        else
          (640#32, 2#32, 1#32, 4#32)
      else
        if r.val < 15 then
          (960#32, 1#32, 4#32, 2#32)
        else
          (320#32, 4#32, 2#32, 1#32)
def k0_off41 (d0 : Dev nD) : Fin 3 → Nat :=
  let c0_990 : Index := 0#32
  let c32_i32_989 : BitVec 32 := 32#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c8_i32_968 : BitVec 32 := 8#32
  let v1278 : BitVec 32 := Scalar.muli v8 c8_i32_968
  let v1312 : BitVec 32 := Scalar.addi c32_i32_989 v1278
  let v1313 : Index := Scalar.indexCast v1312
  let c0_991 : Index := 0#32
  ![0, v1313.toNat, 0]
def k0_off42 (d0 : Dev nD) : Fin 3 → Nat :=
  let c6_1011 : Index := 6#32
  let c32_i32_1010 : BitVec 32 := 32#32
  let c1_i32_1006 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1333 : BitVec 32 := Scalar.subi c1_i32_1006 v2
  let c8_i32_1007 : BitVec 32 := 8#32
  let v1334 : BitVec 32 := Scalar.muli v1333 c8_i32_1007
  let v1340 : BitVec 32 := Scalar.addi c32_i32_1010 v1334
  let v1341 : Index := Scalar.indexCast v1340
  let c0_1012 : Index := 0#32
  ![6, v1341.toNat, 0]
def k0_dev37 (d0 : Dev nD) : Nat :=
  let c0_i32_1023 : BitVec 32 := 0#32
  let c1_i32_1016 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1351 : BitVec 32 := Scalar.subi c1_i32_1016 v2
  let c4_i32_1022 : BitVec 32 := 4#32
  let v1352 : BitVec 32 := Scalar.muli v1351 c4_i32_1022
  let v1353 : BitVec 32 := Scalar.addi c0_i32_1023 v1352
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1024 : BitVec 32 := 2#32
  let v1354 : BitVec 32 := Scalar.muli v5 c2_i32_1024
  let v1355 : BitVec 32 := Scalar.addi v1353 v1354
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1025 : BitVec 32 := 1#32
  let v1356 : BitVec 32 := Scalar.muli v8 c1_i32_1025
  let v1357 : BitVec 32 := Scalar.addi v1355 v1356
  v1357.toNat
def k0_off43 (d0 : Dev nD) : Fin 3 → Nat :=
  let c6_1031 : Index := 6#32
  let c32_i32_1030 : BitVec 32 := 32#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c8_i32_1008 : BitVec 32 := 8#32
  let v1335 : BitVec 32 := Scalar.muli v2 c8_i32_1008
  let v1369 : BitVec 32 := Scalar.addi c32_i32_1030 v1335
  let v1370 : Index := Scalar.indexCast v1369
  let c0_1032 : Index := 0#32
  ![6, v1370.toNat, 0]
def k0_off44 (d0 : Dev nD) : Fin 3 → Nat :=
  let c11_1052 : Index := 11#32
  let c32_i32_1051 : BitVec 32 := 32#32
  let c1_i32_1047 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1390 : BitVec 32 := Scalar.subi c1_i32_1047 v5
  let c8_i32_1048 : BitVec 32 := 8#32
  let v1391 : BitVec 32 := Scalar.muli v1390 c8_i32_1048
  let v1397 : BitVec 32 := Scalar.addi c32_i32_1051 v1391
  let v1398 : Index := Scalar.indexCast v1397
  let c0_1053 : Index := 0#32
  ![11, v1398.toNat, 0]
def k0_dev38 (d0 : Dev nD) : Nat :=
  let c0_i32_1064 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1063 : BitVec 32 := 4#32
  let v1409 : BitVec 32 := Scalar.muli v2 c4_i32_1063
  let v1410 : BitVec 32 := Scalar.addi c0_i32_1064 v1409
  let c1_i32_1057 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1408 : BitVec 32 := Scalar.subi c1_i32_1057 v5
  let c2_i32_1065 : BitVec 32 := 2#32
  let v1411 : BitVec 32 := Scalar.muli v1408 c2_i32_1065
  let v1412 : BitVec 32 := Scalar.addi v1410 v1411
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1066 : BitVec 32 := 1#32
  let v1413 : BitVec 32 := Scalar.muli v8 c1_i32_1066
  let v1414 : BitVec 32 := Scalar.addi v1412 v1413
  v1414.toNat
def k0_off45 (d0 : Dev nD) : Fin 3 → Nat :=
  let c11_1072 : Index := 11#32
  let c32_i32_1071 : BitVec 32 := 32#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c8_i32_1049 : BitVec 32 := 8#32
  let v1392 : BitVec 32 := Scalar.muli v5 c8_i32_1049
  let v1426 : BitVec 32 := Scalar.addi c32_i32_1071 v1392
  let v1427 : Index := Scalar.indexCast v1426
  let c0_1073 : Index := 0#32
  ![11, v1427.toNat, 0]
def k0_off46 (d0 : Dev nD) : Fin 3 → Nat :=
  let c1_1093 : Index := 1#32
  let c32_i32_1092 : BitVec 32 := 32#32
  let c1_i32_1088 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1447 : BitVec 32 := Scalar.subi c1_i32_1088 v8
  let c8_i32_1089 : BitVec 32 := 8#32
  let v1448 : BitVec 32 := Scalar.muli v1447 c8_i32_1089
  let v1454 : BitVec 32 := Scalar.addi c32_i32_1092 v1448
  let v1455 : Index := Scalar.indexCast v1454
  let c0_1094 : Index := 0#32
  ![1, v1455.toNat, 0]
def k0_dev39 (d0 : Dev nD) : Nat :=
  let c0_i32_1105 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1104 : BitVec 32 := 4#32
  let v1466 : BitVec 32 := Scalar.muli v2 c4_i32_1104
  let v1467 : BitVec 32 := Scalar.addi c0_i32_1105 v1466
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1106 : BitVec 32 := 2#32
  let v1468 : BitVec 32 := Scalar.muli v5 c2_i32_1106
  let v1469 : BitVec 32 := Scalar.addi v1467 v1468
  let c1_i32_1098 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1465 : BitVec 32 := Scalar.subi c1_i32_1098 v8
  let c1_i32_1107 : BitVec 32 := 1#32
  let v1470 : BitVec 32 := Scalar.muli v1465 c1_i32_1107
  let v1471 : BitVec 32 := Scalar.addi v1469 v1470
  v1471.toNat
def k0_off47 (d0 : Dev nD) : Fin 3 → Nat :=
  let c1_1113 : Index := 1#32
  let c32_i32_1112 : BitVec 32 := 32#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c8_i32_1090 : BitVec 32 := 8#32
  let v1449 : BitVec 32 := Scalar.muli v8 c8_i32_1090
  let v1483 : BitVec 32 := Scalar.addi c32_i32_1112 v1449
  let v1484 : Index := Scalar.indexCast v1483
  let c0_1114 : Index := 0#32
  ![1, v1484.toNat, 0]
def k0_off48 (d0 : Dev nD) : Fin 3 → Nat :=
  let c7_1134 : Index := 7#32
  let c32_i32_1133 : BitVec 32 := 32#32
  let c1_i32_1129 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1504 : BitVec 32 := Scalar.subi c1_i32_1129 v2
  let c8_i32_1130 : BitVec 32 := 8#32
  let v1505 : BitVec 32 := Scalar.muli v1504 c8_i32_1130
  let v1511 : BitVec 32 := Scalar.addi c32_i32_1133 v1505
  let v1512 : Index := Scalar.indexCast v1511
  let c0_1135 : Index := 0#32
  ![7, v1512.toNat, 0]
def k0_dev40 (d0 : Dev nD) : Nat :=
  let c0_i32_1146 : BitVec 32 := 0#32
  let c1_i32_1139 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1522 : BitVec 32 := Scalar.subi c1_i32_1139 v2
  let c4_i32_1145 : BitVec 32 := 4#32
  let v1523 : BitVec 32 := Scalar.muli v1522 c4_i32_1145
  let v1524 : BitVec 32 := Scalar.addi c0_i32_1146 v1523
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1147 : BitVec 32 := 2#32
  let v1525 : BitVec 32 := Scalar.muli v5 c2_i32_1147
  let v1526 : BitVec 32 := Scalar.addi v1524 v1525
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1148 : BitVec 32 := 1#32
  let v1527 : BitVec 32 := Scalar.muli v8 c1_i32_1148
  let v1528 : BitVec 32 := Scalar.addi v1526 v1527
  v1528.toNat
def k0_off49 (d0 : Dev nD) : Fin 3 → Nat :=
  let c7_1154 : Index := 7#32
  let c32_i32_1153 : BitVec 32 := 32#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c8_i32_1131 : BitVec 32 := 8#32
  let v1506 : BitVec 32 := Scalar.muli v2 c8_i32_1131
  let v1540 : BitVec 32 := Scalar.addi c32_i32_1153 v1506
  let v1541 : Index := Scalar.indexCast v1540
  let c0_1155 : Index := 0#32
  ![7, v1541.toNat, 0]
def k0_off50 (d0 : Dev nD) : Fin 3 → Nat :=
  let c12_1175 : Index := 12#32
  let c32_i32_1174 : BitVec 32 := 32#32
  let c1_i32_1170 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1561 : BitVec 32 := Scalar.subi c1_i32_1170 v5
  let c8_i32_1171 : BitVec 32 := 8#32
  let v1562 : BitVec 32 := Scalar.muli v1561 c8_i32_1171
  let v1568 : BitVec 32 := Scalar.addi c32_i32_1174 v1562
  let v1569 : Index := Scalar.indexCast v1568
  let c0_1176 : Index := 0#32
  ![12, v1569.toNat, 0]
def k0_dev41 (d0 : Dev nD) : Nat :=
  let c0_i32_1187 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1186 : BitVec 32 := 4#32
  let v1580 : BitVec 32 := Scalar.muli v2 c4_i32_1186
  let v1581 : BitVec 32 := Scalar.addi c0_i32_1187 v1580
  let c1_i32_1180 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1579 : BitVec 32 := Scalar.subi c1_i32_1180 v5
  let c2_i32_1188 : BitVec 32 := 2#32
  let v1582 : BitVec 32 := Scalar.muli v1579 c2_i32_1188
  let v1583 : BitVec 32 := Scalar.addi v1581 v1582
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1189 : BitVec 32 := 1#32
  let v1584 : BitVec 32 := Scalar.muli v8 c1_i32_1189
  let v1585 : BitVec 32 := Scalar.addi v1583 v1584
  v1585.toNat
def k0_off51 (d0 : Dev nD) : Fin 3 → Nat :=
  let c12_1195 : Index := 12#32
  let c32_i32_1194 : BitVec 32 := 32#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c8_i32_1172 : BitVec 32 := 8#32
  let v1563 : BitVec 32 := Scalar.muli v5 c8_i32_1172
  let v1597 : BitVec 32 := Scalar.addi c32_i32_1194 v1563
  let v1598 : Index := Scalar.indexCast v1597
  let c0_1196 : Index := 0#32
  ![12, v1598.toNat, 0]
def k0_off52 (d0 : Dev nD) : Fin 3 → Nat :=
  let c2_1216 : Index := 2#32
  let c32_i32_1215 : BitVec 32 := 32#32
  let c1_i32_1211 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1618 : BitVec 32 := Scalar.subi c1_i32_1211 v8
  let c8_i32_1212 : BitVec 32 := 8#32
  let v1619 : BitVec 32 := Scalar.muli v1618 c8_i32_1212
  let v1625 : BitVec 32 := Scalar.addi c32_i32_1215 v1619
  let v1626 : Index := Scalar.indexCast v1625
  let c0_1217 : Index := 0#32
  ![2, v1626.toNat, 0]
def k0_dev42 (d0 : Dev nD) : Nat :=
  let c0_i32_1228 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1227 : BitVec 32 := 4#32
  let v1637 : BitVec 32 := Scalar.muli v2 c4_i32_1227
  let v1638 : BitVec 32 := Scalar.addi c0_i32_1228 v1637
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1229 : BitVec 32 := 2#32
  let v1639 : BitVec 32 := Scalar.muli v5 c2_i32_1229
  let v1640 : BitVec 32 := Scalar.addi v1638 v1639
  let c1_i32_1221 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1636 : BitVec 32 := Scalar.subi c1_i32_1221 v8
  let c1_i32_1230 : BitVec 32 := 1#32
  let v1641 : BitVec 32 := Scalar.muli v1636 c1_i32_1230
  let v1642 : BitVec 32 := Scalar.addi v1640 v1641
  v1642.toNat
def k0_off53 (d0 : Dev nD) : Fin 3 → Nat :=
  let c2_1236 : Index := 2#32
  let c32_i32_1235 : BitVec 32 := 32#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c8_i32_1213 : BitVec 32 := 8#32
  let v1620 : BitVec 32 := Scalar.muli v8 c8_i32_1213
  let v1654 : BitVec 32 := Scalar.addi c32_i32_1235 v1620
  let v1655 : Index := Scalar.indexCast v1654
  let c0_1237 : Index := 0#32
  ![2, v1655.toNat, 0]
def k0_off54 (d0 : Dev nD) : Fin 3 → Nat :=
  let c8_1257 : Index := 8#32
  let c32_i32_1256 : BitVec 32 := 32#32
  let c1_i32_1252 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1675 : BitVec 32 := Scalar.subi c1_i32_1252 v2
  let c8_i32_1253 : BitVec 32 := 8#32
  let v1676 : BitVec 32 := Scalar.muli v1675 c8_i32_1253
  let v1682 : BitVec 32 := Scalar.addi c32_i32_1256 v1676
  let v1683 : Index := Scalar.indexCast v1682
  let c0_1258 : Index := 0#32
  ![8, v1683.toNat, 0]
def k0_dev43 (d0 : Dev nD) : Nat :=
  let c0_i32_1269 : BitVec 32 := 0#32
  let c1_i32_1262 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1693 : BitVec 32 := Scalar.subi c1_i32_1262 v2
  let c4_i32_1268 : BitVec 32 := 4#32
  let v1694 : BitVec 32 := Scalar.muli v1693 c4_i32_1268
  let v1695 : BitVec 32 := Scalar.addi c0_i32_1269 v1694
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1270 : BitVec 32 := 2#32
  let v1696 : BitVec 32 := Scalar.muli v5 c2_i32_1270
  let v1697 : BitVec 32 := Scalar.addi v1695 v1696
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1271 : BitVec 32 := 1#32
  let v1698 : BitVec 32 := Scalar.muli v8 c1_i32_1271
  let v1699 : BitVec 32 := Scalar.addi v1697 v1698
  v1699.toNat
def k0_off55 (d0 : Dev nD) : Fin 3 → Nat :=
  let c8_1277 : Index := 8#32
  let c32_i32_1276 : BitVec 32 := 32#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c8_i32_1254 : BitVec 32 := 8#32
  let v1677 : BitVec 32 := Scalar.muli v2 c8_i32_1254
  let v1711 : BitVec 32 := Scalar.addi c32_i32_1276 v1677
  let v1712 : Index := Scalar.indexCast v1711
  let c0_1278 : Index := 0#32
  ![8, v1712.toNat, 0]
def k0_off56 (d0 : Dev nD) : Fin 3 → Nat :=
  let c13_1298 : Index := 13#32
  let c32_i32_1297 : BitVec 32 := 32#32
  let c1_i32_1293 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1732 : BitVec 32 := Scalar.subi c1_i32_1293 v5
  let c8_i32_1294 : BitVec 32 := 8#32
  let v1733 : BitVec 32 := Scalar.muli v1732 c8_i32_1294
  let v1739 : BitVec 32 := Scalar.addi c32_i32_1297 v1733
  let v1740 : Index := Scalar.indexCast v1739
  let c0_1299 : Index := 0#32
  ![13, v1740.toNat, 0]
def k0_dev44 (d0 : Dev nD) : Nat :=
  let c0_i32_1310 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1309 : BitVec 32 := 4#32
  let v1751 : BitVec 32 := Scalar.muli v2 c4_i32_1309
  let v1752 : BitVec 32 := Scalar.addi c0_i32_1310 v1751
  let c1_i32_1303 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1750 : BitVec 32 := Scalar.subi c1_i32_1303 v5
  let c2_i32_1311 : BitVec 32 := 2#32
  let v1753 : BitVec 32 := Scalar.muli v1750 c2_i32_1311
  let v1754 : BitVec 32 := Scalar.addi v1752 v1753
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1312 : BitVec 32 := 1#32
  let v1755 : BitVec 32 := Scalar.muli v8 c1_i32_1312
  let v1756 : BitVec 32 := Scalar.addi v1754 v1755
  v1756.toNat
def k0_off57 (d0 : Dev nD) : Fin 3 → Nat :=
  let c13_1318 : Index := 13#32
  let c32_i32_1317 : BitVec 32 := 32#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c8_i32_1295 : BitVec 32 := 8#32
  let v1734 : BitVec 32 := Scalar.muli v5 c8_i32_1295
  let v1768 : BitVec 32 := Scalar.addi c32_i32_1317 v1734
  let v1769 : Index := Scalar.indexCast v1768
  let c0_1319 : Index := 0#32
  ![13, v1769.toNat, 0]
def k0_off58 (d0 : Dev nD) : Fin 3 → Nat :=
  let c3_1339 : Index := 3#32
  let c32_i32_1338 : BitVec 32 := 32#32
  let c1_i32_1334 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1789 : BitVec 32 := Scalar.subi c1_i32_1334 v8
  let c8_i32_1335 : BitVec 32 := 8#32
  let v1790 : BitVec 32 := Scalar.muli v1789 c8_i32_1335
  let v1796 : BitVec 32 := Scalar.addi c32_i32_1338 v1790
  let v1797 : Index := Scalar.indexCast v1796
  let c0_1340 : Index := 0#32
  ![3, v1797.toNat, 0]
def k0_dev45 (d0 : Dev nD) : Nat :=
  let c0_i32_1351 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1350 : BitVec 32 := 4#32
  let v1808 : BitVec 32 := Scalar.muli v2 c4_i32_1350
  let v1809 : BitVec 32 := Scalar.addi c0_i32_1351 v1808
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1352 : BitVec 32 := 2#32
  let v1810 : BitVec 32 := Scalar.muli v5 c2_i32_1352
  let v1811 : BitVec 32 := Scalar.addi v1809 v1810
  let c1_i32_1344 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1807 : BitVec 32 := Scalar.subi c1_i32_1344 v8
  let c1_i32_1353 : BitVec 32 := 1#32
  let v1812 : BitVec 32 := Scalar.muli v1807 c1_i32_1353
  let v1813 : BitVec 32 := Scalar.addi v1811 v1812
  v1813.toNat
def k0_off59 (d0 : Dev nD) : Fin 3 → Nat :=
  let c3_1359 : Index := 3#32
  let c32_i32_1358 : BitVec 32 := 32#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c8_i32_1336 : BitVec 32 := 8#32
  let v1791 : BitVec 32 := Scalar.muli v8 c8_i32_1336
  let v1825 : BitVec 32 := Scalar.addi c32_i32_1358 v1791
  let v1826 : Index := Scalar.indexCast v1825
  let c0_1360 : Index := 0#32
  ![3, v1826.toNat, 0]
def k0_off60 (d0 : Dev nD) : Fin 3 → Nat :=
  let c9_1380 : Index := 9#32
  let c32_i32_1379 : BitVec 32 := 32#32
  let c1_i32_1375 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1846 : BitVec 32 := Scalar.subi c1_i32_1375 v2
  let c8_i32_1376 : BitVec 32 := 8#32
  let v1847 : BitVec 32 := Scalar.muli v1846 c8_i32_1376
  let v1853 : BitVec 32 := Scalar.addi c32_i32_1379 v1847
  let v1854 : Index := Scalar.indexCast v1853
  let c0_1381 : Index := 0#32
  ![9, v1854.toNat, 0]
def k0_dev46 (d0 : Dev nD) : Nat :=
  let c0_i32_1392 : BitVec 32 := 0#32
  let c1_i32_1385 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1864 : BitVec 32 := Scalar.subi c1_i32_1385 v2
  let c4_i32_1391 : BitVec 32 := 4#32
  let v1865 : BitVec 32 := Scalar.muli v1864 c4_i32_1391
  let v1866 : BitVec 32 := Scalar.addi c0_i32_1392 v1865
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1393 : BitVec 32 := 2#32
  let v1867 : BitVec 32 := Scalar.muli v5 c2_i32_1393
  let v1868 : BitVec 32 := Scalar.addi v1866 v1867
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1394 : BitVec 32 := 1#32
  let v1869 : BitVec 32 := Scalar.muli v8 c1_i32_1394
  let v1870 : BitVec 32 := Scalar.addi v1868 v1869
  v1870.toNat
def k0_off61 (d0 : Dev nD) : Fin 3 → Nat :=
  let c9_1400 : Index := 9#32
  let c32_i32_1399 : BitVec 32 := 32#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c8_i32_1377 : BitVec 32 := 8#32
  let v1848 : BitVec 32 := Scalar.muli v2 c8_i32_1377
  let v1882 : BitVec 32 := Scalar.addi c32_i32_1399 v1848
  let v1883 : Index := Scalar.indexCast v1882
  let c0_1401 : Index := 0#32
  ![9, v1883.toNat, 0]
def k0_off62 (d0 : Dev nD) : Fin 3 → Nat :=
  let c14_1421 : Index := 14#32
  let c32_i32_1420 : BitVec 32 := 32#32
  let c1_i32_1416 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1903 : BitVec 32 := Scalar.subi c1_i32_1416 v5
  let c8_i32_1417 : BitVec 32 := 8#32
  let v1904 : BitVec 32 := Scalar.muli v1903 c8_i32_1417
  let v1910 : BitVec 32 := Scalar.addi c32_i32_1420 v1904
  let v1911 : Index := Scalar.indexCast v1910
  let c0_1422 : Index := 0#32
  ![14, v1911.toNat, 0]
def k0_dev47 (d0 : Dev nD) : Nat :=
  let c0_i32_1433 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1432 : BitVec 32 := 4#32
  let v1922 : BitVec 32 := Scalar.muli v2 c4_i32_1432
  let v1923 : BitVec 32 := Scalar.addi c0_i32_1433 v1922
  let c1_i32_1426 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1921 : BitVec 32 := Scalar.subi c1_i32_1426 v5
  let c2_i32_1434 : BitVec 32 := 2#32
  let v1924 : BitVec 32 := Scalar.muli v1921 c2_i32_1434
  let v1925 : BitVec 32 := Scalar.addi v1923 v1924
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1435 : BitVec 32 := 1#32
  let v1926 : BitVec 32 := Scalar.muli v8 c1_i32_1435
  let v1927 : BitVec 32 := Scalar.addi v1925 v1926
  v1927.toNat
def k0_off63 (d0 : Dev nD) : Fin 3 → Nat :=
  let c14_1441 : Index := 14#32
  let c32_i32_1440 : BitVec 32 := 32#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c8_i32_1418 : BitVec 32 := 8#32
  let v1905 : BitVec 32 := Scalar.muli v5 c8_i32_1418
  let v1939 : BitVec 32 := Scalar.addi c32_i32_1440 v1905
  let v1940 : Index := Scalar.indexCast v1939
  let c0_1442 : Index := 0#32
  ![14, v1940.toNat, 0]
def k0_off64 (d0 : Dev nD) : Fin 3 → Nat :=
  let c4_1462 : Index := 4#32
  let c32_i32_1461 : BitVec 32 := 32#32
  let c1_i32_1457 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1960 : BitVec 32 := Scalar.subi c1_i32_1457 v8
  let c8_i32_1458 : BitVec 32 := 8#32
  let v1961 : BitVec 32 := Scalar.muli v1960 c8_i32_1458
  let v1967 : BitVec 32 := Scalar.addi c32_i32_1461 v1961
  let v1968 : Index := Scalar.indexCast v1967
  let c0_1463 : Index := 0#32
  ![4, v1968.toNat, 0]
def k0_dev48 (d0 : Dev nD) : Nat :=
  let c0_i32_1474 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1473 : BitVec 32 := 4#32
  let v1979 : BitVec 32 := Scalar.muli v2 c4_i32_1473
  let v1980 : BitVec 32 := Scalar.addi c0_i32_1474 v1979
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1475 : BitVec 32 := 2#32
  let v1981 : BitVec 32 := Scalar.muli v5 c2_i32_1475
  let v1982 : BitVec 32 := Scalar.addi v1980 v1981
  let c1_i32_1467 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1978 : BitVec 32 := Scalar.subi c1_i32_1467 v8
  let c1_i32_1476 : BitVec 32 := 1#32
  let v1983 : BitVec 32 := Scalar.muli v1978 c1_i32_1476
  let v1984 : BitVec 32 := Scalar.addi v1982 v1983
  v1984.toNat
def k0_off65 (d0 : Dev nD) : Fin 3 → Nat :=
  let c4_1482 : Index := 4#32
  let c32_i32_1481 : BitVec 32 := 32#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c8_i32_1459 : BitVec 32 := 8#32
  let v1962 : BitVec 32 := Scalar.muli v8 c8_i32_1459
  let v1996 : BitVec 32 := Scalar.addi c32_i32_1481 v1962
  let v1997 : Index := Scalar.indexCast v1996
  let c0_1483 : Index := 0#32
  ![4, v1997.toNat, 0]
def k0_off66 (d0 : Dev nD) : Fin 3 → Nat :=
  let c10_1503 : Index := 10#32
  let c32_i32_1502 : BitVec 32 := 32#32
  let c1_i32_1498 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2017 : BitVec 32 := Scalar.subi c1_i32_1498 v2
  let c8_i32_1499 : BitVec 32 := 8#32
  let v2018 : BitVec 32 := Scalar.muli v2017 c8_i32_1499
  let v2024 : BitVec 32 := Scalar.addi c32_i32_1502 v2018
  let v2025 : Index := Scalar.indexCast v2024
  let c0_1504 : Index := 0#32
  ![10, v2025.toNat, 0]
def k0_dev49 (d0 : Dev nD) : Nat :=
  let c0_i32_1515 : BitVec 32 := 0#32
  let c1_i32_1508 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2035 : BitVec 32 := Scalar.subi c1_i32_1508 v2
  let c4_i32_1514 : BitVec 32 := 4#32
  let v2036 : BitVec 32 := Scalar.muli v2035 c4_i32_1514
  let v2037 : BitVec 32 := Scalar.addi c0_i32_1515 v2036
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1516 : BitVec 32 := 2#32
  let v2038 : BitVec 32 := Scalar.muli v5 c2_i32_1516
  let v2039 : BitVec 32 := Scalar.addi v2037 v2038
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1517 : BitVec 32 := 1#32
  let v2040 : BitVec 32 := Scalar.muli v8 c1_i32_1517
  let v2041 : BitVec 32 := Scalar.addi v2039 v2040
  v2041.toNat
def k0_off67 (d0 : Dev nD) : Fin 3 → Nat :=
  let c10_1523 : Index := 10#32
  let c32_i32_1522 : BitVec 32 := 32#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c8_i32_1500 : BitVec 32 := 8#32
  let v2019 : BitVec 32 := Scalar.muli v2 c8_i32_1500
  let v2053 : BitVec 32 := Scalar.addi c32_i32_1522 v2019
  let v2054 : Index := Scalar.indexCast v2053
  let c0_1524 : Index := 0#32
  ![10, v2054.toNat, 0]
def k0_off68 (d0 : Dev nD) : Fin 3 → Nat :=
  let c15_1544 : Index := 15#32
  let c32_i32_1543 : BitVec 32 := 32#32
  let c1_i32_1539 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2074 : BitVec 32 := Scalar.subi c1_i32_1539 v5
  let c8_i32_1540 : BitVec 32 := 8#32
  let v2075 : BitVec 32 := Scalar.muli v2074 c8_i32_1540
  let v2081 : BitVec 32 := Scalar.addi c32_i32_1543 v2075
  let v2082 : Index := Scalar.indexCast v2081
  let c0_1545 : Index := 0#32
  ![15, v2082.toNat, 0]
def k0_dev50 (d0 : Dev nD) : Nat :=
  let c0_i32_1556 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1555 : BitVec 32 := 4#32
  let v2093 : BitVec 32 := Scalar.muli v2 c4_i32_1555
  let v2094 : BitVec 32 := Scalar.addi c0_i32_1556 v2093
  let c1_i32_1549 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2092 : BitVec 32 := Scalar.subi c1_i32_1549 v5
  let c2_i32_1557 : BitVec 32 := 2#32
  let v2095 : BitVec 32 := Scalar.muli v2092 c2_i32_1557
  let v2096 : BitVec 32 := Scalar.addi v2094 v2095
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1558 : BitVec 32 := 1#32
  let v2097 : BitVec 32 := Scalar.muli v8 c1_i32_1558
  let v2098 : BitVec 32 := Scalar.addi v2096 v2097
  v2098.toNat
def k0_off69 (d0 : Dev nD) : Fin 3 → Nat :=
  let c15_1564 : Index := 15#32
  let c32_i32_1563 : BitVec 32 := 32#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c8_i32_1541 : BitVec 32 := 8#32
  let v2076 : BitVec 32 := Scalar.muli v5 c8_i32_1541
  let v2110 : BitVec 32 := Scalar.addi c32_i32_1563 v2076
  let v2111 : Index := Scalar.indexCast v2110
  let c0_1565 : Index := 0#32
  ![15, v2111.toNat, 0]
def k0_off70 (d0 : Dev nD) : Fin 3 → Nat :=
  let c5_1585 : Index := 5#32
  let c32_i32_1584 : BitVec 32 := 32#32
  let c1_i32_1580 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2131 : BitVec 32 := Scalar.subi c1_i32_1580 v8
  let c8_i32_1581 : BitVec 32 := 8#32
  let v2132 : BitVec 32 := Scalar.muli v2131 c8_i32_1581
  let v2138 : BitVec 32 := Scalar.addi c32_i32_1584 v2132
  let v2139 : Index := Scalar.indexCast v2138
  let c0_1586 : Index := 0#32
  ![5, v2139.toNat, 0]
def k0_dev51 (d0 : Dev nD) : Nat :=
  let c0_i32_1597 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1596 : BitVec 32 := 4#32
  let v2150 : BitVec 32 := Scalar.muli v2 c4_i32_1596
  let v2151 : BitVec 32 := Scalar.addi c0_i32_1597 v2150
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1598 : BitVec 32 := 2#32
  let v2152 : BitVec 32 := Scalar.muli v5 c2_i32_1598
  let v2153 : BitVec 32 := Scalar.addi v2151 v2152
  let c1_i32_1590 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2149 : BitVec 32 := Scalar.subi c1_i32_1590 v8
  let c1_i32_1599 : BitVec 32 := 1#32
  let v2154 : BitVec 32 := Scalar.muli v2149 c1_i32_1599
  let v2155 : BitVec 32 := Scalar.addi v2153 v2154
  v2155.toNat
def k0_off71 (d0 : Dev nD) : Fin 3 → Nat :=
  let c5_1605 : Index := 5#32
  let c32_i32_1604 : BitVec 32 := 32#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c8_i32_1582 : BitVec 32 := 8#32
  let v2133 : BitVec 32 := Scalar.muli v8 c8_i32_1582
  let v2167 : BitVec 32 := Scalar.addi c32_i32_1604 v2133
  let v2168 : Index := Scalar.indexCast v2167
  let c0_1606 : Index := 0#32
  ![5, v2168.toNat, 0]
def k0_off72 (d0 : Dev nD) (c0_i32_310 : BitVec 32) (c4_i32 : BitVec 32) (c2_i32_1 : BitVec 32) (c1_i32 : BitVec 32) : Fin 2 → Nat :=
  let v0 : BitVec 32 := Dev.word d0
  let v1 : BitVec 32 := Scalar.divsi v0 c4_i32
  let c2_i32 : BitVec 32 := 2#32
  let v2 : BitVec 32 := Scalar.remsi v1 c2_i32
  let c32_i32_309 : BitVec 32 := 32#32
  let v362 : BitVec 32 := Scalar.muli v2 c32_i32_309
  let v363 : BitVec 32 := Scalar.addi c0_i32_310 v362
  let v3 : BitVec 32 := Dev.word d0
  let v4 : BitVec 32 := Scalar.divsi v3 c2_i32_1
  let c2_i32_0 : BitVec 32 := 2#32
  let v5 : BitVec 32 := Scalar.remsi v4 c2_i32_0
  let c16_i32_965 : BitVec 32 := 16#32
  let v1274 : BitVec 32 := Scalar.muli v5 c16_i32_965
  let v1275 : BitVec 32 := Scalar.addi v363 v1274
  let v6 : BitVec 32 := Dev.word d0
  let v7 : BitVec 32 := Scalar.divsi v6 c1_i32
  let c2_i32_2 : BitVec 32 := 2#32
  let v8 : BitVec 32 := Scalar.remsi v7 c2_i32_2
  let c8_i32_1620 : BitVec 32 := 8#32
  let v2186 : BitVec 32 := Scalar.muli v8 c8_i32_1620
  let v2187 : BitVec 32 := Scalar.addi v1275 v2186
  let c0_i32_1634 : BitVec 32 := 0#32
  ![v2187.toNat, 0]
def k0_off72_at (r : Fin 16) : BitVec 32 × BitVec 32 × BitVec 32 × BitVec 32 :=
  if r.val < 8 then
    if r.val < 4 then
      if r.val < 2 then
        if r.val < 1 then
          (0#32, 4#32, 2#32, 1#32)
        else
          (384#32, 2#32, 1#32, 4#32)
      else
        if r.val < 3 then
          (704#32, 1#32, 4#32, 2#32)
        else
          (64#32, 4#32, 2#32, 1#32)
    else
      if r.val < 6 then
        if r.val < 5 then
          (448#32, 2#32, 1#32, 4#32)
        else
          (768#32, 1#32, 4#32, 2#32)
      else
        if r.val < 7 then
          (128#32, 4#32, 2#32, 1#32)
        else
          (512#32, 2#32, 1#32, 4#32)
  else
    if r.val < 12 then
      if r.val < 10 then
        if r.val < 9 then
          (832#32, 1#32, 4#32, 2#32)
        else
          (192#32, 4#32, 2#32, 1#32)
      else
        if r.val < 11 then
          (576#32, 2#32, 1#32, 4#32)
        else
          (896#32, 1#32, 4#32, 2#32)
    else
      if r.val < 14 then
        if r.val < 13 then
          (256#32, 4#32, 2#32, 1#32)
        else
          (640#32, 2#32, 1#32, 4#32)
      else
        if r.val < 15 then
          (960#32, 1#32, 4#32, 2#32)
        else
          (320#32, 4#32, 2#32, 1#32)
def k0_dev52 (d0 : Dev nD) : Nat :=
  let c0_i32_1631 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1630 : BitVec 32 := 4#32
  let v2197 : BitVec 32 := Scalar.muli v2 c4_i32_1630
  let v2198 : BitVec 32 := Scalar.addi c0_i32_1631 v2197
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1632 : BitVec 32 := 2#32
  let v2199 : BitVec 32 := Scalar.muli v5 c2_i32_1632
  let v2200 : BitVec 32 := Scalar.addi v2198 v2199
  let c1_i32_1625 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2196 : BitVec 32 := Scalar.subi c1_i32_1625 v8
  let c1_i32_1633 : BitVec 32 := 1#32
  let v2201 : BitVec 32 := Scalar.muli v2196 c1_i32_1633
  let v2202 : BitVec 32 := Scalar.addi v2200 v2201
  v2202.toNat
def k0_dev53 (d0 : Dev nD) : Nat :=
  let c0_i32_1660 : BitVec 32 := 0#32
  let c1_i32_1654 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2230 : BitVec 32 := Scalar.subi c1_i32_1654 v2
  let c4_i32_1659 : BitVec 32 := 4#32
  let v2231 : BitVec 32 := Scalar.muli v2230 c4_i32_1659
  let v2232 : BitVec 32 := Scalar.addi c0_i32_1660 v2231
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1661 : BitVec 32 := 2#32
  let v2233 : BitVec 32 := Scalar.muli v5 c2_i32_1661
  let v2234 : BitVec 32 := Scalar.addi v2232 v2233
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1662 : BitVec 32 := 1#32
  let v2235 : BitVec 32 := Scalar.muli v8 c1_i32_1662
  let v2236 : BitVec 32 := Scalar.addi v2234 v2235
  v2236.toNat
def k0_dev54 (d0 : Dev nD) : Nat :=
  let c0_i32_1689 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1688 : BitVec 32 := 4#32
  let v2265 : BitVec 32 := Scalar.muli v2 c4_i32_1688
  let v2266 : BitVec 32 := Scalar.addi c0_i32_1689 v2265
  let c1_i32_1683 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2264 : BitVec 32 := Scalar.subi c1_i32_1683 v5
  let c2_i32_1690 : BitVec 32 := 2#32
  let v2267 : BitVec 32 := Scalar.muli v2264 c2_i32_1690
  let v2268 : BitVec 32 := Scalar.addi v2266 v2267
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1691 : BitVec 32 := 1#32
  let v2269 : BitVec 32 := Scalar.muli v8 c1_i32_1691
  let v2270 : BitVec 32 := Scalar.addi v2268 v2269
  v2270.toNat
def k0_dev55 (d0 : Dev nD) : Nat :=
  let c0_i32_1718 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1717 : BitVec 32 := 4#32
  let v2299 : BitVec 32 := Scalar.muli v2 c4_i32_1717
  let v2300 : BitVec 32 := Scalar.addi c0_i32_1718 v2299
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1719 : BitVec 32 := 2#32
  let v2301 : BitVec 32 := Scalar.muli v5 c2_i32_1719
  let v2302 : BitVec 32 := Scalar.addi v2300 v2301
  let c1_i32_1712 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2298 : BitVec 32 := Scalar.subi c1_i32_1712 v8
  let c1_i32_1720 : BitVec 32 := 1#32
  let v2303 : BitVec 32 := Scalar.muli v2298 c1_i32_1720
  let v2304 : BitVec 32 := Scalar.addi v2302 v2303
  v2304.toNat
def k0_dev56 (d0 : Dev nD) : Nat :=
  let c0_i32_1747 : BitVec 32 := 0#32
  let c1_i32_1741 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2332 : BitVec 32 := Scalar.subi c1_i32_1741 v2
  let c4_i32_1746 : BitVec 32 := 4#32
  let v2333 : BitVec 32 := Scalar.muli v2332 c4_i32_1746
  let v2334 : BitVec 32 := Scalar.addi c0_i32_1747 v2333
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1748 : BitVec 32 := 2#32
  let v2335 : BitVec 32 := Scalar.muli v5 c2_i32_1748
  let v2336 : BitVec 32 := Scalar.addi v2334 v2335
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1749 : BitVec 32 := 1#32
  let v2337 : BitVec 32 := Scalar.muli v8 c1_i32_1749
  let v2338 : BitVec 32 := Scalar.addi v2336 v2337
  v2338.toNat
def k0_dev57 (d0 : Dev nD) : Nat :=
  let c0_i32_1776 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1775 : BitVec 32 := 4#32
  let v2367 : BitVec 32 := Scalar.muli v2 c4_i32_1775
  let v2368 : BitVec 32 := Scalar.addi c0_i32_1776 v2367
  let c1_i32_1770 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2366 : BitVec 32 := Scalar.subi c1_i32_1770 v5
  let c2_i32_1777 : BitVec 32 := 2#32
  let v2369 : BitVec 32 := Scalar.muli v2366 c2_i32_1777
  let v2370 : BitVec 32 := Scalar.addi v2368 v2369
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1778 : BitVec 32 := 1#32
  let v2371 : BitVec 32 := Scalar.muli v8 c1_i32_1778
  let v2372 : BitVec 32 := Scalar.addi v2370 v2371
  v2372.toNat
def k0_dev58 (d0 : Dev nD) : Nat :=
  let c0_i32_1805 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1804 : BitVec 32 := 4#32
  let v2401 : BitVec 32 := Scalar.muli v2 c4_i32_1804
  let v2402 : BitVec 32 := Scalar.addi c0_i32_1805 v2401
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1806 : BitVec 32 := 2#32
  let v2403 : BitVec 32 := Scalar.muli v5 c2_i32_1806
  let v2404 : BitVec 32 := Scalar.addi v2402 v2403
  let c1_i32_1799 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2400 : BitVec 32 := Scalar.subi c1_i32_1799 v8
  let c1_i32_1807 : BitVec 32 := 1#32
  let v2405 : BitVec 32 := Scalar.muli v2400 c1_i32_1807
  let v2406 : BitVec 32 := Scalar.addi v2404 v2405
  v2406.toNat
def k0_dev59 (d0 : Dev nD) : Nat :=
  let c0_i32_1834 : BitVec 32 := 0#32
  let c1_i32_1828 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2434 : BitVec 32 := Scalar.subi c1_i32_1828 v2
  let c4_i32_1833 : BitVec 32 := 4#32
  let v2435 : BitVec 32 := Scalar.muli v2434 c4_i32_1833
  let v2436 : BitVec 32 := Scalar.addi c0_i32_1834 v2435
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1835 : BitVec 32 := 2#32
  let v2437 : BitVec 32 := Scalar.muli v5 c2_i32_1835
  let v2438 : BitVec 32 := Scalar.addi v2436 v2437
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1836 : BitVec 32 := 1#32
  let v2439 : BitVec 32 := Scalar.muli v8 c1_i32_1836
  let v2440 : BitVec 32 := Scalar.addi v2438 v2439
  v2440.toNat
def k0_dev60 (d0 : Dev nD) : Nat :=
  let c0_i32_1863 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1862 : BitVec 32 := 4#32
  let v2469 : BitVec 32 := Scalar.muli v2 c4_i32_1862
  let v2470 : BitVec 32 := Scalar.addi c0_i32_1863 v2469
  let c1_i32_1857 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2468 : BitVec 32 := Scalar.subi c1_i32_1857 v5
  let c2_i32_1864 : BitVec 32 := 2#32
  let v2471 : BitVec 32 := Scalar.muli v2468 c2_i32_1864
  let v2472 : BitVec 32 := Scalar.addi v2470 v2471
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1865 : BitVec 32 := 1#32
  let v2473 : BitVec 32 := Scalar.muli v8 c1_i32_1865
  let v2474 : BitVec 32 := Scalar.addi v2472 v2473
  v2474.toNat
def k0_dev61 (d0 : Dev nD) : Nat :=
  let c0_i32_1892 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1891 : BitVec 32 := 4#32
  let v2503 : BitVec 32 := Scalar.muli v2 c4_i32_1891
  let v2504 : BitVec 32 := Scalar.addi c0_i32_1892 v2503
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1893 : BitVec 32 := 2#32
  let v2505 : BitVec 32 := Scalar.muli v5 c2_i32_1893
  let v2506 : BitVec 32 := Scalar.addi v2504 v2505
  let c1_i32_1886 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2502 : BitVec 32 := Scalar.subi c1_i32_1886 v8
  let c1_i32_1894 : BitVec 32 := 1#32
  let v2507 : BitVec 32 := Scalar.muli v2502 c1_i32_1894
  let v2508 : BitVec 32 := Scalar.addi v2506 v2507
  v2508.toNat
def k0_dev62 (d0 : Dev nD) : Nat :=
  let c0_i32_1921 : BitVec 32 := 0#32
  let c1_i32_1915 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2536 : BitVec 32 := Scalar.subi c1_i32_1915 v2
  let c4_i32_1920 : BitVec 32 := 4#32
  let v2537 : BitVec 32 := Scalar.muli v2536 c4_i32_1920
  let v2538 : BitVec 32 := Scalar.addi c0_i32_1921 v2537
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1922 : BitVec 32 := 2#32
  let v2539 : BitVec 32 := Scalar.muli v5 c2_i32_1922
  let v2540 : BitVec 32 := Scalar.addi v2538 v2539
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1923 : BitVec 32 := 1#32
  let v2541 : BitVec 32 := Scalar.muli v8 c1_i32_1923
  let v2542 : BitVec 32 := Scalar.addi v2540 v2541
  v2542.toNat
def k0_dev63 (d0 : Dev nD) : Nat :=
  let c0_i32_1950 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1949 : BitVec 32 := 4#32
  let v2571 : BitVec 32 := Scalar.muli v2 c4_i32_1949
  let v2572 : BitVec 32 := Scalar.addi c0_i32_1950 v2571
  let c1_i32_1944 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2570 : BitVec 32 := Scalar.subi c1_i32_1944 v5
  let c2_i32_1951 : BitVec 32 := 2#32
  let v2573 : BitVec 32 := Scalar.muli v2570 c2_i32_1951
  let v2574 : BitVec 32 := Scalar.addi v2572 v2573
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1952 : BitVec 32 := 1#32
  let v2575 : BitVec 32 := Scalar.muli v8 c1_i32_1952
  let v2576 : BitVec 32 := Scalar.addi v2574 v2575
  v2576.toNat
def k0_dev64 (d0 : Dev nD) : Nat :=
  let c0_i32_1979 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1978 : BitVec 32 := 4#32
  let v2605 : BitVec 32 := Scalar.muli v2 c4_i32_1978
  let v2606 : BitVec 32 := Scalar.addi c0_i32_1979 v2605
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1980 : BitVec 32 := 2#32
  let v2607 : BitVec 32 := Scalar.muli v5 c2_i32_1980
  let v2608 : BitVec 32 := Scalar.addi v2606 v2607
  let c1_i32_1973 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2604 : BitVec 32 := Scalar.subi c1_i32_1973 v8
  let c1_i32_1981 : BitVec 32 := 1#32
  let v2609 : BitVec 32 := Scalar.muli v2604 c1_i32_1981
  let v2610 : BitVec 32 := Scalar.addi v2608 v2609
  v2610.toNat
def k0_dev65 (d0 : Dev nD) : Nat :=
  let c0_i32_2008 : BitVec 32 := 0#32
  let c1_i32_2002 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2638 : BitVec 32 := Scalar.subi c1_i32_2002 v2
  let c4_i32_2007 : BitVec 32 := 4#32
  let v2639 : BitVec 32 := Scalar.muli v2638 c4_i32_2007
  let v2640 : BitVec 32 := Scalar.addi c0_i32_2008 v2639
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2009 : BitVec 32 := 2#32
  let v2641 : BitVec 32 := Scalar.muli v5 c2_i32_2009
  let v2642 : BitVec 32 := Scalar.addi v2640 v2641
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2010 : BitVec 32 := 1#32
  let v2643 : BitVec 32 := Scalar.muli v8 c1_i32_2010
  let v2644 : BitVec 32 := Scalar.addi v2642 v2643
  v2644.toNat
def k0_dev66 (d0 : Dev nD) : Nat :=
  let c0_i32_2037 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2036 : BitVec 32 := 4#32
  let v2673 : BitVec 32 := Scalar.muli v2 c4_i32_2036
  let v2674 : BitVec 32 := Scalar.addi c0_i32_2037 v2673
  let c1_i32_2031 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2672 : BitVec 32 := Scalar.subi c1_i32_2031 v5
  let c2_i32_2038 : BitVec 32 := 2#32
  let v2675 : BitVec 32 := Scalar.muli v2672 c2_i32_2038
  let v2676 : BitVec 32 := Scalar.addi v2674 v2675
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2039 : BitVec 32 := 1#32
  let v2677 : BitVec 32 := Scalar.muli v8 c1_i32_2039
  let v2678 : BitVec 32 := Scalar.addi v2676 v2677
  v2678.toNat
def k0_dev67 (d0 : Dev nD) : Nat :=
  let c0_i32_2066 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2065 : BitVec 32 := 4#32
  let v2707 : BitVec 32 := Scalar.muli v2 c4_i32_2065
  let v2708 : BitVec 32 := Scalar.addi c0_i32_2066 v2707
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2067 : BitVec 32 := 2#32
  let v2709 : BitVec 32 := Scalar.muli v5 c2_i32_2067
  let v2710 : BitVec 32 := Scalar.addi v2708 v2709
  let c1_i32_2060 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2706 : BitVec 32 := Scalar.subi c1_i32_2060 v8
  let c1_i32_2068 : BitVec 32 := 1#32
  let v2711 : BitVec 32 := Scalar.muli v2706 c1_i32_2068
  let v2712 : BitVec 32 := Scalar.addi v2710 v2711
  v2712.toNat
def k0_off73 (d0 : Dev nD) (c0_i32_310 : BitVec 32) (c4_i32 : BitVec 32) (c2_i32_1 : BitVec 32) (c1_i32 : BitVec 32) : Fin 2 → Nat :=
  let v0 : BitVec 32 := Dev.word d0
  let v1 : BitVec 32 := Scalar.divsi v0 c4_i32
  let c2_i32 : BitVec 32 := 2#32
  let v2 : BitVec 32 := Scalar.remsi v1 c2_i32
  let c32_i32_309 : BitVec 32 := 32#32
  let v362 : BitVec 32 := Scalar.muli v2 c32_i32_309
  let v363 : BitVec 32 := Scalar.addi c0_i32_310 v362
  let v3 : BitVec 32 := Dev.word d0
  let v4 : BitVec 32 := Scalar.divsi v3 c2_i32_1
  let c2_i32_0 : BitVec 32 := 2#32
  let v5 : BitVec 32 := Scalar.remsi v4 c2_i32_0
  let c16_i32_965 : BitVec 32 := 16#32
  let v1274 : BitVec 32 := Scalar.muli v5 c16_i32_965
  let v1275 : BitVec 32 := Scalar.addi v363 v1274
  let v6 : BitVec 32 := Dev.word d0
  let v7 : BitVec 32 := Scalar.divsi v6 c1_i32
  let c2_i32_2 : BitVec 32 := 2#32
  let v8 : BitVec 32 := Scalar.remsi v7 c2_i32_2
  let c8_i32_1620 : BitVec 32 := 8#32
  let v2186 : BitVec 32 := Scalar.muli v8 c8_i32_1620
  let v2187 : BitVec 32 := Scalar.addi v1275 v2186
  let c8_i32_2081 : BitVec 32 := 8#32
  let v2729 : BitVec 32 := Scalar.muli v8 c8_i32_2081
  let v2730 : BitVec 32 := Scalar.subi v2187 v2729
  let c0_i32_2091 : BitVec 32 := 0#32
  ![v2730.toNat, 0]
def k0_off73_at (r : Fin 16) : BitVec 32 × BitVec 32 × BitVec 32 × BitVec 32 :=
  if r.val < 8 then
    if r.val < 4 then
      if r.val < 2 then
        if r.val < 1 then
          (0#32, 4#32, 2#32, 1#32)
        else
          (384#32, 2#32, 1#32, 4#32)
      else
        if r.val < 3 then
          (704#32, 1#32, 4#32, 2#32)
        else
          (64#32, 4#32, 2#32, 1#32)
    else
      if r.val < 6 then
        if r.val < 5 then
          (448#32, 2#32, 1#32, 4#32)
        else
          (768#32, 1#32, 4#32, 2#32)
      else
        if r.val < 7 then
          (128#32, 4#32, 2#32, 1#32)
        else
          (512#32, 2#32, 1#32, 4#32)
  else
    if r.val < 12 then
      if r.val < 10 then
        if r.val < 9 then
          (832#32, 1#32, 4#32, 2#32)
        else
          (192#32, 4#32, 2#32, 1#32)
      else
        if r.val < 11 then
          (576#32, 2#32, 1#32, 4#32)
        else
          (896#32, 1#32, 4#32, 2#32)
    else
      if r.val < 14 then
        if r.val < 13 then
          (256#32, 4#32, 2#32, 1#32)
        else
          (640#32, 2#32, 1#32, 4#32)
      else
        if r.val < 15 then
          (960#32, 1#32, 4#32, 2#32)
        else
          (320#32, 4#32, 2#32, 1#32)
def k0_dev68 (d0 : Dev nD) : Nat :=
  let c0_i32_2088 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2087 : BitVec 32 := 4#32
  let v2732 : BitVec 32 := Scalar.muli v2 c4_i32_2087
  let v2733 : BitVec 32 := Scalar.addi c0_i32_2088 v2732
  let c1_i32_2082 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2731 : BitVec 32 := Scalar.subi c1_i32_2082 v5
  let c2_i32_2089 : BitVec 32 := 2#32
  let v2734 : BitVec 32 := Scalar.muli v2731 c2_i32_2089
  let v2735 : BitVec 32 := Scalar.addi v2733 v2734
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2090 : BitVec 32 := 1#32
  let v2736 : BitVec 32 := Scalar.muli v8 c1_i32_2090
  let v2737 : BitVec 32 := Scalar.addi v2735 v2736
  v2737.toNat
def k0_dev69 (d0 : Dev nD) : Nat :=
  let c0_i32_2110 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2109 : BitVec 32 := 4#32
  let v2757 : BitVec 32 := Scalar.muli v2 c4_i32_2109
  let v2758 : BitVec 32 := Scalar.addi c0_i32_2110 v2757
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2111 : BitVec 32 := 2#32
  let v2759 : BitVec 32 := Scalar.muli v5 c2_i32_2111
  let v2760 : BitVec 32 := Scalar.addi v2758 v2759
  let c1_i32_2104 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2756 : BitVec 32 := Scalar.subi c1_i32_2104 v8
  let c1_i32_2112 : BitVec 32 := 1#32
  let v2761 : BitVec 32 := Scalar.muli v2756 c1_i32_2112
  let v2762 : BitVec 32 := Scalar.addi v2760 v2761
  v2762.toNat
def k0_dev70 (d0 : Dev nD) : Nat :=
  let c0_i32_2132 : BitVec 32 := 0#32
  let c1_i32_2126 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2781 : BitVec 32 := Scalar.subi c1_i32_2126 v2
  let c4_i32_2131 : BitVec 32 := 4#32
  let v2782 : BitVec 32 := Scalar.muli v2781 c4_i32_2131
  let v2783 : BitVec 32 := Scalar.addi c0_i32_2132 v2782
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2133 : BitVec 32 := 2#32
  let v2784 : BitVec 32 := Scalar.muli v5 c2_i32_2133
  let v2785 : BitVec 32 := Scalar.addi v2783 v2784
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2134 : BitVec 32 := 1#32
  let v2786 : BitVec 32 := Scalar.muli v8 c1_i32_2134
  let v2787 : BitVec 32 := Scalar.addi v2785 v2786
  v2787.toNat
def k0_dev71 (d0 : Dev nD) : Nat :=
  let c0_i32_2154 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2153 : BitVec 32 := 4#32
  let v2807 : BitVec 32 := Scalar.muli v2 c4_i32_2153
  let v2808 : BitVec 32 := Scalar.addi c0_i32_2154 v2807
  let c1_i32_2148 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2806 : BitVec 32 := Scalar.subi c1_i32_2148 v5
  let c2_i32_2155 : BitVec 32 := 2#32
  let v2809 : BitVec 32 := Scalar.muli v2806 c2_i32_2155
  let v2810 : BitVec 32 := Scalar.addi v2808 v2809
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2156 : BitVec 32 := 1#32
  let v2811 : BitVec 32 := Scalar.muli v8 c1_i32_2156
  let v2812 : BitVec 32 := Scalar.addi v2810 v2811
  v2812.toNat
def k0_dev72 (d0 : Dev nD) : Nat :=
  let c0_i32_2176 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2175 : BitVec 32 := 4#32
  let v2832 : BitVec 32 := Scalar.muli v2 c4_i32_2175
  let v2833 : BitVec 32 := Scalar.addi c0_i32_2176 v2832
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2177 : BitVec 32 := 2#32
  let v2834 : BitVec 32 := Scalar.muli v5 c2_i32_2177
  let v2835 : BitVec 32 := Scalar.addi v2833 v2834
  let c1_i32_2170 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2831 : BitVec 32 := Scalar.subi c1_i32_2170 v8
  let c1_i32_2178 : BitVec 32 := 1#32
  let v2836 : BitVec 32 := Scalar.muli v2831 c1_i32_2178
  let v2837 : BitVec 32 := Scalar.addi v2835 v2836
  v2837.toNat
def k0_dev73 (d0 : Dev nD) : Nat :=
  let c0_i32_2198 : BitVec 32 := 0#32
  let c1_i32_2192 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2856 : BitVec 32 := Scalar.subi c1_i32_2192 v2
  let c4_i32_2197 : BitVec 32 := 4#32
  let v2857 : BitVec 32 := Scalar.muli v2856 c4_i32_2197
  let v2858 : BitVec 32 := Scalar.addi c0_i32_2198 v2857
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2199 : BitVec 32 := 2#32
  let v2859 : BitVec 32 := Scalar.muli v5 c2_i32_2199
  let v2860 : BitVec 32 := Scalar.addi v2858 v2859
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2200 : BitVec 32 := 1#32
  let v2861 : BitVec 32 := Scalar.muli v8 c1_i32_2200
  let v2862 : BitVec 32 := Scalar.addi v2860 v2861
  v2862.toNat
def k0_dev74 (d0 : Dev nD) : Nat :=
  let c0_i32_2220 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2219 : BitVec 32 := 4#32
  let v2882 : BitVec 32 := Scalar.muli v2 c4_i32_2219
  let v2883 : BitVec 32 := Scalar.addi c0_i32_2220 v2882
  let c1_i32_2214 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2881 : BitVec 32 := Scalar.subi c1_i32_2214 v5
  let c2_i32_2221 : BitVec 32 := 2#32
  let v2884 : BitVec 32 := Scalar.muli v2881 c2_i32_2221
  let v2885 : BitVec 32 := Scalar.addi v2883 v2884
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2222 : BitVec 32 := 1#32
  let v2886 : BitVec 32 := Scalar.muli v8 c1_i32_2222
  let v2887 : BitVec 32 := Scalar.addi v2885 v2886
  v2887.toNat
def k0_dev75 (d0 : Dev nD) : Nat :=
  let c0_i32_2242 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2241 : BitVec 32 := 4#32
  let v2907 : BitVec 32 := Scalar.muli v2 c4_i32_2241
  let v2908 : BitVec 32 := Scalar.addi c0_i32_2242 v2907
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2243 : BitVec 32 := 2#32
  let v2909 : BitVec 32 := Scalar.muli v5 c2_i32_2243
  let v2910 : BitVec 32 := Scalar.addi v2908 v2909
  let c1_i32_2236 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2906 : BitVec 32 := Scalar.subi c1_i32_2236 v8
  let c1_i32_2244 : BitVec 32 := 1#32
  let v2911 : BitVec 32 := Scalar.muli v2906 c1_i32_2244
  let v2912 : BitVec 32 := Scalar.addi v2910 v2911
  v2912.toNat
def k0_dev76 (d0 : Dev nD) : Nat :=
  let c0_i32_2264 : BitVec 32 := 0#32
  let c1_i32_2258 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2931 : BitVec 32 := Scalar.subi c1_i32_2258 v2
  let c4_i32_2263 : BitVec 32 := 4#32
  let v2932 : BitVec 32 := Scalar.muli v2931 c4_i32_2263
  let v2933 : BitVec 32 := Scalar.addi c0_i32_2264 v2932
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2265 : BitVec 32 := 2#32
  let v2934 : BitVec 32 := Scalar.muli v5 c2_i32_2265
  let v2935 : BitVec 32 := Scalar.addi v2933 v2934
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2266 : BitVec 32 := 1#32
  let v2936 : BitVec 32 := Scalar.muli v8 c1_i32_2266
  let v2937 : BitVec 32 := Scalar.addi v2935 v2936
  v2937.toNat
def k0_dev77 (d0 : Dev nD) : Nat :=
  let c0_i32_2286 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2285 : BitVec 32 := 4#32
  let v2957 : BitVec 32 := Scalar.muli v2 c4_i32_2285
  let v2958 : BitVec 32 := Scalar.addi c0_i32_2286 v2957
  let c1_i32_2280 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2956 : BitVec 32 := Scalar.subi c1_i32_2280 v5
  let c2_i32_2287 : BitVec 32 := 2#32
  let v2959 : BitVec 32 := Scalar.muli v2956 c2_i32_2287
  let v2960 : BitVec 32 := Scalar.addi v2958 v2959
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2288 : BitVec 32 := 1#32
  let v2961 : BitVec 32 := Scalar.muli v8 c1_i32_2288
  let v2962 : BitVec 32 := Scalar.addi v2960 v2961
  v2962.toNat
def k0_dev78 (d0 : Dev nD) : Nat :=
  let c0_i32_2308 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2307 : BitVec 32 := 4#32
  let v2982 : BitVec 32 := Scalar.muli v2 c4_i32_2307
  let v2983 : BitVec 32 := Scalar.addi c0_i32_2308 v2982
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2309 : BitVec 32 := 2#32
  let v2984 : BitVec 32 := Scalar.muli v5 c2_i32_2309
  let v2985 : BitVec 32 := Scalar.addi v2983 v2984
  let c1_i32_2302 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2981 : BitVec 32 := Scalar.subi c1_i32_2302 v8
  let c1_i32_2310 : BitVec 32 := 1#32
  let v2986 : BitVec 32 := Scalar.muli v2981 c1_i32_2310
  let v2987 : BitVec 32 := Scalar.addi v2985 v2986
  v2987.toNat
def k0_dev79 (d0 : Dev nD) : Nat :=
  let c0_i32_2330 : BitVec 32 := 0#32
  let c1_i32_2324 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3006 : BitVec 32 := Scalar.subi c1_i32_2324 v2
  let c4_i32_2329 : BitVec 32 := 4#32
  let v3007 : BitVec 32 := Scalar.muli v3006 c4_i32_2329
  let v3008 : BitVec 32 := Scalar.addi c0_i32_2330 v3007
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2331 : BitVec 32 := 2#32
  let v3009 : BitVec 32 := Scalar.muli v5 c2_i32_2331
  let v3010 : BitVec 32 := Scalar.addi v3008 v3009
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2332 : BitVec 32 := 1#32
  let v3011 : BitVec 32 := Scalar.muli v8 c1_i32_2332
  let v3012 : BitVec 32 := Scalar.addi v3010 v3011
  v3012.toNat
def k0_dev80 (d0 : Dev nD) : Nat :=
  let c0_i32_2352 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2351 : BitVec 32 := 4#32
  let v3032 : BitVec 32 := Scalar.muli v2 c4_i32_2351
  let v3033 : BitVec 32 := Scalar.addi c0_i32_2352 v3032
  let c1_i32_2346 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v3031 : BitVec 32 := Scalar.subi c1_i32_2346 v5
  let c2_i32_2353 : BitVec 32 := 2#32
  let v3034 : BitVec 32 := Scalar.muli v3031 c2_i32_2353
  let v3035 : BitVec 32 := Scalar.addi v3033 v3034
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2354 : BitVec 32 := 1#32
  let v3036 : BitVec 32 := Scalar.muli v8 c1_i32_2354
  let v3037 : BitVec 32 := Scalar.addi v3035 v3036
  v3037.toNat
def k0_dev81 (d0 : Dev nD) : Nat :=
  let c0_i32_2374 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2373 : BitVec 32 := 4#32
  let v3057 : BitVec 32 := Scalar.muli v2 c4_i32_2373
  let v3058 : BitVec 32 := Scalar.addi c0_i32_2374 v3057
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2375 : BitVec 32 := 2#32
  let v3059 : BitVec 32 := Scalar.muli v5 c2_i32_2375
  let v3060 : BitVec 32 := Scalar.addi v3058 v3059
  let c1_i32_2368 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v3056 : BitVec 32 := Scalar.subi c1_i32_2368 v8
  let c1_i32_2376 : BitVec 32 := 1#32
  let v3061 : BitVec 32 := Scalar.muli v3056 c1_i32_2376
  let v3062 : BitVec 32 := Scalar.addi v3060 v3061
  v3062.toNat
def k0_dev82 (d0 : Dev nD) : Nat :=
  let c0_i32_2396 : BitVec 32 := 0#32
  let c1_i32_2390 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3081 : BitVec 32 := Scalar.subi c1_i32_2390 v2
  let c4_i32_2395 : BitVec 32 := 4#32
  let v3082 : BitVec 32 := Scalar.muli v3081 c4_i32_2395
  let v3083 : BitVec 32 := Scalar.addi c0_i32_2396 v3082
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2397 : BitVec 32 := 2#32
  let v3084 : BitVec 32 := Scalar.muli v5 c2_i32_2397
  let v3085 : BitVec 32 := Scalar.addi v3083 v3084
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2398 : BitVec 32 := 1#32
  let v3086 : BitVec 32 := Scalar.muli v8 c1_i32_2398
  let v3087 : BitVec 32 := Scalar.addi v3085 v3086
  v3087.toNat
def k0_dev83 (d0 : Dev nD) : Nat :=
  let c0_i32_2418 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2417 : BitVec 32 := 4#32
  let v3107 : BitVec 32 := Scalar.muli v2 c4_i32_2417
  let v3108 : BitVec 32 := Scalar.addi c0_i32_2418 v3107
  let c1_i32_2412 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v3106 : BitVec 32 := Scalar.subi c1_i32_2412 v5
  let c2_i32_2419 : BitVec 32 := 2#32
  let v3109 : BitVec 32 := Scalar.muli v3106 c2_i32_2419
  let v3110 : BitVec 32 := Scalar.addi v3108 v3109
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2420 : BitVec 32 := 1#32
  let v3111 : BitVec 32 := Scalar.muli v8 c1_i32_2420
  let v3112 : BitVec 32 := Scalar.addi v3110 v3111
  v3112.toNat
def k0_off74 (d0 : Dev nD) (c0_i32_310 : BitVec 32) (c4_i32 : BitVec 32) (c2_i32_1 : BitVec 32) (c1_i32 : BitVec 32) : Fin 2 → Nat :=
  let v0 : BitVec 32 := Dev.word d0
  let v1 : BitVec 32 := Scalar.divsi v0 c4_i32
  let c2_i32 : BitVec 32 := 2#32
  let v2 : BitVec 32 := Scalar.remsi v1 c2_i32
  let c32_i32_309 : BitVec 32 := 32#32
  let v362 : BitVec 32 := Scalar.muli v2 c32_i32_309
  let v363 : BitVec 32 := Scalar.addi c0_i32_310 v362
  let v3 : BitVec 32 := Dev.word d0
  let v4 : BitVec 32 := Scalar.divsi v3 c2_i32_1
  let c2_i32_0 : BitVec 32 := 2#32
  let v5 : BitVec 32 := Scalar.remsi v4 c2_i32_0
  let c16_i32_965 : BitVec 32 := 16#32
  let v1274 : BitVec 32 := Scalar.muli v5 c16_i32_965
  let v1275 : BitVec 32 := Scalar.addi v363 v1274
  let v6 : BitVec 32 := Dev.word d0
  let v7 : BitVec 32 := Scalar.divsi v6 c1_i32
  let c2_i32_2 : BitVec 32 := 2#32
  let v8 : BitVec 32 := Scalar.remsi v7 c2_i32_2
  let c8_i32_1620 : BitVec 32 := 8#32
  let v2186 : BitVec 32 := Scalar.muli v8 c8_i32_1620
  let v2187 : BitVec 32 := Scalar.addi v1275 v2186
  let c8_i32_2081 : BitVec 32 := 8#32
  let v2729 : BitVec 32 := Scalar.muli v8 c8_i32_2081
  let v2730 : BitVec 32 := Scalar.subi v2187 v2729
  let c16_i32_2433 : BitVec 32 := 16#32
  let v3129 : BitVec 32 := Scalar.muli v5 c16_i32_2433
  let v3130 : BitVec 32 := Scalar.subi v2730 v3129
  let c0_i32_2443 : BitVec 32 := 0#32
  ![v3130.toNat, 0]
def k0_off74_at (r : Fin 16) : BitVec 32 × BitVec 32 × BitVec 32 × BitVec 32 :=
  if r.val < 8 then
    if r.val < 4 then
      if r.val < 2 then
        if r.val < 1 then
          (0#32, 4#32, 2#32, 1#32)
        else
          (384#32, 2#32, 1#32, 4#32)
      else
        if r.val < 3 then
          (704#32, 1#32, 4#32, 2#32)
        else
          (64#32, 4#32, 2#32, 1#32)
    else
      if r.val < 6 then
        if r.val < 5 then
          (448#32, 2#32, 1#32, 4#32)
        else
          (768#32, 1#32, 4#32, 2#32)
      else
        if r.val < 7 then
          (128#32, 4#32, 2#32, 1#32)
        else
          (512#32, 2#32, 1#32, 4#32)
  else
    if r.val < 12 then
      if r.val < 10 then
        if r.val < 9 then
          (832#32, 1#32, 4#32, 2#32)
        else
          (192#32, 4#32, 2#32, 1#32)
      else
        if r.val < 11 then
          (576#32, 2#32, 1#32, 4#32)
        else
          (896#32, 1#32, 4#32, 2#32)
    else
      if r.val < 14 then
        if r.val < 13 then
          (256#32, 4#32, 2#32, 1#32)
        else
          (640#32, 2#32, 1#32, 4#32)
      else
        if r.val < 15 then
          (960#32, 1#32, 4#32, 2#32)
        else
          (320#32, 4#32, 2#32, 1#32)
def k0_dev84 (d0 : Dev nD) : Nat :=
  let c0_i32_2440 : BitVec 32 := 0#32
  let c1_i32_2434 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3131 : BitVec 32 := Scalar.subi c1_i32_2434 v2
  let c4_i32_2439 : BitVec 32 := 4#32
  let v3132 : BitVec 32 := Scalar.muli v3131 c4_i32_2439
  let v3133 : BitVec 32 := Scalar.addi c0_i32_2440 v3132
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2441 : BitVec 32 := 2#32
  let v3134 : BitVec 32 := Scalar.muli v5 c2_i32_2441
  let v3135 : BitVec 32 := Scalar.addi v3133 v3134
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2442 : BitVec 32 := 1#32
  let v3136 : BitVec 32 := Scalar.muli v8 c1_i32_2442
  let v3137 : BitVec 32 := Scalar.addi v3135 v3136
  v3137.toNat
def k0_dev85 (d0 : Dev nD) : Nat :=
  let c0_i32_2462 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2461 : BitVec 32 := 4#32
  let v3157 : BitVec 32 := Scalar.muli v2 c4_i32_2461
  let v3158 : BitVec 32 := Scalar.addi c0_i32_2462 v3157
  let c1_i32_2456 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v3156 : BitVec 32 := Scalar.subi c1_i32_2456 v5
  let c2_i32_2463 : BitVec 32 := 2#32
  let v3159 : BitVec 32 := Scalar.muli v3156 c2_i32_2463
  let v3160 : BitVec 32 := Scalar.addi v3158 v3159
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2464 : BitVec 32 := 1#32
  let v3161 : BitVec 32 := Scalar.muli v8 c1_i32_2464
  let v3162 : BitVec 32 := Scalar.addi v3160 v3161
  v3162.toNat
def k0_dev86 (d0 : Dev nD) : Nat :=
  let c0_i32_2484 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2483 : BitVec 32 := 4#32
  let v3182 : BitVec 32 := Scalar.muli v2 c4_i32_2483
  let v3183 : BitVec 32 := Scalar.addi c0_i32_2484 v3182
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2485 : BitVec 32 := 2#32
  let v3184 : BitVec 32 := Scalar.muli v5 c2_i32_2485
  let v3185 : BitVec 32 := Scalar.addi v3183 v3184
  let c1_i32_2478 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v3181 : BitVec 32 := Scalar.subi c1_i32_2478 v8
  let c1_i32_2486 : BitVec 32 := 1#32
  let v3186 : BitVec 32 := Scalar.muli v3181 c1_i32_2486
  let v3187 : BitVec 32 := Scalar.addi v3185 v3186
  v3187.toNat
def k0_dev87 (d0 : Dev nD) : Nat :=
  let c0_i32_2506 : BitVec 32 := 0#32
  let c1_i32_2500 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3206 : BitVec 32 := Scalar.subi c1_i32_2500 v2
  let c4_i32_2505 : BitVec 32 := 4#32
  let v3207 : BitVec 32 := Scalar.muli v3206 c4_i32_2505
  let v3208 : BitVec 32 := Scalar.addi c0_i32_2506 v3207
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2507 : BitVec 32 := 2#32
  let v3209 : BitVec 32 := Scalar.muli v5 c2_i32_2507
  let v3210 : BitVec 32 := Scalar.addi v3208 v3209
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2508 : BitVec 32 := 1#32
  let v3211 : BitVec 32 := Scalar.muli v8 c1_i32_2508
  let v3212 : BitVec 32 := Scalar.addi v3210 v3211
  v3212.toNat
def k0_dev88 (d0 : Dev nD) : Nat :=
  let c0_i32_2528 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2527 : BitVec 32 := 4#32
  let v3232 : BitVec 32 := Scalar.muli v2 c4_i32_2527
  let v3233 : BitVec 32 := Scalar.addi c0_i32_2528 v3232
  let c1_i32_2522 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v3231 : BitVec 32 := Scalar.subi c1_i32_2522 v5
  let c2_i32_2529 : BitVec 32 := 2#32
  let v3234 : BitVec 32 := Scalar.muli v3231 c2_i32_2529
  let v3235 : BitVec 32 := Scalar.addi v3233 v3234
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2530 : BitVec 32 := 1#32
  let v3236 : BitVec 32 := Scalar.muli v8 c1_i32_2530
  let v3237 : BitVec 32 := Scalar.addi v3235 v3236
  v3237.toNat
def k0_dev89 (d0 : Dev nD) : Nat :=
  let c0_i32_2550 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2549 : BitVec 32 := 4#32
  let v3257 : BitVec 32 := Scalar.muli v2 c4_i32_2549
  let v3258 : BitVec 32 := Scalar.addi c0_i32_2550 v3257
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2551 : BitVec 32 := 2#32
  let v3259 : BitVec 32 := Scalar.muli v5 c2_i32_2551
  let v3260 : BitVec 32 := Scalar.addi v3258 v3259
  let c1_i32_2544 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v3256 : BitVec 32 := Scalar.subi c1_i32_2544 v8
  let c1_i32_2552 : BitVec 32 := 1#32
  let v3261 : BitVec 32 := Scalar.muli v3256 c1_i32_2552
  let v3262 : BitVec 32 := Scalar.addi v3260 v3261
  v3262.toNat
def k0_dev90 (d0 : Dev nD) : Nat :=
  let c0_i32_2572 : BitVec 32 := 0#32
  let c1_i32_2566 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3281 : BitVec 32 := Scalar.subi c1_i32_2566 v2
  let c4_i32_2571 : BitVec 32 := 4#32
  let v3282 : BitVec 32 := Scalar.muli v3281 c4_i32_2571
  let v3283 : BitVec 32 := Scalar.addi c0_i32_2572 v3282
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2573 : BitVec 32 := 2#32
  let v3284 : BitVec 32 := Scalar.muli v5 c2_i32_2573
  let v3285 : BitVec 32 := Scalar.addi v3283 v3284
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2574 : BitVec 32 := 1#32
  let v3286 : BitVec 32 := Scalar.muli v8 c1_i32_2574
  let v3287 : BitVec 32 := Scalar.addi v3285 v3286
  v3287.toNat
def k0_dev91 (d0 : Dev nD) : Nat :=
  let c0_i32_2594 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2593 : BitVec 32 := 4#32
  let v3307 : BitVec 32 := Scalar.muli v2 c4_i32_2593
  let v3308 : BitVec 32 := Scalar.addi c0_i32_2594 v3307
  let c1_i32_2588 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v3306 : BitVec 32 := Scalar.subi c1_i32_2588 v5
  let c2_i32_2595 : BitVec 32 := 2#32
  let v3309 : BitVec 32 := Scalar.muli v3306 c2_i32_2595
  let v3310 : BitVec 32 := Scalar.addi v3308 v3309
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2596 : BitVec 32 := 1#32
  let v3311 : BitVec 32 := Scalar.muli v8 c1_i32_2596
  let v3312 : BitVec 32 := Scalar.addi v3310 v3311
  v3312.toNat
def k0_dev92 (d0 : Dev nD) : Nat :=
  let c0_i32_2616 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2615 : BitVec 32 := 4#32
  let v3332 : BitVec 32 := Scalar.muli v2 c4_i32_2615
  let v3333 : BitVec 32 := Scalar.addi c0_i32_2616 v3332
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2617 : BitVec 32 := 2#32
  let v3334 : BitVec 32 := Scalar.muli v5 c2_i32_2617
  let v3335 : BitVec 32 := Scalar.addi v3333 v3334
  let c1_i32_2610 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v3331 : BitVec 32 := Scalar.subi c1_i32_2610 v8
  let c1_i32_2618 : BitVec 32 := 1#32
  let v3336 : BitVec 32 := Scalar.muli v3331 c1_i32_2618
  let v3337 : BitVec 32 := Scalar.addi v3335 v3336
  v3337.toNat
def k0_dev93 (d0 : Dev nD) : Nat :=
  let c0_i32_2638 : BitVec 32 := 0#32
  let c1_i32_2632 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3356 : BitVec 32 := Scalar.subi c1_i32_2632 v2
  let c4_i32_2637 : BitVec 32 := 4#32
  let v3357 : BitVec 32 := Scalar.muli v3356 c4_i32_2637
  let v3358 : BitVec 32 := Scalar.addi c0_i32_2638 v3357
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2639 : BitVec 32 := 2#32
  let v3359 : BitVec 32 := Scalar.muli v5 c2_i32_2639
  let v3360 : BitVec 32 := Scalar.addi v3358 v3359
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2640 : BitVec 32 := 1#32
  let v3361 : BitVec 32 := Scalar.muli v8 c1_i32_2640
  let v3362 : BitVec 32 := Scalar.addi v3360 v3361
  v3362.toNat
def k0_dev94 (d0 : Dev nD) : Nat :=
  let c0_i32_2660 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2659 : BitVec 32 := 4#32
  let v3382 : BitVec 32 := Scalar.muli v2 c4_i32_2659
  let v3383 : BitVec 32 := Scalar.addi c0_i32_2660 v3382
  let c1_i32_2654 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v3381 : BitVec 32 := Scalar.subi c1_i32_2654 v5
  let c2_i32_2661 : BitVec 32 := 2#32
  let v3384 : BitVec 32 := Scalar.muli v3381 c2_i32_2661
  let v3385 : BitVec 32 := Scalar.addi v3383 v3384
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2662 : BitVec 32 := 1#32
  let v3386 : BitVec 32 := Scalar.muli v8 c1_i32_2662
  let v3387 : BitVec 32 := Scalar.addi v3385 v3386
  v3387.toNat
def k0_dev95 (d0 : Dev nD) : Nat :=
  let c0_i32_2682 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2681 : BitVec 32 := 4#32
  let v3407 : BitVec 32 := Scalar.muli v2 c4_i32_2681
  let v3408 : BitVec 32 := Scalar.addi c0_i32_2682 v3407
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2683 : BitVec 32 := 2#32
  let v3409 : BitVec 32 := Scalar.muli v5 c2_i32_2683
  let v3410 : BitVec 32 := Scalar.addi v3408 v3409
  let c1_i32_2676 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v3406 : BitVec 32 := Scalar.subi c1_i32_2676 v8
  let c1_i32_2684 : BitVec 32 := 1#32
  let v3411 : BitVec 32 := Scalar.muli v3406 c1_i32_2684
  let v3412 : BitVec 32 := Scalar.addi v3410 v3411
  v3412.toNat
def k0_dev96 (d0 : Dev nD) : Nat :=
  let c0_i32_2704 : BitVec 32 := 0#32
  let c1_i32_2698 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3431 : BitVec 32 := Scalar.subi c1_i32_2698 v2
  let c4_i32_2703 : BitVec 32 := 4#32
  let v3432 : BitVec 32 := Scalar.muli v3431 c4_i32_2703
  let v3433 : BitVec 32 := Scalar.addi c0_i32_2704 v3432
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2705 : BitVec 32 := 2#32
  let v3434 : BitVec 32 := Scalar.muli v5 c2_i32_2705
  let v3435 : BitVec 32 := Scalar.addi v3433 v3434
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2706 : BitVec 32 := 1#32
  let v3436 : BitVec 32 := Scalar.muli v8 c1_i32_2706
  let v3437 : BitVec 32 := Scalar.addi v3435 v3436
  v3437.toNat
def k0_dev97 (d0 : Dev nD) : Nat :=
  let c0_i32_2726 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2725 : BitVec 32 := 4#32
  let v3457 : BitVec 32 := Scalar.muli v2 c4_i32_2725
  let v3458 : BitVec 32 := Scalar.addi c0_i32_2726 v3457
  let c1_i32_2720 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v3456 : BitVec 32 := Scalar.subi c1_i32_2720 v5
  let c2_i32_2727 : BitVec 32 := 2#32
  let v3459 : BitVec 32 := Scalar.muli v3456 c2_i32_2727
  let v3460 : BitVec 32 := Scalar.addi v3458 v3459
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2728 : BitVec 32 := 1#32
  let v3461 : BitVec 32 := Scalar.muli v8 c1_i32_2728
  let v3462 : BitVec 32 := Scalar.addi v3460 v3461
  v3462.toNat
def k0_dev98 (d0 : Dev nD) : Nat :=
  let c0_i32_2748 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2747 : BitVec 32 := 4#32
  let v3482 : BitVec 32 := Scalar.muli v2 c4_i32_2747
  let v3483 : BitVec 32 := Scalar.addi c0_i32_2748 v3482
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2749 : BitVec 32 := 2#32
  let v3484 : BitVec 32 := Scalar.muli v5 c2_i32_2749
  let v3485 : BitVec 32 := Scalar.addi v3483 v3484
  let c1_i32_2742 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v3481 : BitVec 32 := Scalar.subi c1_i32_2742 v8
  let c1_i32_2750 : BitVec 32 := 1#32
  let v3486 : BitVec 32 := Scalar.muli v3481 c1_i32_2750
  let v3487 : BitVec 32 := Scalar.addi v3485 v3486
  v3487.toNat
def k0_dev99 (d0 : Dev nD) : Nat :=
  let c0_i32_2770 : BitVec 32 := 0#32
  let c1_i32_2764 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3506 : BitVec 32 := Scalar.subi c1_i32_2764 v2
  let c4_i32_2769 : BitVec 32 := 4#32
  let v3507 : BitVec 32 := Scalar.muli v3506 c4_i32_2769
  let v3508 : BitVec 32 := Scalar.addi c0_i32_2770 v3507
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2771 : BitVec 32 := 2#32
  let v3509 : BitVec 32 := Scalar.muli v5 c2_i32_2771
  let v3510 : BitVec 32 := Scalar.addi v3508 v3509
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2772 : BitVec 32 := 1#32
  let v3511 : BitVec 32 := Scalar.muli v8 c1_i32_2772
  let v3512 : BitVec 32 := Scalar.addi v3510 v3511
  v3512.toNat
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2x2x1024x1024 : Shape := ⟨5, ![2, 2, 2, 1024, 1024]⟩
abbrev S_ : Shape := ⟨0, ![]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2x2x2x1024x1024, .bf16⟩
  | .hbm, ⟨1, _⟩ => ⟨S2x2x2x1024x1024, .f32⟩
  | .hbm, ⟨2, _⟩ => ⟨S_, .f32⟩
  | .hbm, ⟨3, _⟩ => ⟨S1024x1024, .f32⟩
  | .hbm, ⟨4, _⟩ => ⟨S1024x1024, .bf16⟩
  | _, _ => ⟨S2x2x2x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Script.lean ====
/-
The program of one device as a list of steps.

The kernel splits the 1024 rows of `out` into sixteen chains of 64 rows. Every chain runs the same 24 steps, and the
program interleaves the chains. A `Step` is one chain's next action; `Step.prog` is its program text in front of the
rest of the program, for every chain and phase at once.
-/
module

public import proofs.«01_k».proof.Proof.Gen.KernelIdeal

@[expose] public section

noncomputable section

namespace Cert.AllReduce

open Cert.KernelIdeal Cert.KernelIdeal.Gen
open Idealize.ShloMosaic Idealize.SL.Sem

/-! ## Geometry -/

/-- The mesh axis that chain `s` exchanges over in phase `p`: chains 0–5 go x, y, z; chains 6–10 go y, z, x;
    the rest go z, x, y. -/
def ax (s : Fin 16) (p : Fin 3) : Fin 3 := if s.val < 6 then p else if s.val < 11 then p + 1 else p + 2

/-- The word a device id is divided by to find its coordinate on the axis of phase `p`. -/
def dv (s : Fin 16) (p : Fin 3) : BitVec 32 := match ax s p with | 0 => 4#32 | 1 => 2#32 | 2 => 1#32

/-- The first row of chain `s`, as a word. -/
def bw (s : Fin 16) : BitVec 32 := BitVec.ofNat 32 (64 * s.val)

/-- Rows moved in reduce-scatter phase `p`. -/
def rsz (p : Fin 3) : ℕ := match p with | 0 => 32 | 1 => 16 | 2 => 8
/-- Rows moved in all-gather phase `q`. -/
def gsz (q : Fin 3) : ℕ := match q with | 0 => 8 | 1 => 16 | 2 => 32
/-- Rows touched by addition `j`. -/
def asz (j : Fin 5) : ℕ := match j with | 0 => 16 | 1 => 16 | 2 => 8 | 3 => 8 | 4 => 8
/-- Where phase `p`'s landing rows start in a chain's plane of the receive buffer. -/
def rbo (p : Fin 3) : ℕ := match p with | 0 => 0 | 1 => 32 | 2 => 48

/-- A block of `n` rows, flat and as one plane of the receive buffer. -/
abbrev Sh (n : ℕ) : Shape := ⟨2, ![n, 1024]⟩
abbrev Sh1 (n : ℕ) : Shape := ⟨3, ![1, n, 1024]⟩

/-- The rows a device sends in phase `p`, as the program computes them. -/
def srcOff (p : Fin 3) (s : Fin 16) (d : Dev nD) : Fin 2 → ℕ :=
  match p with
  | 0 => k0_off1 d (bw s) (dv s 0)
  | 1 => k0_off4 d (bw s) (dv s 0) (dv s 1)
  | 2 => k0_off39 d (bw s) (dv s 0) (dv s 1) (dv s 2)

/-- The rows addition `j` updates, as the program computes them. -/
def addOff (j : Fin 5) (s : Fin 16) (d : Dev nD) : Fin 2 → ℕ :=
  match j with
  | 0 => k0_off2 d (bw s) (dv s 0) (dv s 1)
  | 1 => k0_off5 d (bw s) (dv s 0) (dv s 1)
  | 2 => k0_off37 d (bw s) (dv s 0) (dv s 1) (dv s 2)
  | 3 => k0_off40 d (bw s) (dv s 0) (dv s 1) (dv s 2)
  | 4 => k0_off40 d (bw s) (dv s 0) (dv s 1) (dv s 2)

/-- The rows a device sends in all-gather phase `q`, as the program computes them. -/
def gatOff (q : Fin 3) (s : Fin 16) (d : Dev nD) : Fin 2 → ℕ :=
  match q with
  | 0 => k0_off72 d (bw s) (dv s 0) (dv s 1) (dv s 2)
  | 1 => k0_off73 d (bw s) (dv s 0) (dv s 1) (dv s 2)
  | 2 => k0_off74 d (bw s) (dv s 0) (dv s 1) (dv s 2)

theorem inb_src (p : Fin 3) (s : Fin 16) (d : Dev nD) : ∀ a, srcOff p s d a + (Sh (rsz p)).size a ≤ S1024x1024.size a := by
  revert p s d; decide +kernel
theorem inb_add (j : Fin 5) (s : Fin 16) (d : Dev nD) : ∀ a, addOff j s d a + (Sh (asz j)).size a ≤ S1024x1024.size a := by
  revert j s d; decide +kernel
theorem inb_gat (q : Fin 3) (s : Fin 16) (d : Dev nD) : ∀ a, gatOff q s d a + (Sh (gsz q)).size a ≤ S1024x1024.size a := by
  revert q s d; decide +kernel
theorem inb_rb (p : Fin 3) (s : Fin 16) : ∀ a, (![s.val, rbo p, 0] : Fin 3 → ℕ) a + (Sh1 (rsz p)).size a ≤ S16x56x1024.size a := by
  revert p s; decide +kernel
theorem inb_cv (s : Fin 16) : ∀ a, (![64 * s.val, 0] : Fin 2 → ℕ) a + (Sh 64).size a ≤ S1024x1024.size a := by
  revert s; decide +kernel
theorem inb_sem (p : Fin 6) (s : Fin 16) : ∀ a, (![p.val, s.val] : Fin 2 → ℕ) a + S1x1.size a ≤ S6x16.size a := by
  revert p s; decide +kernel

theorem words_src (p : Fin 3) (s : Fin 16) (d : Dev nD) :
    (Rect.unit (s := S1024x1024) (srcOff p s d) (Sh (rsz p)).size (inb_src p s d)).WholeWords (EltTy.packing .bf16) := by
  revert p s d; decide +kernel
theorem words_gat (q : Fin 3) (s : Fin 16) (d : Dev nD) :
    (Rect.unit (s := S1024x1024) (gatOff q s d) (Sh (gsz q)).size (inb_gat q s d)).WholeWords (EltTy.packing .bf16) := by
  revert q s d; decide +kernel
theorem words_rb (p : Fin 3) (s : Fin 16) :
    (Rect.unit (s := S16x56x1024) ![s.val, rbo p, 0] (Sh1 (rsz p)).size (inb_rb p s)).WholeWords (EltTy.packing .bf16) := by
  revert p s; decide +kernel
theorem packed_add (j : Fin 5) (s : Fin 16) (d : Dev nD) :
    (Rect.unit (s := S1024x1024) (addOff j s d) (Sh (asz j)).size (inb_add j s d)).PackedRows (EltTy.packing .bf16) := by
  revert j s d; decide +kernel
theorem packed_cv (s : Fin 16) :
    (Rect.unit (s := S1024x1024) ![64 * s.val, 0] (Sh 64).size (inb_cv s)).PackedRows (EltTy.packing .bf16) := by
  revert s; decide +kernel

theorem pos_r (p : Fin 3) : 0 < (Sh (rsz p)).numel := by revert p; decide
theorem pos_a (j : Fin 5) : 0 < (Sh (asz j)).numel := by revert j; decide
theorem pos_a1 (j : Fin 5) : 0 < (Sh1 (asz j)).numel := by revert j; decide
theorem pos_cv : 0 < (Sh 64).numel := by decide
theorem squeezes_r (p : Fin 3) : (Sh1 (rsz p)).Squeezes (Sh (rsz p)) := by revert p; decide
theorem casts_a (j : Fin 5) : (Sh (asz j)).ShapeCasts (Sh (asz j)) := rfl
theorem casts_a1 (j : Fin 5) : (Sh1 (asz j)).ShapeCasts (Sh (asz j)) := by revert j; decide
theorem casts_cv : (Sh 64).ShapeCasts (Sh 64) := rfl

/-- All-gather phase `q` uses semaphore row `3 + q`. -/
def gph (q : Fin 3) : Fin 6 := match q with | 0 => 3 | 1 => 4 | 2 => 5
/-- Reduce-scatter phase `p` uses semaphore row `p`. -/
def rph (p : Fin 3) : Fin 6 := match p with | 0 => 0 | 1 => 1 | 2 => 2

/-! ## The steps -/

/-- One action of a chain. A copy carries the device it goes to; an addition carries where it reads the receive buffer. -/
inductive Kind where
  | conv
  | sendR (p : Fin 3) (n : Dev nD)
  | waitR (p : Fin 3)
  | add (j : Fin 5) (off : Fin 3 → ℕ) (h : ∀ a, off a + (Sh1 (asz j)).size a ≤ S16x56x1024.size a)
  | sendG (q : Fin 3) (n : Dev nD)
  | waitG (q : Fin 3)
  | doneR (p : Fin 3)
  | doneG (q : Fin 3)

/-- One action of the program: which chain, and what. -/
structure Step where
  s : Fin 16
  k : Kind

variable {F : FTy → Type} [FloatOps F]

section Text
variable (arg0 : Memref sig .tc .vmem S1024x1024 .bf16) (harg0 : arg0.IsWhole)
  (arg1 : Memref sig .tc .vmem S1024x1024 .bf16) (harg1 : arg1.IsWhole)
  (arg2 : Memref sig .tc .vmem S16x56x1024 .bf16) (harg2 : arg2.IsWhole)
  (arg3 arg4 : DmaSems sig S6x16) (d : Dev nD)

/-- Semaphore `[p, s]` of a 6 × 16 array. -/
def semAt (a : DmaSems sig S6x16) (p : Fin 6) (s : Fin 16) : DmaSems sig S_ :=
  (a.slice (Rect.unit (s := S6x16) ![p.val, s.val] S1x1.size (inb_sem p s))).squeeze S_ squeezes_S1x1_S_
/-- The rows sent in reduce-scatter phase `p`. -/
def srcM (p : Fin 3) (s : Fin 16) : Memref sig .tc .vmem (Sh (rsz p)) .bf16 :=
  arg1.slice (Rect.unit (s := S1024x1024) (srcOff p s d) (Sh (rsz p)).size (inb_src p s d)) (fun _ => rfl)
/-- The rows sent in all-gather phase `q`. -/
def gatM (q : Fin 3) (s : Fin 16) : Memref sig .tc .vmem (Sh (gsz q)) .bf16 :=
  arg1.slice (Rect.unit (s := S1024x1024) (gatOff q s d) (Sh (gsz q)).size (inb_gat q s d)) (fun _ => rfl)
/-- The landing rows of phase `p` in the receive buffer. -/
def landM (p : Fin 3) (s : Fin 16) : Memref sig .tc .vmem (Sh (rsz p)) .bf16 :=
  (arg2.slice (Rect.unit (s := S16x56x1024) ![s.val, rbo p, 0] (Sh1 (rsz p)).size (inb_rb p s)) (fun _ => rfl)).squeeze (Sh (rsz p)) (squeezes_r p)

/-- The text of one step in front of the rest of the program. -/
def Step.prog (t : Step) (rest : Prog (TpuEff nD τ sig (Elt F) Λ₀ .tc) PUnit) : Prog (TpuEff nD τ sig (Elt F) Λ₀ .tc) PUnit :=
  match t.k with
  | .conv => do
    let v : Vec F (Sh 64) .bf16 ← Prog.lift (.load arg0 (Rect.unit (s := S1024x1024) ![64 * t.s.val, 0] (Sh 64).size (inb_cv t.s)).toLoadRect (View.loadsAt_vmem pos_cv))
    let _ : Vec F (Sh 64) .bf16 ← Prog.lift (.load arg1 (Rect.unit (s := S1024x1024) ![64 * t.s.val, 0] (Sh 64).size (inb_cv t.s)).toLoadRect (View.loadsAt_vmem pos_cv))
    Prog.lift (.store arg1 (Rect.unit (s := S1024x1024) ![64 * t.s.val, 0] (Sh 64).size (inb_cv t.s)) (shapeCast (Sh 64) v casts_cv) Finset.univ (View.stores_vmem pos_cv (harg1.storeExact_slice rfl _ (packed_cv t.s)) (fun _ => rfl)) (.inl rfl))
    rest
  | .sendR p n => do
    Prog.lift (.enqueueDma (srcM arg1 d p t.s) (.remote (Dev.tc n) (landM arg2 p t.s) (.dma (semAt arg3 (rph p) t.s).sem)) (.dma (semAt arg4 (rph p) t.s).sem)
      (harg1.wordExact_slice rfl _ (words_src p t.s d)) ((harg2.wordExact_slice rfl _ (words_rb p t.s)).reshape _ _) ⟨⟨rfl, Or.inl rfl⟩, trivial⟩)
    rest
  | .waitR p => do
    Prog.lift (.waitDma2 (semAt arg4 (rph p) t.s).sem (srcM arg1 d p t.s) (landM arg2 p t.s)
      (harg1.wordExact_slice rfl _ (words_src p t.s d)) ((harg2.wordExact_slice rfl _ (words_rb p t.s)).reshape _ _))
    rest
  | .add j off h => do
    let v : Vec F (Sh (asz j)) .bf16 ← Prog.lift (.load arg1 (Rect.unit (s := S1024x1024) (addOff j t.s d) (Sh (asz j)).size (inb_add j t.s d)).toLoadRect (View.loadsAt_vmem (pos_a j)))
    let w : Vec F (Sh1 (asz j)) .bf16 ← Prog.lift (.load arg2 (Rect.unit (s := S16x56x1024) off (Sh1 (asz j)).size h).toLoadRect (View.loadsAt_vmem (pos_a1 j)))
    let _ : Vec F (Sh (asz j)) .bf16 ← Prog.lift (.load arg1 (Rect.unit (s := S1024x1024) (addOff j t.s d) (Sh (asz j)).size (inb_add j t.s d)).toLoadRect (View.loadsAt_vmem (pos_a j)))
    Prog.lift (.store arg1 (Rect.unit (s := S1024x1024) (addOff j t.s d) (Sh (asz j)).size (inb_add j t.s d))
      (addf (shapeCast (Sh (asz j)) v (casts_a j)) (shapeCast (Sh (asz j)) w (casts_a1 j))) Finset.univ
      (View.stores_vmem (pos_a j) (harg1.storeExact_slice rfl _ (packed_add j t.s d)) (fun _ => rfl)) (.inl rfl))
    rest
  | .sendG q n => do
    Prog.lift (.enqueueDma (gatM arg1 d q t.s) (.remote (Dev.tc n) (gatM arg1 d q t.s) (.dma (semAt arg3 (gph q) t.s).sem)) (.dma (semAt arg4 (gph q) t.s).sem)
      (harg1.wordExact_slice rfl _ (words_gat q t.s d)) (harg1.wordExact_slice rfl _ (words_gat q t.s d)) ⟨⟨rfl, Or.inl rfl⟩, trivial⟩)
    rest
  | .waitG q => do
    Prog.lift (.waitDma2 (semAt arg4 (gph q) t.s).sem (gatM arg1 d q t.s) (gatM arg1 d q t.s)
      (harg1.wordExact_slice rfl _ (words_gat q t.s d)) (harg1.wordExact_slice rfl _ (words_gat q t.s d)))
    rest
  | .doneR p => do
    Prog.lift (.waitDma2 (semAt arg3 (rph p) t.s).sem (landM arg2 p t.s) (srcM arg1 d p t.s)
      ((harg2.wordExact_slice rfl _ (words_rb p t.s)).reshape _ _) (harg1.wordExact_slice rfl _ (words_src p t.s d)))
    rest
  | .doneG q => do
    Prog.lift (.waitDma2 (semAt arg3 (gph q) t.s).sem (gatM arg1 d q t.s) (gatM arg1 d q t.s)
      (harg1.wordExact_slice rfl _ (words_gat q t.s d)) (harg1.wordExact_slice rfl _ (words_gat q t.s d)))
    rest

/-- The text of a list of steps. -/
def runSteps : List Step → Prog (TpuEff nD τ sig (Elt F) Λ₀ .tc) PUnit
  | [] => .ret ⟨⟩
  | t :: l => t.prog arg0 arg1 harg1 arg2 harg2 arg3 arg4 d (runSteps l)

end Text

end Cert.AllReduce
-- ==== Proof.Text.lean ====
/-
The whole program as steps: three signals, the first chain's load, the barrier wait, and the list `script`.
-/
module

public import proofs.«01_k».proof.Proof.Script

@[expose] public section

noncomputable section

namespace Cert.AllReduce

open Cert.KernelIdeal Cert.KernelIdeal.Gen
open Idealize.ShloMosaic Idealize.SL.Sem

/-- The steps after the barrier, in program order, with the destinations and receive-buffer offsets the program computes. -/
def script (d : Dev nD) : List Step :=
  [⟨0, .sendR 0 ⟨k0_dev4 d, k0_dev4_lt d⟩⟩,
   ⟨6, .conv⟩,
   ⟨6, .sendR 0 ⟨k0_dev5 d, k0_dev5_lt d⟩⟩,
   ⟨11, .conv⟩,
   ⟨11, .sendR 0 ⟨k0_dev6 d, k0_dev6_lt d⟩⟩,
   ⟨1, .conv⟩,
   ⟨1, .sendR 0 ⟨k0_dev7 d, k0_dev7_lt d⟩⟩,
   ⟨7, .conv⟩,
   ⟨7, .sendR 0 ⟨k0_dev8 d, k0_dev8_lt d⟩⟩,
   ⟨12, .conv⟩,
   ⟨12, .sendR 0 ⟨k0_dev9 d, k0_dev9_lt d⟩⟩,
   ⟨2, .conv⟩,
   ⟨2, .sendR 0 ⟨k0_dev10 d, k0_dev10_lt d⟩⟩,
   ⟨8, .conv⟩,
   ⟨8, .sendR 0 ⟨k0_dev11 d, k0_dev11_lt d⟩⟩,
   ⟨13, .conv⟩,
   ⟨13, .sendR 0 ⟨k0_dev12 d, k0_dev12_lt d⟩⟩,
   ⟨3, .conv⟩,
   ⟨3, .sendR 0 ⟨k0_dev13 d, k0_dev13_lt d⟩⟩,
   ⟨9, .conv⟩,
   ⟨9, .sendR 0 ⟨k0_dev14 d, k0_dev14_lt d⟩⟩,
   ⟨14, .conv⟩,
   ⟨14, .sendR 0 ⟨k0_dev15 d, k0_dev15_lt d⟩⟩,
   ⟨4, .conv⟩,
   ⟨4, .sendR 0 ⟨k0_dev16 d, k0_dev16_lt d⟩⟩,
   ⟨10, .conv⟩,
   ⟨10, .sendR 0 ⟨k0_dev17 d, k0_dev17_lt d⟩⟩,
   ⟨15, .conv⟩,
   ⟨15, .sendR 0 ⟨k0_dev18 d, k0_dev18_lt d⟩⟩,
   ⟨5, .conv⟩,
   ⟨5, .sendR 0 ⟨k0_dev19 d, k0_dev19_lt d⟩⟩,
   ⟨0, .waitR 0⟩,
   ⟨0, .add 0 (k0_off3 d) (k0_off3_inb d)⟩,
   ⟨0, .sendR 1 ⟨k0_dev20 d, k0_dev20_lt d⟩⟩,
   ⟨0, .add 1 (k0_off6 d) (k0_off6_inb d)⟩,
   ⟨6, .waitR 0⟩,
   ⟨6, .add 0 (k0_off7 d) (k0_off7_inb d)⟩,
   ⟨6, .sendR 1 ⟨k0_dev21 d, k0_dev21_lt d⟩⟩,
   ⟨6, .add 1 (k0_off8 d) (k0_off8_inb d)⟩,
   ⟨11, .waitR 0⟩,
   ⟨11, .add 0 (k0_off9 d) (k0_off9_inb d)⟩,
   ⟨11, .sendR 1 ⟨k0_dev22 d, k0_dev22_lt d⟩⟩,
   ⟨11, .add 1 (k0_off10 d) (k0_off10_inb d)⟩,
   ⟨1, .waitR 0⟩,
   ⟨1, .add 0 (k0_off11 d) (k0_off11_inb d)⟩,
   ⟨1, .sendR 1 ⟨k0_dev23 d, k0_dev23_lt d⟩⟩,
   ⟨1, .add 1 (k0_off12 d) (k0_off12_inb d)⟩,
   ⟨7, .waitR 0⟩,
   ⟨7, .add 0 (k0_off13 d) (k0_off13_inb d)⟩,
   ⟨7, .sendR 1 ⟨k0_dev24 d, k0_dev24_lt d⟩⟩,
   ⟨7, .add 1 (k0_off14 d) (k0_off14_inb d)⟩,
   ⟨12, .waitR 0⟩,
   ⟨12, .add 0 (k0_off15 d) (k0_off15_inb d)⟩,
   ⟨12, .sendR 1 ⟨k0_dev25 d, k0_dev25_lt d⟩⟩,
   ⟨12, .add 1 (k0_off16 d) (k0_off16_inb d)⟩,
   ⟨2, .waitR 0⟩,
   ⟨2, .add 0 (k0_off17 d) (k0_off17_inb d)⟩,
   ⟨2, .sendR 1 ⟨k0_dev26 d, k0_dev26_lt d⟩⟩,
   ⟨2, .add 1 (k0_off18 d) (k0_off18_inb d)⟩,
   ⟨8, .waitR 0⟩,
   ⟨8, .add 0 (k0_off19 d) (k0_off19_inb d)⟩,
   ⟨8, .sendR 1 ⟨k0_dev27 d, k0_dev27_lt d⟩⟩,
   ⟨8, .add 1 (k0_off20 d) (k0_off20_inb d)⟩,
   ⟨13, .waitR 0⟩,
   ⟨13, .add 0 (k0_off21 d) (k0_off21_inb d)⟩,
   ⟨13, .sendR 1 ⟨k0_dev28 d, k0_dev28_lt d⟩⟩,
   ⟨13, .add 1 (k0_off22 d) (k0_off22_inb d)⟩,
   ⟨3, .waitR 0⟩,
   ⟨3, .add 0 (k0_off23 d) (k0_off23_inb d)⟩,
   ⟨3, .sendR 1 ⟨k0_dev29 d, k0_dev29_lt d⟩⟩,
   ⟨3, .add 1 (k0_off24 d) (k0_off24_inb d)⟩,
   ⟨9, .waitR 0⟩,
   ⟨9, .add 0 (k0_off25 d) (k0_off25_inb d)⟩,
   ⟨9, .sendR 1 ⟨k0_dev30 d, k0_dev30_lt d⟩⟩,
   ⟨9, .add 1 (k0_off26 d) (k0_off26_inb d)⟩,
   ⟨14, .waitR 0⟩,
   ⟨14, .add 0 (k0_off27 d) (k0_off27_inb d)⟩,
   ⟨14, .sendR 1 ⟨k0_dev31 d, k0_dev31_lt d⟩⟩,
   ⟨14, .add 1 (k0_off28 d) (k0_off28_inb d)⟩,
   ⟨4, .waitR 0⟩,
   ⟨4, .add 0 (k0_off29 d) (k0_off29_inb d)⟩,
   ⟨4, .sendR 1 ⟨k0_dev32 d, k0_dev32_lt d⟩⟩,
   ⟨4, .add 1 (k0_off30 d) (k0_off30_inb d)⟩,
   ⟨10, .waitR 0⟩,
   ⟨10, .add 0 (k0_off31 d) (k0_off31_inb d)⟩,
   ⟨10, .sendR 1 ⟨k0_dev33 d, k0_dev33_lt d⟩⟩,
   ⟨10, .add 1 (k0_off32 d) (k0_off32_inb d)⟩,
   ⟨15, .waitR 0⟩,
   ⟨15, .add 0 (k0_off33 d) (k0_off33_inb d)⟩,
   ⟨15, .sendR 1 ⟨k0_dev34 d, k0_dev34_lt d⟩⟩,
   ⟨15, .add 1 (k0_off34 d) (k0_off34_inb d)⟩,
   ⟨5, .waitR 0⟩,
   ⟨5, .add 0 (k0_off35 d) (k0_off35_inb d)⟩,
   ⟨5, .sendR 1 ⟨k0_dev35 d, k0_dev35_lt d⟩⟩,
   ⟨5, .add 1 (k0_off36 d) (k0_off36_inb d)⟩,
   ⟨0, .waitR 1⟩,
   ⟨0, .add 2 (k0_off38 d) (k0_off38_inb d)⟩,
   ⟨0, .sendR 2 ⟨k0_dev36 d, k0_dev36_lt d⟩⟩,
   ⟨0, .add 3 (k0_off41 d) (k0_off41_inb d)⟩,
   ⟨6, .waitR 1⟩,
   ⟨6, .add 2 (k0_off42 d) (k0_off42_inb d)⟩,
   ⟨6, .sendR 2 ⟨k0_dev37 d, k0_dev37_lt d⟩⟩,
   ⟨6, .add 3 (k0_off43 d) (k0_off43_inb d)⟩,
   ⟨11, .waitR 1⟩,
   ⟨11, .add 2 (k0_off44 d) (k0_off44_inb d)⟩,
   ⟨11, .sendR 2 ⟨k0_dev38 d, k0_dev38_lt d⟩⟩,
   ⟨11, .add 3 (k0_off45 d) (k0_off45_inb d)⟩,
   ⟨1, .waitR 1⟩,
   ⟨1, .add 2 (k0_off46 d) (k0_off46_inb d)⟩,
   ⟨1, .sendR 2 ⟨k0_dev39 d, k0_dev39_lt d⟩⟩,
   ⟨1, .add 3 (k0_off47 d) (k0_off47_inb d)⟩,
   ⟨7, .waitR 1⟩,
   ⟨7, .add 2 (k0_off48 d) (k0_off48_inb d)⟩,
   ⟨7, .sendR 2 ⟨k0_dev40 d, k0_dev40_lt d⟩⟩,
   ⟨7, .add 3 (k0_off49 d) (k0_off49_inb d)⟩,
   ⟨12, .waitR 1⟩,
   ⟨12, .add 2 (k0_off50 d) (k0_off50_inb d)⟩,
   ⟨12, .sendR 2 ⟨k0_dev41 d, k0_dev41_lt d⟩⟩,
   ⟨12, .add 3 (k0_off51 d) (k0_off51_inb d)⟩,
   ⟨2, .waitR 1⟩,
   ⟨2, .add 2 (k0_off52 d) (k0_off52_inb d)⟩,
   ⟨2, .sendR 2 ⟨k0_dev42 d, k0_dev42_lt d⟩⟩,
   ⟨2, .add 3 (k0_off53 d) (k0_off53_inb d)⟩,
   ⟨8, .waitR 1⟩,
   ⟨8, .add 2 (k0_off54 d) (k0_off54_inb d)⟩,
   ⟨8, .sendR 2 ⟨k0_dev43 d, k0_dev43_lt d⟩⟩,
   ⟨8, .add 3 (k0_off55 d) (k0_off55_inb d)⟩,
   ⟨13, .waitR 1⟩,
   ⟨13, .add 2 (k0_off56 d) (k0_off56_inb d)⟩,
   ⟨13, .sendR 2 ⟨k0_dev44 d, k0_dev44_lt d⟩⟩,
   ⟨13, .add 3 (k0_off57 d) (k0_off57_inb d)⟩,
   ⟨3, .waitR 1⟩,
   ⟨3, .add 2 (k0_off58 d) (k0_off58_inb d)⟩,
   ⟨3, .sendR 2 ⟨k0_dev45 d, k0_dev45_lt d⟩⟩,
   ⟨3, .add 3 (k0_off59 d) (k0_off59_inb d)⟩,
   ⟨9, .waitR 1⟩,
   ⟨9, .add 2 (k0_off60 d) (k0_off60_inb d)⟩,
   ⟨9, .sendR 2 ⟨k0_dev46 d, k0_dev46_lt d⟩⟩,
   ⟨9, .add 3 (k0_off61 d) (k0_off61_inb d)⟩,
   ⟨14, .waitR 1⟩,
   ⟨14, .add 2 (k0_off62 d) (k0_off62_inb d)⟩,
   ⟨14, .sendR 2 ⟨k0_dev47 d, k0_dev47_lt d⟩⟩,
   ⟨14, .add 3 (k0_off63 d) (k0_off63_inb d)⟩,
   ⟨4, .waitR 1⟩,
   ⟨4, .add 2 (k0_off64 d) (k0_off64_inb d)⟩,
   ⟨4, .sendR 2 ⟨k0_dev48 d, k0_dev48_lt d⟩⟩,
   ⟨4, .add 3 (k0_off65 d) (k0_off65_inb d)⟩,
   ⟨10, .waitR 1⟩,
   ⟨10, .add 2 (k0_off66 d) (k0_off66_inb d)⟩,
   ⟨10, .sendR 2 ⟨k0_dev49 d, k0_dev49_lt d⟩⟩,
   ⟨10, .add 3 (k0_off67 d) (k0_off67_inb d)⟩,
   ⟨15, .waitR 1⟩,
   ⟨15, .add 2 (k0_off68 d) (k0_off68_inb d)⟩,
   ⟨15, .sendR 2 ⟨k0_dev50 d, k0_dev50_lt d⟩⟩,
   ⟨15, .add 3 (k0_off69 d) (k0_off69_inb d)⟩,
   ⟨5, .waitR 1⟩,
   ⟨5, .add 2 (k0_off70 d) (k0_off70_inb d)⟩,
   ⟨5, .sendR 2 ⟨k0_dev51 d, k0_dev51_lt d⟩⟩,
   ⟨5, .add 3 (k0_off71 d) (k0_off71_inb d)⟩,
   ⟨0, .waitR 2⟩,
   ⟨0, .add 4 ![0, 48, 0] (inb_rb 2 0)⟩,
   ⟨0, .sendG 0 ⟨k0_dev52 d, k0_dev52_lt d⟩⟩,
   ⟨6, .waitR 2⟩,
   ⟨6, .add 4 ![6, 48, 0] (inb_rb 2 6)⟩,
   ⟨6, .sendG 0 ⟨k0_dev53 d, k0_dev53_lt d⟩⟩,
   ⟨11, .waitR 2⟩,
   ⟨11, .add 4 ![11, 48, 0] (inb_rb 2 11)⟩,
   ⟨11, .sendG 0 ⟨k0_dev54 d, k0_dev54_lt d⟩⟩,
   ⟨1, .waitR 2⟩,
   ⟨1, .add 4 ![1, 48, 0] (inb_rb 2 1)⟩,
   ⟨1, .sendG 0 ⟨k0_dev55 d, k0_dev55_lt d⟩⟩,
   ⟨7, .waitR 2⟩,
   ⟨7, .add 4 ![7, 48, 0] (inb_rb 2 7)⟩,
   ⟨7, .sendG 0 ⟨k0_dev56 d, k0_dev56_lt d⟩⟩,
   ⟨12, .waitR 2⟩,
   ⟨12, .add 4 ![12, 48, 0] (inb_rb 2 12)⟩,
   ⟨12, .sendG 0 ⟨k0_dev57 d, k0_dev57_lt d⟩⟩,
   ⟨2, .waitR 2⟩,
   ⟨2, .add 4 ![2, 48, 0] (inb_rb 2 2)⟩,
   ⟨2, .sendG 0 ⟨k0_dev58 d, k0_dev58_lt d⟩⟩,
   ⟨8, .waitR 2⟩,
   ⟨8, .add 4 ![8, 48, 0] (inb_rb 2 8)⟩,
   ⟨8, .sendG 0 ⟨k0_dev59 d, k0_dev59_lt d⟩⟩,
   ⟨13, .waitR 2⟩,
   ⟨13, .add 4 ![13, 48, 0] (inb_rb 2 13)⟩,
   ⟨13, .sendG 0 ⟨k0_dev60 d, k0_dev60_lt d⟩⟩,
   ⟨3, .waitR 2⟩,
   ⟨3, .add 4 ![3, 48, 0] (inb_rb 2 3)⟩,
   ⟨3, .sendG 0 ⟨k0_dev61 d, k0_dev61_lt d⟩⟩,
   ⟨9, .waitR 2⟩,
   ⟨9, .add 4 ![9, 48, 0] (inb_rb 2 9)⟩,
   ⟨9, .sendG 0 ⟨k0_dev62 d, k0_dev62_lt d⟩⟩,
   ⟨14, .waitR 2⟩,
   ⟨14, .add 4 ![14, 48, 0] (inb_rb 2 14)⟩,
   ⟨14, .sendG 0 ⟨k0_dev63 d, k0_dev63_lt d⟩⟩,
   ⟨4, .waitR 2⟩,
   ⟨4, .add 4 ![4, 48, 0] (inb_rb 2 4)⟩,
   ⟨4, .sendG 0 ⟨k0_dev64 d, k0_dev64_lt d⟩⟩,
   ⟨10, .waitR 2⟩,
   ⟨10, .add 4 ![10, 48, 0] (inb_rb 2 10)⟩,
   ⟨10, .sendG 0 ⟨k0_dev65 d, k0_dev65_lt d⟩⟩,
   ⟨15, .waitR 2⟩,
   ⟨15, .add 4 ![15, 48, 0] (inb_rb 2 15)⟩,
   ⟨15, .sendG 0 ⟨k0_dev66 d, k0_dev66_lt d⟩⟩,
   ⟨5, .waitR 2⟩,
   ⟨5, .add 4 ![5, 48, 0] (inb_rb 2 5)⟩,
   ⟨5, .sendG 0 ⟨k0_dev67 d, k0_dev67_lt d⟩⟩,
   ⟨0, .waitG 0⟩,
   ⟨0, .sendG 1 ⟨k0_dev68 d, k0_dev68_lt d⟩⟩,
   ⟨6, .waitG 0⟩,
   ⟨6, .sendG 1 ⟨k0_dev69 d, k0_dev69_lt d⟩⟩,
   ⟨11, .waitG 0⟩,
   ⟨11, .sendG 1 ⟨k0_dev70 d, k0_dev70_lt d⟩⟩,
   ⟨1, .waitG 0⟩,
   ⟨1, .sendG 1 ⟨k0_dev71 d, k0_dev71_lt d⟩⟩,
   ⟨7, .waitG 0⟩,
   ⟨7, .sendG 1 ⟨k0_dev72 d, k0_dev72_lt d⟩⟩,
   ⟨12, .waitG 0⟩,
   ⟨12, .sendG 1 ⟨k0_dev73 d, k0_dev73_lt d⟩⟩,
   ⟨2, .waitG 0⟩,
   ⟨2, .sendG 1 ⟨k0_dev74 d, k0_dev74_lt d⟩⟩,
   ⟨8, .waitG 0⟩,
   ⟨8, .sendG 1 ⟨k0_dev75 d, k0_dev75_lt d⟩⟩,
   ⟨13, .waitG 0⟩,
   ⟨13, .sendG 1 ⟨k0_dev76 d, k0_dev76_lt d⟩⟩,
   ⟨3, .waitG 0⟩,
   ⟨3, .sendG 1 ⟨k0_dev77 d, k0_dev77_lt d⟩⟩,
   ⟨9, .waitG 0⟩,
   ⟨9, .sendG 1 ⟨k0_dev78 d, k0_dev78_lt d⟩⟩,
   ⟨14, .waitG 0⟩,
   ⟨14, .sendG 1 ⟨k0_dev79 d, k0_dev79_lt d⟩⟩,
   ⟨4, .waitG 0⟩,
   ⟨4, .sendG 1 ⟨k0_dev80 d, k0_dev80_lt d⟩⟩,
   ⟨10, .waitG 0⟩,
   ⟨10, .sendG 1 ⟨k0_dev81 d, k0_dev81_lt d⟩⟩,
   ⟨15, .waitG 0⟩,
   ⟨15, .sendG 1 ⟨k0_dev82 d, k0_dev82_lt d⟩⟩,
   ⟨5, .waitG 0⟩,
   ⟨5, .sendG 1 ⟨k0_dev83 d, k0_dev83_lt d⟩⟩,
   ⟨0, .waitG 1⟩,
   ⟨0, .sendG 2 ⟨k0_dev84 d, k0_dev84_lt d⟩⟩,
   ⟨6, .waitG 1⟩,
   ⟨6, .sendG 2 ⟨k0_dev85 d, k0_dev85_lt d⟩⟩,
   ⟨11, .waitG 1⟩,
   ⟨11, .sendG 2 ⟨k0_dev86 d, k0_dev86_lt d⟩⟩,
   ⟨1, .waitG 1⟩,
   ⟨1, .sendG 2 ⟨k0_dev87 d, k0_dev87_lt d⟩⟩,
   ⟨7, .waitG 1⟩,
   ⟨7, .sendG 2 ⟨k0_dev88 d, k0_dev88_lt d⟩⟩,
   ⟨12, .waitG 1⟩,
   ⟨12, .sendG 2 ⟨k0_dev89 d, k0_dev89_lt d⟩⟩,
   ⟨2, .waitG 1⟩,
   ⟨2, .sendG 2 ⟨k0_dev90 d, k0_dev90_lt d⟩⟩,
   ⟨8, .waitG 1⟩,
   ⟨8, .sendG 2 ⟨k0_dev91 d, k0_dev91_lt d⟩⟩,
   ⟨13, .waitG 1⟩,
   ⟨13, .sendG 2 ⟨k0_dev92 d, k0_dev92_lt d⟩⟩,
   ⟨3, .waitG 1⟩,
   ⟨3, .sendG 2 ⟨k0_dev93 d, k0_dev93_lt d⟩⟩,
   ⟨9, .waitG 1⟩,
   ⟨9, .sendG 2 ⟨k0_dev94 d, k0_dev94_lt d⟩⟩,
   ⟨14, .waitG 1⟩,
   ⟨14, .sendG 2 ⟨k0_dev95 d, k0_dev95_lt d⟩⟩,
   ⟨4, .waitG 1⟩,
   ⟨4, .sendG 2 ⟨k0_dev96 d, k0_dev96_lt d⟩⟩,
   ⟨10, .waitG 1⟩,
   ⟨10, .sendG 2 ⟨k0_dev97 d, k0_dev97_lt d⟩⟩,
   ⟨15, .waitG 1⟩,
   ⟨15, .sendG 2 ⟨k0_dev98 d, k0_dev98_lt d⟩⟩,
   ⟨5, .waitG 1⟩,
   ⟨5, .sendG 2 ⟨k0_dev99 d, k0_dev99_lt d⟩⟩,
   ⟨0, .waitG 2⟩,
   ⟨6, .waitG 2⟩,
   ⟨11, .waitG 2⟩,
   ⟨1, .waitG 2⟩,
   ⟨7, .waitG 2⟩,
   ⟨12, .waitG 2⟩,
   ⟨2, .waitG 2⟩,
   ⟨8, .waitG 2⟩,
   ⟨13, .waitG 2⟩,
   ⟨3, .waitG 2⟩,
   ⟨9, .waitG 2⟩,
   ⟨14, .waitG 2⟩,
   ⟨4, .waitG 2⟩,
   ⟨10, .waitG 2⟩,
   ⟨15, .waitG 2⟩,
   ⟨5, .waitG 2⟩,
   ⟨0, .doneR 0⟩,
   ⟨6, .doneR 0⟩,
   ⟨11, .doneR 0⟩,
   ⟨1, .doneR 0⟩,
   ⟨7, .doneR 0⟩,
   ⟨12, .doneR 0⟩,
   ⟨2, .doneR 0⟩,
   ⟨8, .doneR 0⟩,
   ⟨13, .doneR 0⟩,
   ⟨3, .doneR 0⟩,
   ⟨9, .doneR 0⟩,
   ⟨14, .doneR 0⟩,
   ⟨4, .doneR 0⟩,
   ⟨10, .doneR 0⟩,
   ⟨15, .doneR 0⟩,
   ⟨5, .doneR 0⟩,
   ⟨0, .doneR 1⟩,
   ⟨6, .doneR 1⟩,
   ⟨11, .doneR 1⟩,
   ⟨1, .doneR 1⟩,
   ⟨7, .doneR 1⟩,
   ⟨12, .doneR 1⟩,
   ⟨2, .doneR 1⟩,
   ⟨8, .doneR 1⟩,
   ⟨13, .doneR 1⟩,
   ⟨3, .doneR 1⟩,
   ⟨9, .doneR 1⟩,
   ⟨14, .doneR 1⟩,
   ⟨4, .doneR 1⟩,
   ⟨10, .doneR 1⟩,
   ⟨15, .doneR 1⟩,
   ⟨5, .doneR 1⟩,
   ⟨0, .doneR 2⟩,
   ⟨6, .doneR 2⟩,
   ⟨11, .doneR 2⟩,
   ⟨1, .doneR 2⟩,
   ⟨7, .doneR 2⟩,
   ⟨12, .doneR 2⟩,
   ⟨2, .doneR 2⟩,
   ⟨8, .doneR 2⟩,
   ⟨13, .doneR 2⟩,
   ⟨3, .doneR 2⟩,
   ⟨9, .doneR 2⟩,
   ⟨14, .doneR 2⟩,
   ⟨4, .doneR 2⟩,
   ⟨10, .doneR 2⟩,
   ⟨15, .doneR 2⟩,
   ⟨5, .doneR 2⟩,
   ⟨0, .doneG 0⟩,
   ⟨6, .doneG 0⟩,
   ⟨11, .doneG 0⟩,
   ⟨1, .doneG 0⟩,
   ⟨7, .doneG 0⟩,
   ⟨12, .doneG 0⟩,
   ⟨2, .doneG 0⟩,
   ⟨8, .doneG 0⟩,
   ⟨13, .doneG 0⟩,
   ⟨3, .doneG 0⟩,
   ⟨9, .doneG 0⟩,
   ⟨14, .doneG 0⟩,
   ⟨4, .doneG 0⟩,
   ⟨10, .doneG 0⟩,
   ⟨15, .doneG 0⟩,
   ⟨5, .doneG 0⟩,
   ⟨0, .doneG 1⟩,
   ⟨6, .doneG 1⟩,
   ⟨11, .doneG 1⟩,
   ⟨1, .doneG 1⟩,
   ⟨7, .doneG 1⟩,
   ⟨12, .doneG 1⟩,
   ⟨2, .doneG 1⟩,
   ⟨8, .doneG 1⟩,
   ⟨13, .doneG 1⟩,
   ⟨3, .doneG 1⟩,
   ⟨9, .doneG 1⟩,
   ⟨14, .doneG 1⟩,
   ⟨4, .doneG 1⟩,
   ⟨10, .doneG 1⟩,
   ⟨15, .doneG 1⟩,
   ⟨5, .doneG 1⟩,
   ⟨0, .doneG 2⟩,
   ⟨6, .doneG 2⟩,
   ⟨11, .doneG 2⟩,
   ⟨1, .doneG 2⟩,
   ⟨7, .doneG 2⟩,
   ⟨12, .doneG 2⟩,
   ⟨2, .doneG 2⟩,
   ⟨8, .doneG 2⟩,
   ⟨13, .doneG 2⟩,
   ⟨3, .doneG 2⟩,
   ⟨9, .doneG 2⟩,
   ⟨14, .doneG 2⟩,
   ⟨4, .doneG 2⟩,
   ⟨10, .doneG 2⟩,
   ⟨15, .doneG 2⟩,
   ⟨5, .doneG 2⟩]

variable {F : FTy → Type} [FloatOps F]

/-- The barrier semaphore. -/
abbrev barS : Sems sig S_ := SemArray.scalar (sig.barrier 0 rfl)

/-- The program of the kernel in step form. -/
def stepBody (arg0 : Memref sig .tc .vmem S1024x1024 .bf16)
    (arg1 : Memref sig .tc .vmem S1024x1024 .bf16) (harg1 : arg1.IsWhole)
    (arg2 : Memref sig .tc .vmem S16x56x1024 .bf16) (harg2 : arg2.IsWhole)
    (arg3 arg4 : DmaSems sig S6x16) : Prog (TpuEff nD τ sig (Elt F) Λ₀ .tc) PUnit := do
  let d : Dev nD ← Prog.lift .deviceId
  semSignalWord (⟨k0_dev1 d, k0_dev1_lt d⟩ : Dev nD) barS.sem 1#32
  semSignalWord (⟨k0_dev2 d, k0_dev2_lt d⟩ : Dev nD) barS.sem 1#32
  semSignalWord (⟨k0_dev3 d, k0_dev3_lt d⟩ : Dev nD) barS.sem 1#32
  Step.prog arg0 arg1 harg1 arg2 harg2 arg3 arg4 d ⟨0, .conv⟩ do
    semWaitWord barS.sem 3#32
    runSteps arg0 arg1 harg1 arg2 harg2 arg3 arg4 d (script d)

set_option maxRecDepth 100000 in
theorem body_eq (arg0 : Memref sig .tc .vmem S1024x1024 .bf16) (harg0 : arg0.IsWhole)
    (arg1 : Memref sig .tc .vmem S1024x1024 .bf16) (harg1 : arg1.IsWhole)
    (arg2 : Memref sig .tc .vmem S16x56x1024 .bf16) (harg2 : arg2.IsWhole) (arg3 arg4 : DmaSems sig S6x16) :
    cc0_body (F := F) arg0 harg0 arg1 harg1 arg2 harg2 arg3 arg4 = stepBody arg0 arg1 harg1 arg2 harg2 arg3 arg4 := rfl

end Cert.AllReduce
-- ==== Proof.Geometry.lean ====
/-
Which rows each step touches, in numbers.

A device `c` of the 2 × 2 × 2 mesh has one coordinate per axis. In phase `p` chain `s` halves the rows it works on: it
keeps the half that its coordinate on axis `ax s p` names (`kOff`, the region `K p`) and sends the other half
(`sOff`, the region `S p`).
-/
module

public import proofs.«01_k».proof.Proof.Text

@[expose] public section

noncomputable section

namespace Cert.AllReduce

open Cert.KernelIdeal Cert.KernelIdeal.Gen
open Idealize.ShloMosaic Idealize.ShloMosaic.TcCoe Idealize.SL.Sem

/-! ## The mesh -/

/-- The coordinate of device `c` on a mesh axis. -/
def co (a : Fin 3) (c : Dev nD) : ℕ := match a with | 0 => c.val / 4 | 1 => c.val / 2 % 2 | 2 => c.val % 2

/-- The neighbour of device `c` along a mesh axis. -/
def peer (a : Fin 3) (c : Dev nD) : Dev nD :=
  match a with
  | 0 => ⟨(c.val + 4) % 8, Nat.mod_lt _ (by decide)⟩
  | 1 => ⟨c.val / 4 * 4 + (c.val + 2) % 4, by have := c.isLt; unfold nD at *; omega⟩
  | 2 => ⟨c.val / 2 * 2 + (c.val + 1) % 2, by have := c.isLt; unfold nD at *; omega⟩

theorem peer_peer (a : Fin 3) (c : Dev nD) : peer a (peer a c) = c := by revert a c; decide
theorem peer_ne (a : Fin 3) (c : Dev nD) : peer a c ≠ c := by revert a c; decide

/-- Neighbours along one axis, as a permutation of the devices. -/
def peerE (a : Fin 3) : Dev nD ≃ Dev nD := ⟨peer a, peer a, peer_peer a, peer_peer a⟩

/-- The phase in which chain `s` goes along axis `a`. -/
def pa (s : Fin 16) (a : Fin 3) : Fin 3 := if s.val < 6 then a else if s.val < 11 then a + 2 else a + 1
theorem ax_pa (s : Fin 16) (a : Fin 3) : ax s (pa s a) = a := by revert s a; decide
theorem pa_ax (s : Fin 16) (p : Fin 3) : pa s (ax s p) = p := by revert s p; decide
/-- Axes and phases of chain `s`, matched. -/
def paE (s : Fin 16) : Fin 3 ≃ Fin 3 := ⟨pa s, ax s, ax_pa s, pa_ax s⟩

theorem k0_dev1_peer (c : Dev nD) : (⟨k0_dev1 c, k0_dev1_lt c⟩ : Dev nD) = peer 0 c := by revert c; decide +kernel
theorem k0_dev2_peer (c : Dev nD) : (⟨k0_dev2 c, k0_dev2_lt c⟩ : Dev nD) = peer 1 c := by revert c; decide +kernel
theorem k0_dev3_peer (c : Dev nD) : (⟨k0_dev3 c, k0_dev3_lt c⟩ : Dev nD) = peer 2 c := by revert c; decide +kernel

/-! ## Row offsets -/

/-- Rows of chain `s` skipped by the coordinates of phases before `p`. -/
def base (p : Fin 3) (s : Fin 16) (c : Dev nD) : ℕ :=
  match p with
  | 0 => 64 * s.val
  | 1 => 64 * s.val + 32 * co (ax s 0) c
  | 2 => 64 * s.val + 32 * co (ax s 0) c + 16 * co (ax s 1) c
/-- Where the rows kept in phase `p` start. -/
def kOff (p : Fin 3) (s : Fin 16) (c : Dev nD) : ℕ := base p s c + co (ax s p) c * rsz p
/-- Where the rows sent in phase `p` start. -/
def sOff (p : Fin 3) (s : Fin 16) (c : Dev nD) : ℕ := base p s c + (1 - co (ax s p) c) * rsz p

theorem sOff_peer (p : Fin 3) (s : Fin 16) (c : Dev nD) : sOff p s (peer (ax s p) c) = kOff p s c := by
  revert p s c; decide +kernel
theorem kOff_peer (p : Fin 3) (s : Fin 16) (c : Dev nD) : kOff p s (peer (ax s p) c) = sOff p s c := by
  revert p s c; decide +kernel

theorem srcOff_eq (p : Fin 3) (s : Fin 16) (c : Dev nD) : srcOff p s c = ![sOff p s c, 0] := by
  revert p s c; decide +kernel

/-- The phase whose kept rows all-gather phase `q` sends. -/
def qp (q : Fin 3) : Fin 3 := match q with | 0 => 2 | 1 => 1 | 2 => 0
theorem gsz_eq (q : Fin 3) : gsz q = rsz (qp q) := by revert q; decide
theorem gatOff_eq (q : Fin 3) (s : Fin 16) (c : Dev nD) : gatOff q s c = ![kOff (qp q) s c, 0] := by
  revert q s c; decide +kernel

/-- The block an addition updates: the sent half or the kept half of a phase. -/
inductive Reg where
  | S (p : Fin 3)
  | K (p : Fin 3)
  | W
  deriving DecidableEq

/-- First row and number of rows of a block. -/
def Reg.off (R : Reg) (s : Fin 16) (c : Dev nD) : ℕ := match R with | .S p => sOff p s c | .K p => kOff p s c | .W => 64 * s.val
def Reg.len (R : Reg) : ℕ := match R with | .S p => rsz p | .K p => rsz p | .W => 64

theorem Reg.bounds (R : Reg) (s : Fin 16) (c : Dev nD) : 64 * s.val ≤ R.off s c ∧ R.off s c + R.len ≤ 64 * s.val + 64 := by
  cases R with
  | S p => revert p s c; decide +kernel
  | K p => revert p s c; decide +kernel
  | W => exact ⟨le_refl _, le_refl _⟩

/-- The block that addition `j` updates, and the phase whose landed rows it reads. -/
def addReg (j : Fin 5) : Reg := match j with | 0 => .S 1 | 1 => .K 1 | 2 => .S 2 | 3 => .K 2 | 4 => .K 2
def addPh (j : Fin 5) : Fin 3 := match j with | 0 => 0 | 1 => 0 | 2 => 1 | 3 => 1 | 4 => 2
theorem asz_eq (j : Fin 5) : asz j = (addReg j).len := by revert j; decide
theorem addOff_eq (j : Fin 5) (s : Fin 16) (c : Dev nD) : addOff j s c = ![(addReg j).off s c, 0] := by
  revert j s c; decide +kernel
/-- Where addition `j` reads inside a chain's plane of the receive buffer. -/
def landOff (j : Fin 5) (s : Fin 16) (c : Dev nD) : ℕ := rbo (addPh j) + ((addReg j).off s c - kOff (addPh j) s c)
theorem addReg_within (j : Fin 5) (s : Fin 16) (c : Dev nD) :
    kOff (addPh j) s c ≤ (addReg j).off s c ∧ (addReg j).off s c + asz j ≤ kOff (addPh j) s c + rsz (addPh j) := by
  revert j s c; decide +kernel

/-- The halving of a block: its kept half splits into the next phase's two halves, in one order or the other. -/
inductive Halves : Reg → Reg → Reg → Prop where
  | w : Halves .W (.S 0) (.K 0)
  | k0 : Halves (.K 0) (.S 1) (.K 1)
  | k1 : Halves (.K 1) (.S 2) (.K 2)

theorem Halves.spec {R A B : Reg} (h : Halves R A B) (s : Fin 16) (c : Dev nD) :
    (A.off s c = R.off s c ∧ B.off s c = R.off s c + A.len ∨ B.off s c = R.off s c ∧ A.off s c = R.off s c + B.len)
      ∧ A.len + B.len = R.len := by
  cases h <;> revert s c <;> decide +kernel

/-! ## Who finishes a row -/

/-- The device that holds the finished sum of the eight rows of block `b`: its coordinates along the chain's three axes
    are the three bits of the block's place in the chain. -/
def owner (b : ℕ) : Dev nD :=
  let s : Fin 16 := ⟨b / 8 % 16, Nat.mod_lt _ (by decide)⟩
  let bit : Fin 3 → ℕ := fun a => b / 2 ^ (2 - (pa s a).val) % 2
  ⟨(4 * bit 0 + 2 * bit 1 + bit 2) % 8, Nat.mod_lt _ (by decide)⟩
theorem owner_kept (s : Fin 16) (c : Dev nD) : kOff 2 s c % 8 = 0 ∧ owner (kOff 2 s c / 8) = c := by
  revert s c; decide +kernel

/-! ## Sets of buffer indices -/

/-- Rows `r … r + n - 1` of a 1024 × 1024 buffer. -/
def rows (r n : ℕ) : Finset S1024x1024.Idx := Finset.univ.filter fun i => r ≤ (i 0).val ∧ (i 0).val < r + n
/-- Rows `r … r + n - 1` of plane `s` of the receive buffer. -/
def plane (s : Fin 16) (r n : ℕ) : Finset S16x56x1024.Idx :=
  Finset.univ.filter fun i => (i 0).val = s.val ∧ r ≤ (i 1).val ∧ (i 1).val < r + n

theorem mem_rows {r n : ℕ} {i : S1024x1024.Idx} : i ∈ rows r n ↔ r ≤ (i 0).val ∧ (i 0).val < r + n := by simp [rows]
theorem mem_plane {s : Fin 16} {r n : ℕ} {i : S16x56x1024.Idx} :
    i ∈ plane s r n ↔ (i 0).val = s.val ∧ r ≤ (i 1).val ∧ (i 1).val < r + n := by simp [plane]

/-- The rows of a block of chain `s` on device `c`. -/
abbrev Reg.set (R : Reg) (s : Fin 16) (c : Dev nD) : Finset S1024x1024.Idx := rows (R.off s c) R.len

theorem Halves.union {R A B : Reg} (h : Halves R A B) (s : Fin 16) (c : Dev nD) : A.set s c ∪ B.set s c = R.set s c := by
  ext i
  rw [Finset.mem_union, mem_rows, mem_rows, mem_rows]
  obtain ⟨h1, h2⟩ := h.spec s c
  omega
theorem Halves.disjoint {R A B : Reg} (h : Halves R A B) (s : Fin 16) (c : Dev nD) : Disjoint (A.set s c) (B.set s c) := by
  rw [Finset.disjoint_left]
  intro i
  rw [mem_rows, mem_rows]
  obtain ⟨h1, h2⟩ := h.spec s c
  omega

theorem rect_set (r n : ℕ) (off : Fin 2 → ℕ) (ho : off = ![r, 0]) (h : ∀ a, off a + (Sh n).size a ≤ S1024x1024.size a) :
    (Rect.unit (s := S1024x1024) off (Sh n).size h).set = rows r n := by
  subst ho
  ext i
  rw [mem_rows, Rect.mem_set_unit]
  constructor
  · intro hh; exact hh 0
  · intro hh a
    match a with
    | 0 => exact hh
    | 1 => exact ⟨Nat.zero_le _, by have := (i 1).isLt; simpa using this⟩

end Cert.AllReduce
-- ==== Proof.Contents.lean ====
/-
What the buffers hold.

Everything is a function on a whole 1024 × 1024 buffer: `V x l c` is what device `c`'s rows hold after `l` additions,
`Z x` the finished sums, `RB x c` what the receive buffer of device `c` holds once its copies have landed. A block of
rows then holds one of these functions, restricted to the block.
-/
module

public import proofs.«01_k».proof.Proof.Geometry

@[expose] public section

noncomputable section

namespace Cert.AllReduce

open Cert.KernelIdeal Cert.KernelIdeal.Gen
open Idealize.ShloMosaic Idealize.ShloMosaic.TcCoe Idealize.SL.Sem

variable {F : FTy → Type} [FloatOps F]

/-! ## The buffers -/

abbrev xM : Memref sig .tc .vmem S1024x1024 .bf16 := Memref.whole cc0_stg0_0
abbrev oM : Memref sig .tc .vmem S1024x1024 .bf16 := Memref.whole cc0_stg1_0
abbrev rM : Memref sig .tc .vmem S16x56x1024 .bf16 := Memref.whole cc0_scratch0

abbrev Big (F : FTy → Type) : Type := Vec F S1024x1024 .bf16
abbrev Buf3 (F : FTy → Type) : Type := Vec F S16x56x1024 .bf16

/-! ## The contents -/

/-- The chain a row belongs to. -/
def chain (i : S1024x1024.Idx) : Fin 16 := ⟨(i 0).val / 64 % 16, Nat.mod_lt _ (by decide)⟩

/-- What device `c`'s rows hold after `l` additions: each adds what the neighbour of that phase held. -/
def V (x : Dev nD → Big F) : ℕ → Dev nD → Big F
  | 0, c => x c
  | l + 1, c => fun i => FloatOps.addf (V x l c i) (V x l (peer (ax (chain i) ⟨l % 3, Nat.mod_lt _ (by decide)⟩) c) i)

/-- The finished sums: each row as the device that finishes it holds it. -/
def Z (x : Dev nD → Big F) : Big F := fun i => V x 3 (owner ((i 0).val / 8)) i

/-- The phase whose copy lands in a row of the receive buffer. -/
def phOf (r : ℕ) : Fin 3 := if r < 32 then 0 else if r < 48 then 1 else 2

theorem phOf_land (p : Fin 3) (r : ℕ) (hi : r < rsz p) : phOf (rbo p + r) = p := by
  unfold phOf
  match p with
  | 0 =>
    have h : r < 32 := hi
    exact if_pos (show 0 + r < 32 by omega)
  | 1 =>
    have h : r < 16 := hi
    exact (if_neg (show ¬ 32 + r < 32 by omega)).trans (if_pos (show 32 + r < 48 by omega))
  | 2 => exact (if_neg (show ¬ 48 + r < 32 by omega)).trans (if_neg (show ¬ 48 + r < 48 by omega))

/-- The row of `out` at which a device uses what lands at a place of its receive buffer. -/
def landIx (c : Dev nD) (i : S16x56x1024.Idx) : S1024x1024.Idx :=
  Fin.cons ⟨(kOff (phOf (i 1).val) (i 0) c + ((i 1).val - rbo (phOf (i 1).val))) % 1024, Nat.mod_lt _ (by decide)⟩
    (Fin.cons (i 2) fun a => a.elim0)

/-- What device `c`'s receive buffer holds once its copies have landed. -/
def RB (x : Dev nD → Big F) (c : Dev nD) : Buf3 F := fun i =>
  V x (phOf (i 1).val).val (peer (ax (i 0) (phOf (i 1).val)) c) (landIx c i)

/-- The contents of a block by its level: three levels of partial sums, then the finished sums. -/
def lvl (x : Dev nD → Big F) (l : Fin 4) (c : Dev nD) : Big F :=
  match l with | 0 => V x 0 c | 1 => V x 1 c | 2 => V x 2 c | 3 => Z x

theorem chain_of_mem {R : Reg} {s : Fin 16} {c : Dev nD} {i : S1024x1024.Idx} (h : i ∈ R.set s c) : chain i = s := by
  rw [mem_rows] at h
  have hb := R.bounds s c
  have hs := s.isLt
  apply Fin.ext
  show (i 0).val / 64 % 16 = s.val
  omega

/-- On the rows a device keeps to the end, its own partial sums are the finished ones. -/
theorem V_three {x : Dev nD → Big F} {s : Fin 16} {c : Dev nD} {i : S1024x1024.Idx} (h : i ∈ (Reg.K 2).set s c) :
    V x 3 c i = Z x i := by
  rw [mem_rows] at h
  obtain ⟨h8, ho⟩ := owner_kept s c
  have : (i 0).val / 8 = kOff 2 s c / 8 := by
    have : (Reg.K 2).off s c = kOff 2 s c := rfl
    have : (Reg.K 2).len = 8 := rfl
    omega
  unfold Z
  rw [this, ho]

/-! ## Indices under the views -/

/-- Where a block of `n` rows starting at `r` places its index `i`. -/
theorem emb_rows {r n : ℕ} {off : Fin 2 → ℕ} (ho : off = ![r, 0]) (h : ∀ a, off a + (Sh n).size a ≤ S1024x1024.size a)
    (i : (Sh n).Idx) :
    ((Rect.unit (s := S1024x1024) off (Sh n).size h).emb i 0).val = r + (i 0).val
      ∧ ((Rect.unit (s := S1024x1024) off (Sh n).size h).emb i 1).val = (i 1).val := by
  subst ho
  constructor
  · rw [Rect.emb_apply]; show r + 1 * (i 0).val = _; omega
  · rw [Rect.emb_apply]; show 0 + 1 * (i 1).val = _; omega

theorem emb_plane {s r n : ℕ} {off : Fin 3 → ℕ} (ho : off = ![s, r, 0]) (h : ∀ a, off a + (Sh1 n).size a ≤ S16x56x1024.size a)
    (i : (Sh1 n).Idx) :
    ((Rect.unit (s := S16x56x1024) off (Sh1 n).size h).emb i 0).val = s
      ∧ ((Rect.unit (s := S16x56x1024) off (Sh1 n).size h).emb i 1).val = r + (i 1).val
      ∧ ((Rect.unit (s := S16x56x1024) off (Sh1 n).size h).emb i 2).val = (i 2).val := by
  subst ho
  refine ⟨?_, ?_, ?_⟩
  · rw [Rect.emb_apply]; show s + 1 * (i 0).val = _
    have : (i 0).val < 1 := (i 0).isLt
    omega
  · rw [Rect.emb_apply]; show r + 1 * (i 1).val = _; omega
  · rw [Rect.emb_apply]; show 0 + 1 * (i 2).val = _; omega

theorem rect3_set (s : Fin 16) (r n : ℕ) (off : Fin 3 → ℕ) (ho : off = ![s.val, r, 0])
    (h : ∀ a, off a + (Sh1 n).size a ≤ S16x56x1024.size a) :
    (Rect.unit (s := S16x56x1024) off (Sh1 n).size h).set = plane s r n := by
  subst ho
  ext i
  rw [mem_plane, Rect.mem_set_unit]
  constructor
  · intro hh
    have h0 : s.val ≤ (i 0).val ∧ (i 0).val < s.val + 1 := hh 0
    have h1 : r ≤ (i 1).val ∧ (i 1).val < r + n := hh 1
    omega
  · intro hh a
    match a with
    | 0 => show s.val ≤ (i 0).val ∧ (i 0).val < s.val + 1; omega
    | 1 => show r ≤ (i 1).val ∧ (i 1).val < r + n; exact hh.2
    | 2 => exact ⟨Nat.zero_le _, by have := (i 2).isLt; simpa using this⟩

theorem srcM_set (p : Fin 3) (s : Fin 16) (c : Dev nD) : (srcM oM c p s).view.set = (Reg.S p).set s c :=
  (View.set_slice_whole _ _).trans (rect_set _ _ _ (srcOff_eq p s c) _)
theorem gatM_set (q : Fin 3) (s : Fin 16) (c : Dev nD) : (gatM oM c q s).view.set = (Reg.K (qp q)).set s c := by
  refine ((View.set_slice_whole _ _).trans (rect_set _ _ _ (gatOff_eq q s c) _)).trans ?_
  rw [gsz_eq]; rfl
theorem landM_set (p : Fin 3) (s : Fin 16) : (landM rM p s).view.set = plane s (rbo p) (rsz p) :=
  (View.set_reshape _ _).trans ((View.set_slice_whole _ _).trans (rect3_set s _ _ _ rfl _))

/-- A write through a view puts on the view's set whatever agrees with what is written. -/
theorem write_agrees {sp : Space} {t : Shape} {e : EltTy} (v : View sig .tc sp t e)
    (f g : v.ty.Contents (Elt F)) (w : t.Idx → Elt F e) (h : ∀ i, v.read (Elt F) g i = w i) :
    ∀ i ∈ v.set, v.write (Elt F) f w Finset.univ i = g i := by
  intro i hi
  obtain ⟨j, -, rfl⟩ := Finset.mem_map.mp hi
  rw [View.write_emb_of_mem _ _ (Finset.mem_univ j), ← h j, View.read_apply, cast_cast, cast_eq]

/-- What a phase's copy puts into the neighbour's receive buffer. -/
theorem landed (x : Dev nD → Big F) (p : Fin 3) (s : Fin 16) (c : Dev nD) (fd : Buf3 F) :
    ∀ i ∈ (landM rM p s).view.set,
      (landM rM p s).view.write (Elt F) fd ((srcM oM c p s).view.read (Elt F) (V x p.val c)) Finset.univ i
        = RB x (peer (ax s p) c) i := by
  apply write_agrees
  intro i
  have e1 : (landM rM p s).view.read (Elt F) (RB x (peer (ax s p) c)) i
      = RB x (peer (ax s p) c) ((Rect.unit (s := S16x56x1024) ![s.val, rbo p, 0] (Sh1 (rsz p)).size (inb_rb p s)).emb
          (Fin.cons ⟨0, Nat.one_pos⟩ i)) := by
    rw [← Shape.reshapeEquiv_cons_one ((squeezes_r p).numel_eq)]; rfl
  have e2 : (srcM oM c p s).view.read (Elt F) (V x p.val c) i
      = V x p.val c ((Rect.unit (s := S1024x1024) (srcOff p s c) (Sh (rsz p)).size (inb_src p s c)).emb i) := rfl
  rw [e1, e2]
  obtain ⟨a0, a1, a2⟩ := emb_plane (s := s.val) (r := rbo p) rfl (inb_rb p s) (Fin.cons ⟨0, Nat.one_pos⟩ i)
  obtain ⟨b0, b1⟩ := emb_rows (srcOff_eq p s c) (inb_src p s c) i
  generalize (Rect.unit (s := S16x56x1024) ![s.val, rbo p, 0] (Sh1 (rsz p)).size (inb_rb p s)).emb
          (Fin.cons ⟨0, Nat.one_pos⟩ i) = k at *
  generalize (Rect.unit (s := S1024x1024) (srcOff p s c) (Sh (rsz p)).size (inb_src p s c)).emb i = k' at *
  have hi : (i 0).val < rsz p := (i 0).isLt
  have a1' : (k 1).val = rbo p + (i 0).val := a1
  have a2' : (k 2).val = (i 1).val := a2
  have hp : phOf (k 1).val = p := by
    rw [a1']; exact phOf_land p _ hi
  have hk0 : k 0 = s := Fin.ext a0
  unfold RB
  rw [hp, hk0, peer_peer]
  congr 1
  have hb := (Reg.S p).bounds s c
  have hs := s.isLt
  have e3 : (Reg.S p).off s c = sOff p s c := rfl
  have e4 : (Reg.S p).len = rsz p := rfl
  funext a
  apply Fin.ext
  match a with
  | 0 =>
    show (kOff (phOf (k 1).val) (k 0) (peer (ax s p) c) + ((k 1).val - rbo (phOf (k 1).val))) % 1024 = (k' 0).val
    rw [hp, hk0, kOff_peer, a1', b0]; omega
  | 1 => show (k 2).val = (k' 1).val; rw [a2', b1]

/-- Viewing a vector at its own shape changes nothing. -/
theorem same_shape {s : Shape} {α : Type} (v : s.Idx → α) (h : s.ShapeCasts s) : shapeCast s v h = v := by
  funext i
  show v (Shape.reshapeEquiv h i) = v i
  rw [Shape.reshapeEquiv_self]

/-- What an addition makes of its block. -/
theorem added (x : Dev nD → Big F) (j : Fin 5) (s : Fin 16) (c : Dev nD) (off : Fin 3 → ℕ)
    (h : ∀ a, off a + (Sh1 (asz j)).size a ≤ S16x56x1024.size a) (ho : off = ![s.val, landOff j s c, 0]) (fd : Big F) :
    ∀ i ∈ (addReg j).set s c,
      (oM.access (Rect.unit (s := S1024x1024) (addOff j s c) (Sh (asz j)).size (inb_add j s c))).write (Elt F) fd
        (addf (shapeCast (Sh (asz j)) (oM.view.readAt (Elt F) (Rect.unit (s := S1024x1024) (addOff j s c) (Sh (asz j)).size (inb_add j s c)).toLoadRect
              (V x (addPh j).val c)) (casts_a j))
          (shapeCast (Sh (asz j)) (rM.view.readAt (Elt F) (Rect.unit (s := S16x56x1024) off (Sh1 (asz j)).size h).toLoadRect (RB x c)) (casts_a1 j)))
        Finset.univ i
        = V x ((addPh j).val + 1) c i := by
  have hset : (oM.access (Rect.unit (s := S1024x1024) (addOff j s c) (Sh (asz j)).size (inb_add j s c))).set = (addReg j).set s c := by
    refine ((View.set_slice_whole _ _).trans (rect_set _ _ _ (addOff_eq j s c) _)).trans ?_
    rw [asz_eq]
  rw [← hset]
  refine write_agrees (oM.access (Rect.unit (s := S1024x1024) (addOff j s c) (Sh (asz j)).size (inb_add j s c))) fd (V x ((addPh j).val + 1) c) _ ?_
  intro i
  have hmem : (Rect.unit (s := S1024x1024) (addOff j s c) (Sh (asz j)).size (inb_add j s c)).emb i ∈ (addReg j).set s c := by
    rw [← hset]; exact View.emb_mem_set (oM.access _) i
  have hch := chain_of_mem hmem
  obtain ⟨b0, b1⟩ := emb_rows (addOff_eq j s c) (inb_add j s c) i
  have e1 : (oM.access (Rect.unit (s := S1024x1024) (addOff j s c) (Sh (asz j)).size (inb_add j s c))).read (Elt F) (V x ((addPh j).val + 1) c) i
      = V x ((addPh j).val + 1) c ((Rect.unit (s := S1024x1024) (addOff j s c) (Sh (asz j)).size (inb_add j s c)).emb i) := rfl
  rw [e1]
  have e2 : (shapeCast (Sh (asz j)) (rM.view.readAt (Elt F) (Rect.unit (s := S16x56x1024) off (Sh1 (asz j)).size h).toLoadRect (RB x c)) (casts_a1 j)) i
      = RB x c ((Rect.unit (s := S16x56x1024) off (Sh1 (asz j)).size h).emb (Fin.cons ⟨0, Nat.one_pos⟩ i)) := by
    rw [← Shape.reshapeEquiv_cons_one (casts_a1 j)]; rfl
  have e3 : (shapeCast (Sh (asz j)) (oM.view.readAt (Elt F) (Rect.unit (s := S1024x1024) (addOff j s c) (Sh (asz j)).size (inb_add j s c)).toLoadRect
        (V x (addPh j).val c)) (casts_a j)) i
      = V x (addPh j).val c ((Rect.unit (s := S1024x1024) (addOff j s c) (Sh (asz j)).size (inb_add j s c)).emb i) :=
    congrFun (same_shape (s := Sh (asz j)) _ _) i
  refine Eq.trans ?_ (congrArg₂ FloatOps.addf e3.symm e2.symm)
  obtain ⟨a0, a1, a2⟩ := emb_plane (s := s.val) (r := landOff j s c) ho h (Fin.cons ⟨0, Nat.one_pos⟩ i)
  generalize (Rect.unit (s := S16x56x1024) off (Sh1 (asz j)).size h).emb (Fin.cons ⟨0, Nat.one_pos⟩ i) = k at *
  generalize (Rect.unit (s := S1024x1024) (addOff j s c) (Sh (asz j)).size (inb_add j s c)).emb i = k' at *
  have hi : (i 0).val < asz j := (i 0).isLt
  have hw := addReg_within j s c
  have a1' : (k 1).val = landOff j s c + (i 0).val := a1
  have a2' : (k 2).val = (i 1).val := a2
  have hp : phOf (k 1).val = addPh j := by
    rw [a1']; unfold landOff; rw [Nat.add_assoc]; exact phOf_land _ _ (by omega)
  have hk0 : k 0 = s := Fin.ext a0
  have hl : (⟨(addPh j).val % 3, Nat.mod_lt _ (by decide)⟩ : Fin 3) = addPh j := Fin.ext (Nat.mod_eq_of_lt (addPh j).isLt)
  show FloatOps.addf (V x (addPh j).val c k') (V x (addPh j).val (peer (ax (chain k') ⟨(addPh j).val % 3, Nat.mod_lt _ (by decide)⟩) c) k')
    = FloatOps.addf (V x (addPh j).val c k') (RB x c k)
  rw [hl, hch]
  unfold RB
  rw [hp, hk0]
  congr 2
  have hb := (addReg j).bounds s c
  have hs := s.isLt
  have hlen : asz j = (addReg j).len := asz_eq j
  funext a
  apply Fin.ext
  match a with
  | 0 =>
    show (k' 0).val = (kOff (phOf (k 1).val) (k 0) c + ((k 1).val - rbo (phOf (k 1).val))) % 1024
    rw [hp, hk0, a1', b0]; unfold landOff; omega
  | 1 => show (k' 1).val = (k 2).val; rw [a2', b1]

end Cert.AllReduce
-- ==== Proof.Protocol.lean ====
/-
The protocol: what each semaphore counts, and what each arrival hands over.

* The barrier semaphore of device `c` receives one unit from each of its three neighbours. The neighbour on axis `a`
  hands over the parts of its receive buffer that `c` will copy into, and the fact that its receiving semaphores are ready.
* Receiving semaphore `(p, s)`, `p < 3`: the neighbour's copy hands over the landed rows of the receive buffer at known
  contents, and the neighbour's own rows it sent from, so that they can be written later.
* Receiving semaphore `(3 + q, s)`: the neighbour's copy hands over rows of `out`, finished.
* Sending semaphore `(3 + q, s)`: the share of the source rows comes back. For `p < 3` nothing comes back there, because
  the source went along with the copy.

A device's holdings are a multiset of `Atom`s per chain.
-/
module

public import proofs.«01_k».proof.Proof.Contents
public import Idealize.ShloMosaic.Lib.Pipeline.Regions
public import Idealize.ShloMosaic.Lib.Pipeline.Kit
public import Idealize.ShloMosaic.Lib.Rounds
public import Idealize.ShloMosaic.Lib.Tactic

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's and the exchange's, whose duties are named by a mesh axis. -/
abbrev UU : Type := UR sig nD τ × Rounds.URounds (GSem nD τ sig) (Fin 3)

local notation "𝕄" => MT nD τ sig Unit (Elt F) ℕ UU ℕ

abbrev EP : Emb (UR sig nD τ) (MT nD τ sig Unit (Elt F) ℕ UU ℕ) := embL
abbrev ER : Emb (Rounds.URounds (GSem nD τ sig) (Fin 3)) (MT nD τ sig Unit (Elt F) ℕ UU ℕ) := embR

/-! ## Cells -/

/-- Sending and receiving semaphore `(p, s)`. -/
abbrev sSem (p : Fin 6) (s : Fin 16) : SemLoc sig := .dma (semAt cc0_scratch1 p s).sem
abbrev rSem (p : Fin 6) (s : Fin 16) : SemLoc sig := .dma (semAt cc0_scratch2 p s).sem
abbrev sCell (c : Dev nD) (p : Fin 6) (s : Fin 16) : GSem nD τ sig := ((c : Thread nD τ), sSem p s)
abbrev rCell (c : Dev nD) (p : Fin 6) (s : Fin 16) : GSem nD τ sig := ((c : Thread nD τ), rSem p s)
abbrev bCell (c : Dev nD) : GSem nD τ sig := ((c : Thread nD τ), .reg barS.sem)

/-- What a semaphore is for. -/
inductive Role where
  | bar
  | snd (p : Fin 6) (s : Fin 16)
  | rcv (p : Fin 6) (s : Fin 16)
  | none
  deriving DecidableEq

/-- The role of a semaphore, by its number: two belong to the surrounding program, then 96 sending, then 96 receiving. -/
def role : SemLoc sig → Role
  | .reg _ => .bar
  | .dma i =>
    if i.val < 2 then .none
    else if i.val < 98 then .snd ⟨(i.val - 2) / 16 % 6, Nat.mod_lt _ (by decide)⟩ ⟨(i.val - 2) % 16, Nat.mod_lt _ (by decide)⟩
    else .rcv ⟨(i.val - 98) / 16 % 6, Nat.mod_lt _ (by decide)⟩ ⟨(i.val - 98) % 16, Nat.mod_lt _ (by decide)⟩

theorem role_bar : role (.reg barS.sem) = .bar := rfl
theorem role_snd (p : Fin 6) (s : Fin 16) : role (sSem p s) = .snd p s := by revert p s; decide +kernel
theorem role_rcv (p : Fin 6) (s : Fin 16) : role (rSem p s) = .rcv p s := by revert p s; decide +kernel

/-- The mesh axis of semaphore row `p`: rows 0–2 follow the phases, rows 3–5 go back through them. -/
def ph (p : Fin 6) : Fin 3 := match p with | 0 => 0 | 1 => 1 | 2 => 2 | 3 => 2 | 4 => 1 | 5 => 0
/-- The device at the other end of semaphore row `p` of chain `s`. -/
abbrev mate (p : Fin 6) (s : Fin 16) (c : Dev nD) : Dev nD := peer (ax s (ph p)) c

/-- What one copy on semaphore row `p` counts. -/
def amt (p : Fin 6) : ℕ := (landM rM (ph p) 0).view.dmaCredit
theorem amt_pos (p : Fin 6) : 0 < amt p := View.dmaCredit_pos _ (pos_r _)

theorem amt_land (p : Fin 3) (s : Fin 16) : (landM rM p s).view.dmaCredit = amt (rph p) := by
  revert p; intro p; match p with | 0 => rfl | 1 => rfl | 2 => rfl
theorem amt_src (p : Fin 3) (s : Fin 16) (c : Dev nD) : (srcM oM c p s).view.dmaCredit = amt (rph p) := by
  revert p; intro p; match p with | 0 => rfl | 1 => rfl | 2 => rfl
theorem amt_gat (q : Fin 3) (s : Fin 16) (c : Dev nD) : (gatM oM c q s).view.dmaCredit = amt (gph q) := by
  revert q; intro q; match q with | 0 => rfl | 1 => rfl | 2 => rfl

/-! ## Holdings -/

/-- A share of a block: all of it, or one of the parts it is lent out in. -/
inductive Sq where
  | f | l | r | rl | rr
  deriving DecidableEq

def Sq.share : Sq → PosShare TreeShare
  | .f => fullShare
  | .l => fullShare.left
  | .r => fullShare.right
  | .rl => fullShare.right.left
  | .rr => fullShare.right.right

/-- A piece of memory that a chain holds: `row R q l` a share `q` of block `R` at level `l`, `any` the chain's rows at
    any contents, `xin` the chain's rows of the input, `land p` the neighbour's landing rows of phase `p`, `got p` the own
    ones after the copy has landed, `back p` the neighbour's rows that the copy came from. -/
inductive Piece where
  | row (R : Reg) (q : Sq) (l : Fin 4)
  | any
  | xin
  | land (p : Fin 3)
  | got (p : Fin 3)
  | back (p : Fin 3)
  deriving DecidableEq

/-- What a chain holds: memory, and per semaphore row the right to pay, the place in the semaphore's count, the
    expectation of what is under way, and the finished count. -/
inductive Atom where
  | mem (a : Piece)
  | sTok (p : Fin 6) | rTok (p : Fin 6)
  | sPos (p : Fin 6) | rPos (p : Fin 6)
  | sCr (p : Fin 6) | rCr (p : Fin 6)
  | sEnd (p : Fin 6) | rEnd (p : Fin 6)
  deriving DecidableEq

abbrev oPt (c : Dev nD) (I : Finset S1024x1024.Idx) (q : PosShare TreeShare) (f : Big F) : sProp 𝕄 :=
  (oM : Memref sig .tc .vmem S1024x1024 .bf16).view.loc (c : Thread nD τ) ↦[I]{q} f
abbrev xPt (c : Dev nD) (I : Finset S1024x1024.Idx) (q : PosShare TreeShare) (f : Big F) : sProp 𝕄 :=
  (xM : Memref sig .tc .vmem S1024x1024 .bf16).view.loc (c : Thread nD τ) ↦[I]{q} f
abbrev rPt (c : Dev nD) (I : Finset S16x56x1024.Idx) (q : PosShare TreeShare) (f : Buf3 F) : sProp 𝕄 :=
  (rM : Memref sig .tc .vmem S16x56x1024 .bf16).view.loc (c : Thread nD τ) ↦[I]{q} f

variable (x : Dev nD → Big F)

/-- What a piece of memory of chain `s` on device `c` is. -/
def piece (s : Fin 16) (c : Dev nD) : Piece → sProp 𝕄
  | .row R q l => oPt c (R.set s c) q.share (lvl x l c)
  | .any => iprop(∃ f, oPt c (Reg.W.set s c) fullShare f)
  | .xin => xPt c (Reg.W.set s c) fullShare (x c)
  | .land p => iprop(∃ f, rPt (peer (ax s p) c) (plane s (rbo p) (rsz p)) fullShare f)
  | .got p => rPt c (plane s (rbo p) (rsz p)) fullShare (RB x c)
  | .back p => iprop(∃ f, oPt (peer (ax s p) c) ((Reg.K p).set s c) fullShare f)

instance piece_storable (s : Fin 16) (c : Dev nD) (a : Piece) : BI.Storable (upEmb : UEmb _ 𝕄) (piece x s c a) := by
  cases a <;> (unfold piece; infer_instance)

/-- What the copy on row `p` hands to its receiver. -/
def rPay (p : Fin 6) : Piece × Option Piece :=
  match p with
  | 0 => (.got 0, some (.back 0))
  | 1 => (.got 1, some (.back 1))
  | 2 => (.got 2, some (.back 2))
  | 3 => (.row (.S 2) .f 3, none)
  | 4 => (.row (.S 1) .f 3, none)
  | 5 => (.row (.S 0) .f 3, none)
/-- What the copy on row `p` hands back to its sender. -/
def sPay (p : Fin 6) : Option Piece :=
  match p with
  | 0 => none | 1 => none | 2 => none
  | 3 => some (.row (.K 2) .l 3)
  | 4 => some (.row (.K 1) .rl 3)
  | 5 => some (.row (.K 0) .rr 3)

/-- A piece or nothing. -/
def opt (s : Fin 16) (c : Dev nD) : Option Piece → sProp 𝕄
  | none => iprop(emp)
  | some a => piece x s c a
instance opt_storable (s : Fin 16) (c : Dev nD) (a : Option Piece) : BI.Storable (upEmb : UEmb _ 𝕄) (opt x s c a) := by
  cases a <;> (unfold opt; infer_instance)

/-- Handed over with a barrier unit: for every chain, the sender's landing rows of the phase that goes along the axis,
    and that the sender's two receiving semaphores along it are ready. -/
def barPay (c : Dev nD) (a : Fin 3) : sProp 𝕄 :=
  bigSep Finset.univ fun s : Fin 16 =>
    iprop(piece x s c (.land (pa s a)) ∗ reached ER (rCell (peer a c) (rph (pa s a)) s) 0
      ∗ reached ER (rCell (peer a c) (gph (qp (pa s a))) s) 0)
instance barPay_storable (c : Dev nD) (a : Fin 3) : BI.Storable (upEmb : UEmb _ 𝕄) (barPay x c a) := by
  unfold barPay; infer_instance

/-! ## The schedule -/

/-- One round per semaphore. -/
def Rd : Rounds.Schedule (GSem nD τ sig) (Fin 3) 𝕄 where
  duties g r := if r = 0 ∧ g.1.2 = .tc then
      (match role g.2 with | .bar => Finset.univ | .snd _ _ => {0} | .rcv _ _ => {0} | .none => ∅) else ∅
  unitless _ := False
  amount g _ _ := match role g.2 with | .bar => 1 | .snd p _ => amt p | .rcv p _ => amt p | .none => 1
  payload g _ d := match role g.2 with
    | .bar => barPay x g.1.1 d
    | .snd p s => opt x s g.1.1 (sPay p)
    | .rcv p s => iprop(piece x s g.1.1 (rPay p).1 ∗ opt x s g.1.1 (rPay p).2)
    | .none => iprop(emp)
  amount_pos g _ _ _ := by
    split
    · exact Nat.one_pos
    · exact amt_pos _
    · exact amt_pos _
    · exact Nat.one_pos

instance Rd_storable (g : GSem nD τ sig) (r : ℕ) (d : Fin 3) : BI.Storable (upEmb : UEmb _ 𝕄) ((Rd x).payload g r d) := by
  show BI.Storable upEmb (match role g.2 with
    | .bar => barPay x g.1.1 d
    | .snd p s => opt x s g.1.1 (sPay p)
    | .rcv p s => iprop(piece x s g.1.1 (rPay p).1 ∗ opt x s g.1.1 (rPay p).2)
    | .none => iprop(emp))
  split <;> infer_instance

section Sched
variable (c : Dev nD) (p : Fin 6) (s : Fin 16) (d : Fin 3)

theorem duties_bar : (Rd x).duties (bCell c) 0 = Finset.univ := by dsimp only [Rd]; rw [if_pos ⟨rfl, rfl⟩, role_bar]
theorem duties_snd : (Rd x).duties (sCell c p s) 0 = {0} := by dsimp only [Rd]; rw [if_pos ⟨rfl, rfl⟩, role_snd]
theorem duties_rcv : (Rd x).duties (rCell c p s) 0 = {0} := by dsimp only [Rd]; rw [if_pos ⟨rfl, rfl⟩, role_rcv]
theorem duties_later (g : GSem nD τ sig) : ∀ r, 1 ≤ r → (Rd x).duties g r = ∅ :=
  fun r hr => by dsimp only [Rd]; rw [if_neg (fun h => by omega)]

theorem amount_bar : (Rd x).amount (bCell c) 0 d = 1 := by dsimp only [Rd]; rw [role_bar]
theorem amount_snd : (Rd x).amount (sCell c p s) 0 d = amt p := by dsimp only [Rd]; rw [role_snd]
theorem amount_rcv : (Rd x).amount (rCell c p s) 0 d = amt p := by dsimp only [Rd]; rw [role_rcv]

theorem expect_bar : (Rd x).expect (bCell c) 0 = 3 := by
  unfold Schedule.expect Schedule.amountOf; rw [duties_bar]; simp only [amount_bar]; rfl
theorem expect_snd : (Rd x).expect (sCell c p s) 0 = amt p := by
  unfold Schedule.expect Schedule.amountOf; rw [duties_snd, Finset.sum_singleton, amount_snd]
theorem expect_rcv : (Rd x).expect (rCell c p s) 0 = amt p := by
  unfold Schedule.expect Schedule.amountOf; rw [duties_rcv, Finset.sum_singleton, amount_rcv]

theorem payload_bar : (Rd x).payload (bCell c) 0 d = barPay x c d := by dsimp only [Rd]; rw [role_bar]
theorem payload_snd : (Rd x).payload (sCell c p s) 0 d = opt x s c (sPay p) := by dsimp only [Rd]; rw [role_snd]
theorem payload_rcv : (Rd x).payload (rCell c p s) 0 d = iprop(piece x s c (rPay p).1 ∗ opt x s c (rPay p).2) := by
  dsimp only [Rd]; rw [role_rcv]

theorem rest_bar : bigSep ((Rd x).duties (bCell c) 0 \ ∅) (fun u => (Rd x).payload (bCell c) 0 u) = bigSep Finset.univ (barPay x c) := by
  rw [Finset.sdiff_empty, duties_bar]; exact bigSep_congr fun d _ => payload_bar x c d
theorem rest_snd : bigSep ((Rd x).duties (sCell c p s) 0 \ ∅) (fun u => (Rd x).payload (sCell c p s) 0 u) = opt x s c (sPay p) := by
  rw [Finset.sdiff_empty, duties_snd, bigSep_singleton, payload_snd]
theorem rest_rcv : bigSep ((Rd x).duties (rCell c p s) 0 \ ∅) (fun u => (Rd x).payload (rCell c p s) 0 u)
    = iprop(piece x s c (rPay p).1 ∗ opt x s c (rPay p).2) := by
  rw [Finset.sdiff_empty, duties_rcv, bigSep_singleton, payload_rcv]

end Sched

/-! ## What a device owes, and the order of waits -/

/-- How many steps of a chain come before it sends on row `p`. -/
def sendAt (p : Fin 6) : ℕ := match p with | 0 => 1 | 1 => 4 | 2 => 8 | 3 => 12 | 4 => 14 | 5 => 16

/-- The copies device `c` still has to issue when chain `s` has done `σ s` steps. -/
def owed (c : Dev nD) (σ : Fin 16 → ℕ) : CellTallies nD τ sig Unit :=
  ∑ k : Fin 6 × Fin 16, if σ k.2 ≤ sendAt k.1 then tallyAt (rCell (mate k.1 k.2 c) k.1 k.2) () (amt k.1) else 0

def L (g : GSem nD τ sig) : Finset Unit := if g.1.2 = .tc then {()} else ∅
/-- Waits go in this order: the barrier first, then the receiving rows in turn. -/
def lv (g : GSem nD τ sig) (_ : Unit) : ℕ := match role g.2 with | .bar => 1 | .snd _ _ => 0 | .rcv p _ => 2 + p.val | .none => 0

theorem L_of_ne (g : GSem nD τ sig) (h : g.1.2 ≠ .tc) : L g = ∅ := if_neg h
theorem L_tc (c : Dev nD) (sm : SemLoc sig) : L ((c : Thread nD τ), sm) = {()} := if_pos rfl

theorem owed_pos {c : Dev nD} {σ : Fin 16 → ℕ} {g : GSem nD τ sig} {u : Unit} (h : 0 < owed c σ g u) :
    ∃ p s, σ s ≤ sendAt p ∧ g = rCell (mate p s c) p s := by
  by_contra hn
  have : owed c σ g u = 0 := by
    unfold owed
    rw [Finset.sum_apply, Finsupp.finset_sum_apply]
    refine Finset.sum_eq_zero fun k _ => ?_
    by_cases hk : σ k.2 ≤ sendAt k.1
    · rw [if_pos hk, tallyAt_apply]
      exact if_neg fun hh => hn ⟨k.1, k.2, hk, hh.1⟩
    · rw [if_neg hk]; rfl
  omega

/-- A wait on a semaphore of level at most `1 + n` is allowed once every chain has issued its copies of rows below `n`. -/
theorem mayWait (c : Dev nD) (σ : Fin 16 → ℕ) (sm : SemLoc sig) (n : ℕ) (hs : lv ((c : Thread nD τ), sm) () ≤ 1 + n)
    (h : ∀ p s, σ s ≤ sendAt p → n ≤ p.val) :
    (levAts L lv : sProp 𝕄) ⊢ MayWait (c : Thread nD τ) sm () (owed c σ) :=
  MayOwe.of_cut (L := L) (lev := lv) (1 + n) (fun p hp => by rw [Finset.mem_singleton.mp hp, L_tc]; exact Finset.mem_singleton_self _)
    (fun g u hg => by
      obtain ⟨p, s, -, rfl⟩ := owed_pos hg
      rw [L_tc]; exact Finset.mem_singleton_self _)
    (fun p hp => by rw [Finset.mem_singleton.mp hp]; exact hs)
    (fun g u hg => by
      obtain ⟨p, s, hp, rfl⟩ := owed_pos hg
      have := h p s hp
      unfold lv; rw [role_rcv]; dsimp only; omega)

end Cert.AllReduce
-- ==== Proof.Steps.lean ====
/-
One step of one chain: what it takes, what it gives, and the proof that its text does so.

`Tag` names the steps; `pre` and `post` list the atoms a step consumes and produces. There is one lemma per kind of
step, for every chain, phase and device.
-/
module

public import proofs.«01_k».proof.Proof.Protocol

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The kind of a step, copies and waits by their semaphore row. -/
inductive Tag where
  | conv | send (p : Fin 6) | wait (p : Fin 6) | add (j : Fin 5) | done (p : Fin 6)
  deriving DecidableEq

/-- The block a copy reads, and what it overwrites. -/
def srcPc (p : Fin 6) : Piece :=
  match p with
  | 0 => .row (.S 0) .f 0 | 1 => .row (.S 1) .f 1 | 2 => .row (.S 2) .f 2
  | 3 => .row (.K 2) .l 3 | 4 => .row (.K 1) .rl 3 | 5 => .row (.K 0) .rr 3
def dstPc (p : Fin 6) : Piece :=
  match p with
  | 0 => .land 0 | 1 => .land 1 | 2 => .land 2 | 3 => .back 2 | 4 => .back 1 | 5 => .back 0

def optM : Option Piece → Multiset Atom
  | none => 0
  | some a => {.mem a}

def addLv (j : Fin 5) : Fin 4 := match j with | 0 => 0 | 1 => 0 | 2 => 1 | 3 => 1 | 4 => 2

/-- What a step takes. -/
def Tag.pre : Tag → Multiset Atom
  | .conv => {.mem .any} + {.mem .xin}
  | .send p => {.mem (srcPc p)} + ({.mem (dstPc p)} + ({.sTok p} + {.rTok p}))
  | .wait p => {.rCr p} + {.rPos p}
  | .add j => {.mem (.row (addReg j) .f (addLv j))} + {.mem (.got (addPh j))}
  | .done p => {.sCr p} + {.sPos p}
/-- What a step gives. -/
def Tag.post : Tag → Multiset Atom
  | .conv => {.mem (.row .W .f 0)} + {.mem .xin}
  | .send p => {.sCr p}
  | .wait p => {.rEnd p} + ({.mem (rPay p).1} + optM (rPay p).2)
  | .add j => {.mem (.row (addReg j) .f (addLv j + 1))} + {.mem (.got (addPh j))}
  | .done p => {.sEnd p} + optM (sPay p)

variable (x : Dev nD → Big F)

/-- What an atom of chain `s` on device `c` is. -/
def atom (s : Fin 16) (c : Dev nD) : Atom → sProp 𝕄
  | .mem a => piece x s c a
  | .sTok p => dutyTok ER (sCell c p s) 0 0
  | .rTok p => dutyTok ER (rCell (mate p s c) p s) 0 0
  | .sPos p => atPos ER (sCell c p s) 0 ∅ 0
  | .rPos p => atPos ER (rCell c p s) 0 ∅ 0
  | .sCr p => cred (tallyAt (sCell c p s) () (amt p))
  | .rCr p => cred (tallyAt (rCell c p s) () (amt p))
  | .sEnd p => atPos ER (sCell c p s) (0 + 1) ∅ 0
  | .rEnd p => atPos ER (rCell c p s) (0 + 1) ∅ 0

/-- The atoms of a multiset, together. -/
abbrev atoms (s : Fin 16) (c : Dev nD) (A : Multiset Atom) : sProp 𝕄 := bigSepM A (atom x s c)

theorem atoms_add (s : Fin 16) (c : Dev nD) (A B : Multiset Atom) : atoms x s c (A + B) = iprop(atoms x s c A ∗ atoms x s c B) :=
  bigSepM_add A B _
theorem atoms_one (s : Fin 16) (c : Dev nD) (a : Atom) : atoms x s c {a} = atom x s c a := bigSepM_singleton a _
theorem atoms_opt (s : Fin 16) (c : Dev nD) (a : Option Piece) : atoms x s c (optM a) = opt x s c a := by
  cases a with
  | none => rfl
  | some a => exact atoms_one x s c _

/-- What device `c` knows about one pair of semaphores: their invariants, the neighbour's, and that they are ready. -/
def fact (K : GSem nD τ sig → ℕ) (c : Dev nD) (k : Fin 6 × Fin 16) : sProp 𝕄 :=
  iprop(cellInv ER (Rd x) (K (sCell c k.1 k.2)) (sCell c k.1 k.2)
    ∗ cellInv ER (Rd x) (K (rCell c k.1 k.2)) (rCell c k.1 k.2)
    ∗ cellInv ER (Rd x) (K (rCell (mate k.1 k.2 c) k.1 k.2)) (rCell (mate k.1 k.2 c) k.1 k.2)
    ∗ reached ER (sCell c k.1 k.2) 0 ∗ reached ER (rCell (mate k.1 k.2 c) k.1 k.2) 0)
instance fact_persistent (K : GSem nD τ sig → ℕ) (c : Dev nD) (k : Fin 6 × Fin 16) : BI.Persistent (fact x K c k) := by
  unfold fact; infer_instance

/-- What device `c` knows throughout. -/
def facts (K : GSem nD τ sig → ℕ) (c : Dev nD) : sProp 𝕄 := iprop(levAts L lv ∗ bigSep Finset.univ (fact x K c))
instance facts_persistent (K : GSem nD τ sig → ℕ) (c : Dev nD) : BI.Persistent (facts x K c) := by
  unfold facts; infer_instance

theorem facts_lev (K : GSem nD τ sig → ℕ) (c : Dev nD) : facts x K c ⊢ (levAts L lv : sProp 𝕄) := by
  unfold facts; iintro ⟨H, -⟩; iexact H
theorem facts_at (K : GSem nD τ sig → ℕ) (c : Dev nD) (p : Fin 6) (s : Fin 16) : facts x K c ⊢ fact x K c (p, s) := by
  unfold facts
  iintro ⟨-, H⟩
  ihave H := (show bigSep Finset.univ (fact x K c) ⊢ fact x K c (p, s) from bigSep_elim (Finset.mem_univ (p, s))) $$ H
  iexact H

/-- The core's debts, whatever it has waited for. -/
def owes' (c : Dev nD) (O : CellTallies nD τ sig Unit) : sProp 𝕄 := iprop(∃ W, owes (c : Thread nD τ) O W)

/-- A program of device `c` ends in `Q`. -/
abbrev WP (c : Dev nD) (pr : Prog (TpuEff nD τ sig (Elt F) Λ₀ .tc) PUnit) (Q : PUnit.{1} → sProp 𝕄) : sProp 𝕄 :=
  wp frame (wpE (defs₀ (F := F)) 𝒱₀ (c : Thread nD τ) none) Set.univ pr Q

/-- The text of a step at the kernel's own buffers. -/
abbrev stepAt (c : Dev nD) (t : Step) (rest : Prog (TpuEff nD τ sig (Elt F) Λ₀ .tc) PUnit) : Prog (TpuEff nD τ sig (Elt F) Λ₀ .tc) PUnit :=
  t.prog xM oM (Memref.isWhole_whole _) rM (Memref.isWhole_whole _) cc0_scratch1 cc0_scratch2 c rest

variable (K : GSem nD τ sig → ℕ) (c : Dev nD) (s : Fin 16) (rest : Prog (TpuEff nD τ sig (Elt F) Λ₀ .tc) PUnit)

theorem share_f : Sq.share .f = fullShare := rfl
theorem piece_row (R : Reg) (q : Sq) (l : Fin 4) : piece x s c (.row R q l) = oPt c (R.set s c) q.share (lvl x l c) := rfl
theorem piece_land (p : Fin 3) :
    piece x s c (.land p) = iprop(∃ f, rPt (peer (ax s p) c) (plane s (rbo p) (rsz p)) fullShare f) := rfl
theorem piece_back (p : Fin 3) : piece x s c (.back p) = iprop(∃ f, oPt (peer (ax s p) c) ((Reg.K p).set s c) fullShare f) := rfl
theorem piece_got (p : Fin 3) : piece x s c (.got p) = rPt c (plane s (rbo p) (rsz p)) fullShare (RB x c) := rfl

/-! ## Loading the chain's rows -/

/-- A chain's rows of a 1024 × 1024 buffer. -/
abbrev cvR : Rect S1024x1024 := Rect.unit (s := S1024x1024) ![64 * s.val, 0] (Sh 64).size (inb_cv s)

theorem access_cv_set : (oM.access (cvR s)).set = Reg.W.set s c :=
  (View.set_slice_whole _ _).trans (rect_set _ _ _ rfl _)
theorem setOn_cv : (oM : Memref sig .tc .vmem S1024x1024 .bf16).view.setOn (cvR s).toLoadRect.set = Reg.W.set s c := by
  rw [← access_cv_set c s, View.set_slice]; rfl
theorem setOn_cvx : (xM : Memref sig .tc .vmem S1024x1024 .bf16).view.setOn (cvR s).toLoadRect.set = Reg.W.set s c :=
  setOn_cv c s

theorem conv_eq (f : Big F) :
    (oPt c (Reg.W.set s c) fullShare ((oM.access (cvR s)).write (Elt F) f
        (shapeCast (Sh 64) (xM.view.readAt (Elt F) (cvR s).toLoadRect (x c)) casts_cv) Finset.univ) : sProp 𝕄)
      = oPt c (Reg.W.set s c) fullShare (lvl x 0 c) := by
  refine pointsTo_congr ?_
  have h := write_agrees (oM.access (cvR s)) f (lvl x 0 c)
    (shapeCast (Sh 64) (xM.view.readAt (Elt F) (cvR s).toLoadRect (x c)) casts_cv)
    (fun i => (congrFun (same_shape (s := Sh 64) (xM.view.readAt (Elt F) (cvR s).toLoadRect (x c)) casts_cv) i).symm)
  rw [access_cv_set c s] at h
  exact h

theorem step_conv (Q : PUnit.{1} → sProp 𝕄) (O : CellTallies nD τ sig Unit) :
    iprop(atoms x s c Tag.conv.pre ∗ owes' c O ∗ ((atoms x s c Tag.conv.post ∗ owes' c O) -∗ WP c rest Q))
      ⊢ WP c (stepAt c ⟨s, .conv⟩ rest) Q := by
  unfold Tag.pre Tag.post
  simp only [atoms_add, atoms_one, atom]
  unfold piece
  iintro ⟨⟨⟨%f, Ho⟩, Hx⟩, HO, Hk⟩
  iapply (wp_load 𝒱₀ (c : Thread nD τ) none Set.univ (m := xM) (S := Reg.W.set s c) (subset_of_eq (setOn_cvx c s))) $$ Hx
  iintro Hx
  iapply (wp_load 𝒱₀ (c : Thread nD τ) none Set.univ (m := oM) (S := Reg.W.set s c) (subset_of_eq (setOn_cv c s))) $$ Ho
  iintro Ho
  iapply (wp_store 𝒱₀ (c : Thread nD τ) none Set.univ (m := oM) (r := cvR s) (S := Reg.W.set s c) (subset_of_eq (access_cv_set c s))) $$ Ho
  iintro Ho
  ihave Ho := (Entails.of_eq (conv_eq x c s f)) $$ Ho
  iapply Hk
  isplitr [HO]
  · isplitr [Hx]
    · iexact Ho
    · iexact Hx
  · iexact HO

/-! ## Additions -/

/-- The block that addition `j` updates, as a rectangle. -/
abbrev adR (j : Fin 5) : Rect S1024x1024 := Rect.unit (s := S1024x1024) (addOff j s c) (Sh (asz j)).size (inb_add j s c)

theorem access_ad_set (j : Fin 5) : (oM.access (adR c s j)).set = (addReg j).set s c := by
  refine ((View.set_slice_whole _ _).trans (rect_set _ _ _ (addOff_eq j s c) _)).trans ?_
  rw [asz_eq]
theorem setOn_ad (j : Fin 5) : (oM : Memref sig .tc .vmem S1024x1024 .bf16).view.setOn (adR c s j).toLoadRect.set = (addReg j).set s c := by
  rw [← access_ad_set c s, View.set_slice]; rfl
theorem setOn_got (j : Fin 5) (off : Fin 3 → ℕ) (h : ∀ a, off a + (Sh1 (asz j)).size a ≤ S16x56x1024.size a)
    (ho : off = ![s.val, landOff j s c, 0]) :
    (rM : Memref sig .tc .vmem S16x56x1024 .bf16).view.setOn (Rect.unit (s := S16x56x1024) off (Sh1 (asz j)).size h).toLoadRect.set
      ⊆ plane s (rbo (addPh j)) (rsz (addPh j)) := by
  have e : (rM : Memref sig .tc .vmem S16x56x1024 .bf16).view.setOn (Rect.unit (s := S16x56x1024) off (Sh1 (asz j)).size h).toLoadRect.set
      = plane s (landOff j s c) (asz j) := by
    rw [← rect3_set s _ _ off ho h]
    exact Finset.map_refl
  rw [e]
  intro i
  rw [mem_plane, mem_plane]
  have hw := addReg_within j s c
  unfold landOff
  omega

theorem lvl_low (j : Fin 5) : lvl x (addLv j) c = V x (addPh j).val c := by
  match j with | 0 => rfl | 1 => rfl | 2 => rfl | 3 => rfl | 4 => rfl
theorem lvl_next (j : Fin 5) : ∀ i ∈ (addReg j).set s c, V x ((addPh j).val + 1) c i = lvl x (addLv j + 1) c i := by
  match j with
  | 0 => exact fun _ _ => rfl
  | 1 => exact fun _ _ => rfl
  | 2 => exact fun _ _ => rfl
  | 3 => exact fun _ _ => rfl
  | 4 => exact fun i hi => V_three hi

theorem add_eq (j : Fin 5) (off : Fin 3 → ℕ) (h : ∀ a, off a + (Sh1 (asz j)).size a ≤ S16x56x1024.size a)
    (ho : off = ![s.val, landOff j s c, 0]) :
    (oPt c ((addReg j).set s c) fullShare ((oM.access (adR c s j)).write (Elt F) (V x (addPh j).val c)
        (addf (shapeCast (Sh (asz j)) (oM.view.readAt (Elt F) (adR c s j).toLoadRect (V x (addPh j).val c)) (casts_a j))
          (shapeCast (Sh (asz j)) (rM.view.readAt (Elt F) (Rect.unit (s := S16x56x1024) off (Sh1 (asz j)).size h).toLoadRect (RB x c)) (casts_a1 j)))
        Finset.univ) : sProp 𝕄)
      = oPt c ((addReg j).set s c) fullShare (lvl x (addLv j + 1) c) :=
  pointsTo_congr fun i hi => (added x j s c off h ho _ i hi).trans (lvl_next x c s j i hi)

theorem step_add (Q : PUnit.{1} → sProp 𝕄) (j : Fin 5) (off : Fin 3 → ℕ) (h : ∀ a, off a + (Sh1 (asz j)).size a ≤ S16x56x1024.size a)
    (ho : off = ![s.val, landOff j s c, 0]) (O : CellTallies nD τ sig Unit) :
    iprop(atoms x s c (Tag.add j).pre ∗ owes' c O ∗ ((atoms x s c (Tag.add j).post ∗ owes' c O) -∗ WP c rest Q))
      ⊢ WP c (stepAt c ⟨s, .add j off h⟩ rest) Q := by
  unfold Tag.pre Tag.post
  simp only [atoms_add, atoms_one, atom]
  rw [piece_row, piece_row, piece_got, lvl_low, share_f]
  iintro ⟨⟨Ho, Hr⟩, HO, Hk⟩
  iapply (wp_load 𝒱₀ (c : Thread nD τ) none Set.univ (m := oM) (S := (addReg j).set s c) (subset_of_eq (setOn_ad c s j))) $$ Ho
  iintro Ho
  iapply (wp_load 𝒱₀ (c : Thread nD τ) none Set.univ (m := rM) (S := plane s (rbo (addPh j)) (rsz (addPh j))) (setOn_got c s j off h ho)) $$ Hr
  iintro Hr
  iapply (wp_load 𝒱₀ (c : Thread nD τ) none Set.univ (m := oM) (S := (addReg j).set s c) (subset_of_eq (setOn_ad c s j))) $$ Ho
  iintro Ho
  iapply (wp_store 𝒱₀ (c : Thread nD τ) none Set.univ (m := oM) (r := adR c s j) (S := (addReg j).set s c) (subset_of_eq (access_ad_set c s j))) $$ Ho
  iintro Ho
  ihave Ho := (Entails.of_eq (add_eq x c s j off h ho)) $$ Ho
  iapply Hk
  isplitr [HO]
  · isplitr [Hr]
    · iexact Ho
    · iexact Hr
  · iexact HO

/-! ## Copies -/

/-- The share of the source that the copy of all-gather phase `q` borrows. -/
def gq (q : Fin 3) : Sq := match q with | 0 => .l | 1 => .rl | 2 => .rr

theorem srcPc_r (p : Fin 3) : srcPc (rph p) = .row (.S p) .f p.castSucc := by revert p; decide
theorem dstPc_r (p : Fin 3) : dstPc (rph p) = .land p := by revert p; decide
theorem rPay_r (p : Fin 3) : rPay (rph p) = (.got p, some (.back p)) := by revert p; decide
theorem sPay_r (p : Fin 3) : sPay (rph p) = none := by revert p; decide
theorem mate_r (p : Fin 3) : mate (rph p) s c = peer (ax s p) c := by
  match p with | 0 => rfl | 1 => rfl | 2 => rfl
theorem srcPc_g (q : Fin 3) : srcPc (gph q) = .row (.K (qp q)) (gq q) 3 := by revert q; decide
theorem dstPc_g (q : Fin 3) : dstPc (gph q) = .back (qp q) := by revert q; decide
theorem rPay_g (q : Fin 3) : rPay (gph q) = (.row (.S (qp q)) .f 3, none) := by revert q; decide
theorem sPay_g (q : Fin 3) : sPay (gph q) = some (.row (.K (qp q)) (gq q) 3) := by revert q; decide
theorem mate_g (q : Fin 3) : mate (gph q) s c = peer (ax s (qp q)) c := by
  match q with | 0 => rfl | 1 => rfl | 2 => rfl
theorem lvl_cast (p : Fin 3) : lvl x p.castSucc c = V x p.val c := by
  match p with | 0 => rfl | 1 => rfl | 2 => rfl

/-- The rows a phase sends are the ones its partner keeps, and the other way round. -/
theorem set_S_peer (p : Fin 3) : (Reg.S p).set s (peer (ax s p) c) = (Reg.K p).set s c := by
  show rows (sOff p s (peer (ax s p) c)) _ = rows (kOff p s c) _
  rw [sOff_peer]; rfl
theorem set_K_peer (p : Fin 3) : (Reg.K p).set s (peer (ax s p) c) = (Reg.S p).set s c := by
  show rows (kOff p s (peer (ax s p) c)) _ = rows (sOff p s c) _
  rw [kOff_peer]; rfl

/-- What a reduce-scatter copy hands over. -/
theorem pay_r (p : Fin 3) (f : Buf3 F) :
    (iprop(rPt (mate (rph p) s c) (landM rM p s).view.set fullShare
          ((landM rM p s).view.write (Elt F) f ((srcM oM c p s).view.read (Elt F) (V x p.val c)) Finset.univ)
        ∗ oPt c (srcM oM c p s).view.set fullShare (V x p.val c)) : sProp 𝕄)
      ⊢ (Rd x).payload (rCell (mate (rph p) s c) (rph p) s) 0 0 := by
  rw [payload_rcv, rPay_r, mate_r, srcM_set]
  unfold opt
  dsimp only
  rw [piece_got, piece_back, set_K_peer, peer_peer]
  refine sep_mono (Entails.of_eq ?_) ?_
  · refine (pointsTo_congr (landed x p s c f)).trans ?_
    rw [landM_set]
  · iintro H; iexists _; iexact H

theorem step_sendR (Q : PUnit.{1} → sProp 𝕄) (p : Fin 3) (O : CellTallies nD τ sig Unit) :
    iprop(facts x K c ∗ atoms x s c (Tag.send (rph p)).pre
        ∗ owes' c (O + tallyAt (rCell (mate (rph p) s c) (rph p) s) () (amt (rph p)))
        ∗ ((atoms x s c (Tag.send (rph p)).post ∗ owes' c O) -∗ WP c rest Q))
      ⊢ WP c (stepAt c ⟨s, .sendR p (mate (rph p) s c)⟩ rest) Q := by
  unfold Tag.pre Tag.post
  simp only [atoms_add, atoms_one, atom]
  rw [srcPc_r, dstPc_r, piece_row, piece_land, share_f]
  unfold owes'
  rw [lvl_cast, ← mate_r, ← srcM_set, ← landM_set]
  iintro ⟨#HF, ⟨Hs, ⟨%f, Hd⟩, HtS, HtR⟩, ⟨%W, HO⟩, Hk⟩
  ihave #HF' := (facts_at x K c (rph p) s) $$ HF
  unfold fact
  icases HF' with ⟨#HIs, #HIr, #HIp, #HrS, #HrP⟩
  iapply (Rounds.wp_send_landing_pointsTo 𝒱₀ ER (Rd x) (c : Thread nD τ) none (c' := (mate (rph p) s c : Thread nD τ))
      (src := srcM oM c p s) (dst := landM rM p s) (sS := sSem (rph p) s) (sem := rSem (rph p) s) (q := fullShare)
      (fs := V x p.val c) (fd := f) (κ₁ := K (sCell c (rph p) s)) (κ₂ := K (rCell (mate (rph p) s c) (rph p) s))
      (r₁ := 0) (r₂ := 0) (d₁ := 0) (d₂ := 0)
      (by rw [duties_snd]; exact Finset.mem_singleton_self _) (by rw [duties_rcv]; exact Finset.mem_singleton_self _)
      () () (amt (rph p)) (amt_land p s) (amount_snd x c (rph p) s 0) (amount_rcv x (mate (rph p) s c) (rph p) s 0) O rfl (W := W)
      (by rw [payload_snd, sPay_r]; exact BI.Entails.refl _)
      (pay_r x c s p f)) $$ [Hs Hd HO HtS HtR]
  · isplitr; · iexact HIs
    isplitr; · iexact HIp
    isplitl [Hs]; · iexact Hs
    isplitl [Hd]; · iexact Hd
    isplitl [HO]; · iexact HO
    isplitl [HtS]; · iexact HtS
    isplitr; · iexact HrS
    isplitl [HtR]; · iexact HtR
    iexact HrP
  iintro ⟨HcS, HO⟩
  iapply Hk
  isplitl [HcS]; · iexact HcS
  iexists _; iexact HO

/-- What an all-gather copy hands over. -/
theorem pay_g (q : Fin 3) (f : Big F) :
    (oPt (mate (gph q) s c) (gatM oM c q s).view.set fullShare
          ((gatM oM c q s).view.write (Elt F) f ((gatM oM c q s).view.read (Elt F) (Z x)) Finset.univ) : sProp 𝕄)
      ⊢ (Rd x).payload (rCell (mate (gph q) s c) (gph q) s) 0 0 := by
  rw [payload_rcv, rPay_g, mate_g]
  unfold opt
  dsimp only
  rw [piece_row, set_S_peer]
  refine (Entails.of_eq ?_).trans (Laws.sep_emp (PROP := sProp 𝕄)).2
  refine (pointsTo_congr (write_agrees (gatM oM c q s).view f (Z x) _ fun _ => rfl)).trans ?_
  rw [gatM_set]; rfl

theorem step_sendG (Q : PUnit.{1} → sProp 𝕄) (q : Fin 3) (O : CellTallies nD τ sig Unit) :
    iprop(facts x K c ∗ atoms x s c (Tag.send (gph q)).pre
        ∗ owes' c (O + tallyAt (rCell (mate (gph q) s c) (gph q) s) () (amt (gph q)))
        ∗ ((atoms x s c (Tag.send (gph q)).post ∗ owes' c O) -∗ WP c rest Q))
      ⊢ WP c (stepAt c ⟨s, .sendG q (mate (gph q) s c)⟩ rest) Q := by
  unfold Tag.pre Tag.post
  simp only [atoms_add, atoms_one, atom]
  rw [srcPc_g, dstPc_g, piece_row, piece_back]
  unfold owes'
  rw [← mate_g, ← gatM_set]
  iintro ⟨#HF, ⟨Hs, ⟨%f, Hd⟩, HtS, HtR⟩, ⟨%W, HO⟩, Hk⟩
  ihave #HF' := (facts_at x K c (gph q) s) $$ HF
  unfold fact
  icases HF' with ⟨#HIs, #HIr, #HIp, #HrS, #HrP⟩
  iapply (Rounds.wp_send_pointsTo 𝒱₀ ER (Rd x) (c : Thread nD τ) none (c' := (mate (gph q) s c : Thread nD τ))
      (src := gatM oM c q s) (dst := gatM oM c q s) (sS := sSem (gph q) s) (sem := rSem (gph q) s) (q := (gq q).share)
      (fs := Z x) (fd := f) (κ₁ := K (sCell c (gph q) s)) (κ₂ := K (rCell (mate (gph q) s c) (gph q) s))
      (r₁ := 0) (r₂ := 0) (d₁ := 0) (d₂ := 0)
      (by rw [duties_snd]; exact Finset.mem_singleton_self _) (by rw [duties_rcv]; exact Finset.mem_singleton_self _)
      () () (amt (gph q)) (amt_gat q s c) (amount_snd x c (gph q) s 0) (amount_rcv x (mate (gph q) s c) (gph q) s 0) O rfl (W := W)
      (by rw [payload_snd, sPay_g, gatM_set]; exact BI.Entails.refl _)
      (pay_g x c s q f)) $$ [Hs Hd HO HtS HtR]
  · isplitr; · iexact HIs
    isplitr; · iexact HIp
    isplitl [Hs]; · iexact Hs
    isplitl [Hd]; · iexact Hd
    isplitl [HO]; · iexact HO
    isplitl [HtS]; · iexact HtS
    isplitr; · iexact HrS
    isplitl [HtR]; · iexact HtR
    iexact HrP
  iintro ⟨HcS, HO⟩
  iapply Hk
  isplitl [HcS]; · iexact HcS
  iexists _; iexact HO

/-! ## Waits -/

/-- A wait on a receiving semaphore, whatever copy the text names: what matters is how much it counts. -/
theorem wait_rcv (Q : PUnit.{1} → sProp 𝕄) (p : Fin 6) {sp sp' : Space} {t t' : Shape} {e e' : EltTy} {src : Memref sig .tc sp t e} {dst : Memref sig .tc sp' t' e'}
    {hsrc : src.view.WordExact} {hdst : dst.view.WordExact} (ha : dst.view.dmaCredit = amt p)
    (O : CellTallies nD τ sig Unit) (hw : (levAts L lv : sProp 𝕄) ⊢ MayWait (c : Thread nD τ) (rSem p s) () O) :
    iprop(facts x K c ∗ atoms x s c (Tag.wait p).pre ∗ owes' c O
        ∗ ((atoms x s c (Tag.wait p).post ∗ owes' c O) -∗ WP c rest Q))
      ⊢ WP c (do Prog.lift (.waitDma2 (semAt cc0_scratch2 p s).sem src dst hsrc hdst); rest) Q := by
  unfold Tag.pre Tag.post
  simp only [atoms_add, atoms_one, atoms_opt, atom]
  unfold owes'
  iintro ⟨#HF, ⟨Hc, Hat⟩, ⟨%W, HO⟩, Hk⟩
  ihave #HF' := (facts_at x K c p s) $$ HF
  ihave #Hlev := (facts_lev x K c) $$ HF
  unfold fact
  icases HF' with ⟨#HIs, #HIr, #HIp, #HrS, #HrP⟩
  iapply (Rounds.wp_wait_rest_token 𝒱₀ ER (Rd x) (c : Thread nD τ) none (κ := K (rCell c p s))
      (wpE_waitDma2_eq (src := src) (dst := dst) 𝒱₀ (c : Thread nD τ) none Set.univ) (Set.mem_univ _) () (O := O)
      (W := W) (R := 0) (m := 0) (T := ∅)
      ((Nat.zero_add _).trans (ha.trans (expect_rcv x c p s).symm))) $$ [Hc HO Hat]
  · isplitr; · iexact HIr
    isplitl [Hc]; · rw [ha]; iexact Hc
    isplitl [HO]; · iexact HO
    isplitr; · iapply hw; iexact Hlev
    iexact Hat
  iintro ⟨HO, Hat, -, Hpay⟩
  ihave Hp := (Entails.of_eq (rest_rcv x c p s)) $$ Hpay
  iapply Hk
  isplitr [HO]
  · isplitl [Hat]; · iexact Hat
    iexact Hp
  · iexists _; iexact HO

/-- A wait on a sending semaphore. -/
theorem wait_snd (Q : PUnit.{1} → sProp 𝕄) (p : Fin 6) {sp sp' : Space} {t t' : Shape} {e e' : EltTy} {src : Memref sig .tc sp t e} {dst : Memref sig .tc sp' t' e'}
    {hsrc : src.view.WordExact} {hdst : dst.view.WordExact} (ha : dst.view.dmaCredit = amt p)
    (O : CellTallies nD τ sig Unit) (hw : (levAts L lv : sProp 𝕄) ⊢ MayWait (c : Thread nD τ) (sSem p s) () O) :
    iprop(facts x K c ∗ atoms x s c (Tag.done p).pre ∗ owes' c O
        ∗ ((atoms x s c (Tag.done p).post ∗ owes' c O) -∗ WP c rest Q))
      ⊢ WP c (do Prog.lift (.waitDma2 (semAt cc0_scratch1 p s).sem src dst hsrc hdst); rest) Q := by
  unfold Tag.pre Tag.post
  simp only [atoms_add, atoms_one, atoms_opt, atom]
  unfold owes'
  iintro ⟨#HF, ⟨Hc, Hat⟩, ⟨%W, HO⟩, Hk⟩
  ihave #HF' := (facts_at x K c p s) $$ HF
  ihave #Hlev := (facts_lev x K c) $$ HF
  unfold fact
  icases HF' with ⟨#HIs, #HIr, #HIp, #HrS, #HrP⟩
  iapply (Rounds.wp_wait_rest_token 𝒱₀ ER (Rd x) (c : Thread nD τ) none (κ := K (sCell c p s))
      (wpE_waitDma2_eq (src := src) (dst := dst) 𝒱₀ (c : Thread nD τ) none Set.univ) (Set.mem_univ _) () (O := O)
      (W := W) (R := 0) (m := 0) (T := ∅)
      ((Nat.zero_add _).trans (ha.trans (expect_snd x c p s).symm))) $$ [Hc HO Hat]
  · isplitr; · iexact HIs
    isplitl [Hc]; · rw [ha]; iexact Hc
    isplitl [HO]; · iexact HO
    isplitr; · iapply hw; iexact Hlev
    iexact Hat
  iintro ⟨HO, Hat, -, Hpay⟩
  ihave Hp := (Entails.of_eq (rest_snd x c p s)) $$ Hpay
  iapply Hk
  isplitr [HO]
  · isplitl [Hat]; · iexact Hat
    iexact Hp
  · iexists _; iexact HO

end Cert.AllReduce
-- ==== Proof.Chain.lean ====
/-
The life of one chain: its 24 steps in order, and what it holds before each.

Between steps a chain regroups what it holds: it halves blocks and lends out shares of them. `Mv` names these moves;
`state k` is what the chain holds before step `k`, computed from what it starts with.
-/
module

public import proofs.«01_k».proof.Proof.Steps

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Regrouping -/

/-- The three halvings: of the chain's rows, and of what the first two phases keep. -/
def hv (h : Fin 3) : Reg × Reg × Reg :=
  match h with
  | 0 => (.W, .S 0, .K 0)
  | 1 => (.K 0, .S 1, .K 1)
  | 2 => (.K 1, .S 2, .K 2)
theorem hv_halves (h : Fin 3) : Halves (hv h).1 (hv h).2.1 (hv h).2.2 := by
  match h with | 0 => exact .w | 1 => exact .k0 | 2 => exact .k1

/-- A block into its halves, or a share into its halves. -/
inductive Cut where
  | halve (h : Fin 3) (q : Sq) (l : Fin 4)
  | lend (R : Reg) (l : Fin 4)
  | lendR (R : Reg) (l : Fin 4)

/-- A cut, or the same backwards. -/
inductive Mv where
  | cut (u : Cut)
  | glue (u : Cut)

abbrev row (R : Reg) (q : Sq) (l : Fin 4) : Multiset Atom := {.mem (.row R q l)}

def Cut.whole : Cut → Multiset Atom
  | .halve h q l => row (hv h).1 q l
  | .lend R l => row R .f l
  | .lendR R l => row R .r l
def Cut.parts : Cut → Multiset Atom
  | .halve h q l => row (hv h).2.1 q l + row (hv h).2.2 q l
  | .lend R l => row R .l l + row R .r l
  | .lendR R l => row R .rl l + row R .rr l
def Mv.src : Mv → Multiset Atom | .cut u => u.whole | .glue u => u.parts
def Mv.dst : Mv → Multiset Atom | .cut u => u.parts | .glue u => u.whole

variable (x : Dev nD → Big F) (K : GSem nD τ sig → ℕ) (c : Dev nD) (s : Fin 16)

theorem cut_eq (u : Cut) : atoms x s c u.whole = atoms x s c u.parts := by
  cases u with
  | halve h q l =>
    unfold Cut.whole Cut.parts row
    rw [atoms_add, atoms_one, atoms_one, atoms_one]
    unfold atom
    simp only [piece_row]
    rw [← (hv_halves h).union s c]
    exact BI.Entails.antisymm (pointsTo_union ((hv_halves h).disjoint s c)).1 (pointsTo_union ((hv_halves h).disjoint s c)).2
  | lend R l =>
    unfold Cut.whole Cut.parts row
    rw [atoms_add, atoms_one, atoms_one, atoms_one]
    exact BI.Entails.antisymm (pointsTo_share (PosShare.mem_left_op_right _)).1 (pointsTo_share (PosShare.mem_left_op_right _)).2
  | lendR R l =>
    unfold Cut.whole Cut.parts row
    rw [atoms_add, atoms_one, atoms_one, atoms_one]
    exact BI.Entails.antisymm (pointsTo_share (PosShare.mem_left_op_right _)).1 (pointsTo_share (PosShare.mem_left_op_right _)).2

theorem mv_eq (v : Mv) : atoms x s c v.src = atoms x s c v.dst := by
  cases v with
  | cut u => exact cut_eq x c s u
  | glue u => exact (cut_eq x c s u).symm

/-- What is held after a list of moves. -/
def regroup (A : Multiset Atom) : List Mv → Multiset Atom
  | [] => A
  | v :: l => regroup (A - v.src + v.dst) l
/-- Every move finds what it takes. -/
def Regroups (A : Multiset Atom) : List Mv → Prop
  | [] => True
  | v :: l => v.src ≤ A ∧ Regroups (A - v.src + v.dst) l
instance regroups_decidable (A : Multiset Atom) (l : List Mv) : Decidable (Regroups A l) := by
  induction l generalizing A with
  | nil => exact isTrue trivial
  | cons v l ih => exact @instDecidableAnd _ _ _ (ih _)

theorem atoms_take {A B : Multiset Atom} (h : B ≤ A) : atoms x s c A = iprop(atoms x s c B ∗ atoms x s c (A - B)) := by
  rw [← atoms_add, Multiset.add_comm, Multiset.sub_add_cancel h]
theorem regroup_eq (l : List Mv) (A : Multiset Atom) (h : Regroups A l) : atoms x s c A = atoms x s c (regroup A l) := by
  induction l generalizing A with
  | nil => rfl
  | cons v l ih =>
    rw [atoms_take x c s h.1, mv_eq, ← atoms_add, Multiset.add_comm]
    exact ih _ h.2

/-! ## The steps of a chain -/

/-- The steps in order. -/
def order : List Tag :=
  [.conv, .send 0, .wait 0, .add 0, .send 1, .add 1, .wait 1, .add 2, .send 2, .add 3, .wait 2, .add 4,
    .send 3, .wait 3, .send 4, .wait 4, .send 5, .wait 5,
    .done 0, .done 1, .done 2, .done 3, .done 4, .done 5]
def tagAt (k : ℕ) : Tag := order.getD k .conv

/-- The regrouping after step `k`: the rows are halved as the phases need them; each finished block is lent out to the
    copy that sends it on and joined with the next one to arrive; in the end everything is joined again. -/
def moves (k : ℕ) : List Mv :=
  match k with
  | 0 => [.cut (.halve 0 .f 0), .cut (.halve 1 .f 0)]
  | 5 => [.cut (.halve 2 .f 1)]
  | 11 => [.cut (.lend (.K 2) 3)]
  | 13 => [.cut (.lend (.S 2) 3), .glue (.halve 2 .r 3), .cut (.lendR (.K 1) 3)]
  | 15 => [.cut (.lend (.S 1) 3), .cut (.lendR (.S 1) 3), .glue (.halve 1 .rr 3)]
  | 23 => [.cut (.halve 1 .rr 3), .glue (.lendR (.S 1) 3), .glue (.lend (.S 1) 3), .glue (.lendR (.K 1) 3),
      .cut (.halve 2 .r 3), .glue (.lend (.S 2) 3), .glue (.lend (.K 2) 3),
      .glue (.halve 2 .f 3), .glue (.halve 1 .f 3), .glue (.halve 0 .f 3)]
  | _ => []

/-- The semaphore parts of a chain before it starts. -/
def sems : Multiset Atom :=
  (Finset.univ : Finset (Fin 6)).val.bind fun p => {.sTok p} + ({.rTok p} + ({.sPos p} + ({.rPos p} + {.rCr p})))
/-- The places it will write to in its neighbours' receive buffers. -/
def lands : Multiset Atom := (Finset.univ : Finset (Fin 3)).val.map fun p => .mem (.land p)
/-- What a chain starts with. -/
def init : Multiset Atom := Tag.conv.pre + (sems + lands)
/-- What it ends with. -/
def fin : Multiset Atom :=
  {.mem (.row .W .f 3)} + ({.mem .xin} + ((Finset.univ : Finset (Fin 3)).val.map (fun p => .mem (.got p))
    + ((Finset.univ : Finset (Fin 6)).val.map .sEnd + (Finset.univ : Finset (Fin 6)).val.map .rEnd)))

/-- What a chain holds before step `k`. -/
def state : ℕ → Multiset Atom
  | 0 => init
  | k + 1 => regroup ((tagAt k).post + (state k - (tagAt k).pre)) (moves k)

theorem state_ok : ∀ k : Fin 24, (tagAt k).pre ≤ state k ∧ Regroups ((tagAt k).post + (state k - (tagAt k).pre)) (moves k) := by
  decide +kernel
theorem state_fin : state 24 = fin := by decide +kernel

/-- A step's needs are there. -/
theorem state_take (k : ℕ) (hk : k < 24) :
    atoms x s c (state k) = iprop(atoms x s c (tagAt k).pre ∗ atoms x s c (state k - (tagAt k).pre)) :=
  atoms_take x c s (state_ok ⟨k, hk⟩).1
/-- With what the step gives, the chain is ready for the next one. -/
theorem state_next (k : ℕ) (hk : k < 24) :
    iprop(atoms x s c (tagAt k).post ∗ atoms x s c (state k - (tagAt k).pre)) = atoms x s c (state (k + 1)) := by
  rw [← atoms_add]
  exact regroup_eq x c s _ _ (state_ok ⟨k, hk⟩).2

/-! ## Debts -/

theorem tagAt_sendAt (p : Fin 6) : tagAt (sendAt p) = .send p := by revert p; decide
theorem sendAt_inj : Function.Injective sendAt := by decide
theorem sendAt_mono : Monotone sendAt := by
  intro a b; revert a b; decide
theorem sendAt_of_tag (k : Fin 24) (p : Fin 6) (h : tagAt k = .send p) : k.val = sendAt p := by
  revert k p; decide +kernel

/-- One chain further. -/
def step1 (σ : Fin 16 → ℕ) (s : Fin 16) : Fin 16 → ℕ := Function.update σ s (σ s + 1)
theorem step1_self (σ : Fin 16 → ℕ) (s : Fin 16) : step1 σ s s = σ s + 1 := Function.update_self _ _ _
theorem step1_ne (σ : Fin 16 → ℕ) {s t : Fin 16} (h : t ≠ s) : step1 σ s t = σ t := Function.update_of_ne h _ _

/-- A step that is not a copy leaves the debts. -/
theorem owed_keep (σ : Fin 16 → ℕ) (h : ∀ p, σ s ≠ sendAt p) : owed c (step1 σ s) = owed c σ := by
  unfold owed
  refine Finset.sum_congr rfl fun k _ => ?_
  by_cases hk : k.2 = s
  · rw [hk, step1_self]
    have := h k.1
    exact if_congr (by omega) rfl rfl
  · rw [step1_ne _ hk]
/-- A copy pays one. -/
theorem owed_pay (σ : Fin 16 → ℕ) (p : Fin 6) (h : σ s = sendAt p) :
    owed c σ = owed c (step1 σ s) + tallyAt (rCell (mate p s c) p s) () (amt p) := by
  unfold owed
  rw [← Finset.add_sum_erase _ _ (Finset.mem_univ (p, s)), ← Finset.add_sum_erase (a := (p, s)) Finset.univ (fun k : Fin 6 × Fin 16 =>
    if step1 σ s k.2 ≤ sendAt k.1 then tallyAt (rCell (mate k.1 k.2 c) k.1 k.2) () (amt k.1) else 0) (Finset.mem_univ (p, s))]
  dsimp only
  rw [step1_self, if_pos (by omega), if_neg (by omega), zero_add, add_comm]
  congr 1
  refine Finset.sum_congr rfl fun k hk => ?_
  have hne := Finset.ne_of_mem_erase hk
  by_cases hs : k.2 = s
  · have hp : k.1 ≠ p := fun hp => hne (Prod.ext hp hs)
    have : ¬ sendAt k.1 = sendAt p := fun e => hp (sendAt_inj e)
    rw [hs, step1_self]
    exact if_congr (by rw [h]; omega) rfl rfl
  · rw [step1_ne _ hs]
theorem owed_done (σ : Fin 16 → ℕ) (h : ∀ s, σ s = 24) : owed c σ = 0 := by
  unfold owed
  refine Finset.sum_eq_zero fun k _ => if_neg ?_
  rw [h]
  have : ∀ p, sendAt p < 24 := by decide
  have := this k.1
  omega

/-! ## One step of the program -/

/-- The name of a step of the text. -/
def tagOf : Kind → Tag
  | .conv => .conv
  | .sendR p _ => .send (rph p)
  | .waitR p => .wait (rph p)
  | .add j _ _ => .add j
  | .sendG q _ => .send (gph q)
  | .waitG q => .wait (gph q)
  | .doneR p => .done (rph p)
  | .doneG q => .done (gph q)

/-- A step of the text does what its name says: a copy goes to the neighbour, an addition reads where the copy landed. -/
def Fits (c : Dev nD) (s : Fin 16) : Kind → Prop
  | .sendR p n => n = mate (rph p) s c
  | .sendG q n => n = mate (gph q) s c
  | .add j off _ => off = ![s.val, landOff j s c, 0]
  | _ => True
instance fits_decidable (c : Dev nD) (s : Fin 16) (k : Kind) : Decidable (Fits c s k) := by
  cases k <;> (unfold Fits; infer_instance)

/-- Waiting for row `p` is allowed once every chain has issued its copies up to that row. -/
def Waits (σ : Fin 16 → ℕ) : Tag → Prop
  | .wait p => ∀ s, sendAt p < σ s
  | _ => True

theorem may_rcv (σ : Fin 16 → ℕ) (p : Fin 6) (h : Waits σ (.wait p)) :
    (levAts L lv : sProp 𝕄) ⊢ MayWait (c : Thread nD τ) (rSem p s) () (owed c σ) := by
  refine mayWait c σ (rSem p s) (p.val + 1) ?_ fun p' s' hp => ?_
  · unfold lv; rw [role_rcv]; dsimp only; omega
  · by_contra hn
    have hle : p' ≤ p := by rw [Fin.le_def]; omega
    have h1 := sendAt_mono hle
    have h2 : sendAt p < σ s' := h s'
    omega
theorem may_snd (σ : Fin 16 → ℕ) (p : Fin 6) :
    (levAts L lv : sProp 𝕄) ⊢ MayWait (c : Thread nD τ) (sSem p s) () (owed c σ) := by
  refine mayWait c σ (sSem p s) 0 ?_ fun p' s' hp => Nat.zero_le _
  unfold lv; rw [role_snd]; dsimp only; omega

theorem step_any (rest : Prog (TpuEff nD τ sig (Elt F) Λ₀ .tc) PUnit) (Q : PUnit.{1} → sProp 𝕄) (k : Kind) (σ : Fin 16 → ℕ)
    (hf : Fits c s k) (hlt : σ s < 24) (ht : tagAt (σ s) = tagOf k) (hw : Waits σ (tagOf k)) :
    iprop(facts x K c ∗ atoms x s c (tagOf k).pre ∗ owes' c (owed c σ)
        ∗ ((atoms x s c (tagOf k).post ∗ owes' c (owed c (step1 σ s))) -∗ WP c rest Q))
      ⊢ WP c (stepAt c ⟨s, k⟩ rest) Q := by
  have keep : (∀ p, tagOf k ≠ .send p) → owed c (step1 σ s) = owed c σ := fun h =>
    owed_keep c s σ fun p hp => h p (by rw [← ht, hp, tagAt_sendAt])
  have pay : ∀ p, tagOf k = .send p → owed c σ = owed c (step1 σ s) + tallyAt (rCell (mate p s c) p s) () (amt p) := fun p h =>
    owed_pay c s σ p (sendAt_of_tag ⟨σ s, hlt⟩ p (ht.trans h))
  cases k with
  | conv =>
    rw [keep fun p => by simp [tagOf]]
    iintro ⟨-, H⟩; iapply (step_conv x c s rest Q (owed c σ)); iexact H
  | add j off h =>
    rw [keep fun p => by simp [tagOf]]
    iintro ⟨-, H⟩; iapply (step_add x c s rest Q j off h hf (owed c σ)); iexact H
  | sendR p n =>
    have hn : n = mate (rph p) s c := hf
    subst hn
    rw [pay (rph p) rfl]
    exact step_sendR x K c s rest Q p _
  | sendG q n =>
    have hn : n = mate (gph q) s c := hf
    subst hn
    rw [pay (gph q) rfl]
    exact step_sendG x K c s rest Q q _
  | waitR p =>
    rw [keep fun p => by simp [tagOf]]
    exact wait_rcv x K c s rest Q (rph p) (amt_land p s) _ (may_rcv c s σ _ hw)
  | waitG q =>
    rw [keep fun p => by simp [tagOf]]
    exact wait_rcv x K c s rest Q (gph q) (amt_gat q s c) _ (may_rcv c s σ _ hw)
  | doneR p =>
    rw [keep fun p => by simp [tagOf]]
    exact wait_snd x K c s rest Q (rph p) (amt_src p s c) _ (may_snd c s σ _)
  | doneG q =>
    rw [keep fun p => by simp [tagOf]]
    exact wait_snd x K c s rest Q (gph q) (amt_gat q s c) _ (may_snd c s σ _)

end Cert.AllReduce
-- ==== Proof.Run.lean ====
/-
The program after the barrier: its steps one after another.

`pos n s` is how many steps chain `s` has done, for all chains in one number. `Runs` says that a list of steps takes each
chain through its 24 steps in order, and that it never waits for a copy before the copies of that row are all issued.
-/
module

public import proofs.«01_k».proof.Proof.Chain

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Counting steps -/

/-- How many steps chain `s` has done: a digit of `n`. -/
def pos (n : ℕ) (s : Fin 16) : ℕ := n / 32 ^ s.val % 32

theorem pos_bump (n : ℕ) (s : Fin 16) (h : pos n s < 24) : pos (n + 32 ^ s.val) = step1 (pos n) s := by
  funext t
  have hb : ∀ k, 0 < 32 ^ k := fun k => Nat.pow_pos (by decide)
  by_cases hs : t = s
  · subst hs
    rw [step1_self]
    unfold pos at *
    rw [Nat.add_div_right _ (hb _)]
    omega
  · rw [step1_ne _ hs]
    unfold pos at *
    rcases Nat.lt_or_gt_of_ne (fun e => hs (Fin.ext e)) with hlt | hgt
    · obtain ⟨k, hk⟩ := Nat.exists_eq_add_of_lt hlt
      have e : 32 ^ s.val = 32 ^ t.val * (32 * 32 ^ k) := by
        rw [hk, pow_succ, pow_add, Nat.mul_assoc, Nat.mul_comm (32 ^ k) 32]
      rw [e, Nat.add_mul_div_left _ _ (hb _), Nat.add_mul_mod_self_left]
    · obtain ⟨k, hk⟩ := Nat.exists_eq_add_of_lt hgt
      have e : 32 ^ t.val = 32 ^ s.val * 32 * 32 ^ k := by
        rw [hk, pow_succ, pow_add, Nat.mul_assoc, Nat.mul_comm (32 ^ k) 32, Nat.mul_assoc]
      rw [e, ← Nat.div_div_eq_div_mul, ← Nat.div_div_eq_div_mul, ← Nat.div_div_eq_div_mul, ← Nat.div_div_eq_div_mul,
        Nat.add_div_right _ (hb _)]
      have : (n / 32 ^ s.val + 1) / 32 = n / 32 ^ s.val / 32 := by omega
      rw [this]

instance waits_decidable (n : ℕ) (t : Tag) : Decidable (Waits (pos n) t) := by
  cases t <;> (unfold Waits; infer_instance)

/-- The steps take every chain from where `n` puts it to its end. -/
def Runs (c : Dev nD) (n : ℕ) : List Step → Prop
  | [] => ∀ s, pos n s = 24
  | t :: l => Fits c t.s t.k ∧ pos n t.s < 24 ∧ tagAt (pos n t.s) = tagOf t.k ∧ Waits (pos n) (tagOf t.k)
      ∧ Runs c (n + 32 ^ t.s.val) l
instance runs_decidable (c : Dev nD) (n : ℕ) (l : List Step) : Decidable (Runs c n l) := by
  induction l generalizing n with
  | nil => unfold Runs; infer_instance
  | cons t l ih => exact @instDecidableAnd _ _ _ (@instDecidableAnd _ _ _ (@instDecidableAnd _ _ _ (@instDecidableAnd _ _ _ (ih _))))

set_option maxRecDepth 100000 in
/-- The program's steps after the barrier do, chain 0 having loaded its rows already. -/
theorem script_runs : ∀ c : Dev nD, Runs c 1 (script c) := by decide +kernel

/-! ## All chains together -/

variable (x : Dev nD → Big F) (K : GSem nD τ sig → ℕ) (c : Dev nD)

/-- What the chains hold when chain `s` has done `σ s` steps. -/
def chains (σ : Fin 16 → ℕ) : sProp 𝕄 := bigSep Finset.univ fun s => atoms x s c (state (σ s))

/-- The holdings of all chains but one do not change when that one goes on. -/
theorem others (σ : Fin 16 → ℕ) (s : Fin 16) :
    (bigSep (Finset.univ.erase s) fun t => atoms x t c (state (σ t)))
      = bigSep (Finset.univ.erase s) fun t => atoms x t c (state (step1 σ s t)) :=
  bigSep_congr fun t ht => by rw [step1_ne σ (Finset.ne_of_mem_erase ht)]

theorem run_steps (Q : PUnit.{1} → sProp 𝕄) (l : List Step) (n : ℕ) (h : Runs c n l) :
    iprop(facts x K c ∗ chains x c (pos n) ∗ owes' c (owed c (pos n))
        ∗ ((bigSep Finset.univ (fun s => atoms x s c fin) ∗ owes' c 0) -∗ WP c (.ret ⟨⟩) Q))
      ⊢ WP c (runSteps xM oM (Memref.isWhole_whole _) rM (Memref.isWhole_whole _) cc0_scratch1 cc0_scratch2 c l) Q := by
  induction l generalizing n with
  | nil =>
    have hn : ∀ s, pos n s = 24 := h
    have e : chains x c (pos n) = bigSep Finset.univ (fun s => atoms x s c fin) :=
      bigSep_congr fun s _ => by rw [hn s, state_fin]
    rw [e, owed_done c _ hn]
    iintro ⟨-, Hc, HO, Hk⟩
    iapply Hk
    isplitl [Hc]; · iexact Hc
    iexact HO
  | cons t l ih =>
    obtain ⟨s, k⟩ := t
    obtain ⟨hf, hlt, ht, hw, hr⟩ := h
    dsimp only at hf hlt ht hw hr
    have ih' := ih _ hr
    rw [pos_bump n s hlt] at ih'
    have e1 : chains x c (pos n) = iprop((atoms x s c (tagAt (pos n s)).pre ∗ atoms x s c (state (pos n s) - (tagAt (pos n s)).pre))
        ∗ bigSep (Finset.univ.erase s) fun t => atoms x t c (state (step1 (pos n) s t))) := by
      unfold chains
      rw [bigSep_univ_split s, state_take x c s _ hlt, others]; rfl
    have e2 : chains x c (step1 (pos n) s) = iprop((atoms x s c (tagAt (pos n s)).post ∗ atoms x s c (state (pos n s) - (tagAt (pos n s)).pre))
        ∗ bigSep (Finset.univ.erase s) fun t => atoms x t c (state (step1 (pos n) s t))) := by
      unfold chains
      rw [bigSep_univ_split s, state_next x c s _ hlt, step1_self]; rfl
    rw [e1, ht]
    rw [e2, ht] at ih'
    iintro ⟨#HF, ⟨⟨Hpre, Hrest⟩, Hoth⟩, HO, Hk⟩
    iapply (step_any x K c s _ Q k (pos n) hf hlt ht hw)
    isplitr; · iexact HF
    isplitl [Hpre]; · iexact Hpre
    isplitl [HO]; · iexact HO
    iintro ⟨Hpost, HO⟩
    iapply ih'
    isplitr; · iexact HF
    isplitl [Hpost Hrest Hoth]
    · isplitr [Hoth]
      · isplitl [Hpost]; · iexact Hpost
        iexact Hrest
      · iexact Hoth
    isplitl [HO]; · iexact HO
    iexact Hk

end Cert.AllReduce
-- ==== Proof.Device.lean ====
/-
The whole program of one device: the handshake with the three neighbours, the steps, and the semaphores at the end.
-/
module

public import proofs.«01_k».proof.Proof.Run

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Big F) (K : GSem nD τ sig → ℕ) (c : Dev nD)

/-- A family of pairs is a pair of families. -/
theorem bigSep_two {I : Type} (S : Finset I) (Φ Ψ : I → sProp 𝕄) :
    (bigSep S fun i => iprop(Φ i ∗ Ψ i)) = iprop(bigSep S Φ ∗ bigSep S Ψ) := bigSep_sep S Φ Ψ

/-- One member taken out of a full family. -/
theorem bigSep_out {I : Type} [Fintype I] [DecidableEq I] (i : I) (Φ : I → sProp 𝕄) :
    bigSep Finset.univ Φ = iprop(Φ i ∗ bigSep (Finset.univ.erase i) Φ) := bigSep_univ_split i

/-- Three and the rest. -/
theorem sep_three (A B C D : sProp 𝕄) : iprop(A ∗ B ∗ C ∗ D) = iprop((A ∗ B ∗ C) ∗ D) := by
  have h : ∀ P Q R : sProp 𝕄, iprop((P ∗ Q) ∗ R) = iprop(P ∗ Q ∗ R) := fun P Q R =>
    BI.Entails.antisymm (Laws.sep_assoc (PROP := sProp 𝕄)).1 (Laws.sep_assoc (PROP := sProp 𝕄)).2
  rw [h A, h B]

/-! ## What a device knows -/

/-- Known from the launch: the invariants of one's own semaphores and of the neighbours' that one raises, and that the
    neighbours' barrier semaphores are ready. -/
def invs : sProp 𝕄 :=
  iprop((bigSep Finset.univ fun k : Fin 6 × Fin 16 =>
      iprop(cellInv ER (Rd x) (K (sCell c k.1 k.2)) (sCell c k.1 k.2)
        ∗ cellInv ER (Rd x) (K (rCell c k.1 k.2)) (rCell c k.1 k.2)
        ∗ cellInv ER (Rd x) (K (rCell (mate k.1 k.2 c) k.1 k.2)) (rCell (mate k.1 k.2 c) k.1 k.2)))
    ∗ cellInv ER (Rd x) (K (bCell c)) (bCell c)
    ∗ bigSep Finset.univ fun a : Fin 3 =>
      iprop(cellInv ER (Rd x) (K (bCell (peer a c))) (bCell (peer a c)) ∗ reached ER (bCell (peer a c)) 0))
instance invs_persistent : BI.Persistent (invs x K c) := by unfold invs; infer_instance

/-- That one's own semaphores are ready. -/
def ready : sProp 𝕄 :=
  bigSep Finset.univ fun k : Fin 6 × Fin 16 => iprop(reached ER (sCell c k.1 k.2) 0 ∗ reached ER (rCell c k.1 k.2) 0)
instance ready_persistent : BI.Persistent (ready (F := F) c) := by unfold ready; infer_instance

theorem invs_at (k : Fin 6 × Fin 16) : invs x K c
    ⊢ iprop(cellInv ER (Rd x) (K (sCell c k.1 k.2)) (sCell c k.1 k.2)
        ∗ cellInv ER (Rd x) (K (rCell c k.1 k.2)) (rCell c k.1 k.2)
        ∗ cellInv ER (Rd x) (K (rCell (mate k.1 k.2 c) k.1 k.2)) (rCell (mate k.1 k.2 c) k.1 k.2)) := by
  unfold invs
  exact (sep_elim_left (PROP := sProp 𝕄)).trans (bigSep_elim (Finset.mem_univ k))
theorem invs_bar : invs x K c ⊢ cellInv ER (Rd x) (K (bCell c)) (bCell c) := by
  unfold invs
  iintro ⟨-, H, -⟩; iexact H
theorem invs_nbr (a : Fin 3) : invs x K c
    ⊢ iprop(cellInv ER (Rd x) (K (bCell (peer a c))) (bCell (peer a c)) ∗ reached ER (bCell (peer a c)) 0) := by
  unfold invs
  iintro ⟨-, -, H⟩
  ihave H := (show (bigSep Finset.univ fun a : Fin 3 =>
      (iprop(cellInv ER (Rd x) (K (bCell (peer a c))) (bCell (peer a c)) ∗ reached ER (bCell (peer a c)) 0) : sProp 𝕄))
    ⊢ _ from bigSep_elim (Finset.mem_univ a)) $$ H
  iexact H
theorem ready_at (k : Fin 6 × Fin 16) :
    (ready c : sProp 𝕄) ⊢ iprop(reached ER (sCell c k.1 k.2) 0 ∗ reached ER (rCell c k.1 k.2) 0) := by
  unfold ready
  exact bigSep_elim (Finset.mem_univ k)

/-! ## The handshake -/

/-- The landing rows of the own receive buffer that the neighbour along axis `a` writes. -/
def slots (a : Fin 3) : sProp 𝕄 :=
  bigSep Finset.univ fun s : Fin 16 => iprop(∃ f, rPt c (plane s (rbo (pa s a)) (rsz (pa s a))) fullShare f)

/-- What a device gives its neighbour along axis `a` with its barrier unit. -/
theorem give (a : Fin 3) : iprop(ready c ∗ slots c a) ⊢ barPay x (peer a c) a := by
  unfold slots barPay
  refine bigSep_with_persistent fun s _ => ?_
  rw [piece_land, ax_pa, peer_peer]
  iintro ⟨#HR, H⟩
  isplitl [H]; · iexact H
  isplitr
  · ihave H := (ready_at c (rph (pa s a), s)) $$ HR
    icases H with ⟨-, H⟩; iexact H
  · ihave H := (ready_at c (gph (qp (pa s a)), s)) $$ HR
    icases H with ⟨-, H⟩; iexact H

/-- Raising the neighbour's barrier semaphore. -/
theorem signal (a : Fin 3) (O : CellTallies nD τ sig Unit) (k : PUnit.{1} → Prog (TpuEff nD τ sig (Elt F) Λ₀ .tc) PUnit)
    (Q : PUnit.{1} → sProp 𝕄) :
    iprop(invs x K c ∗ ready c ∗ slots c a ∗ dutyTok ER (bCell (peer a c)) 0 a
        ∗ owes' c (O + tallyAt (bCell (peer a c)) () 1) ∗ (owes' c O -∗ WP c (k ⟨⟩) Q))
      ⊢ WP c (.op (.semSignal ((peer a c : Thread nD τ)) barS.sem 1) k) Q := by
  iintro ⟨#HI, #HR, Hs, Ht, HO, Hk⟩
  unfold owes'
  icases HO with ⟨%W, HO⟩
  ihave #HN := (invs_nbr x K c a) $$ HI
  icases HN with ⟨#HIP, #HrP⟩
  iapply (Rounds.wp_signal 𝒱₀ ER (Rd x) (c : Thread nD τ) none (dst := (peer a c : Thread nD τ)) (sem := barS.sem) (r := 0) (d := a)
      (κ := K (bCell (peer a c))) (by rw [duties_bar]; exact Finset.mem_univ _) (amount_bar x (peer a c) a) () O rfl) $$ [HO Ht Hs]
  · isplitr; · iexact HIP
    isplitl [HO]; · iexact HO
    isplitl [Ht]; · iexact Ht
    isplitl [Hs]
    · rw [payload_bar]
      iapply (give x c a)
      isplitr; · iexact HR
      iexact Hs
    · iexact HrP
  iintro HO
  iapply Hk
  iexists _; iexact HO

/-! ## After the handshake -/

/-- What the three neighbours gave, per chain and phase. -/
def given : sProp 𝕄 :=
  bigSep Finset.univ fun s : Fin 16 => bigSep Finset.univ fun p : Fin 3 =>
    iprop(piece x s c (.land p) ∗ reached ER (rCell (mate (rph p) s c) (rph p) s) 0
      ∗ reached ER (rCell (mate (gph (qp p)) s c) (gph (qp p)) s) 0)

theorem qp_qp (p : Fin 3) : qp (qp p) = p := by revert p; decide

theorem regroup_bar : bigSep Finset.univ (barPay x c) = given x c := by
  unfold barPay given
  rw [bigSep_univ_comm]
  refine bigSep_congr fun s _ => ?_
  rw [bigSep_univ_equiv (paE s) (fun p : Fin 3 =>
    (iprop(piece x s c (.land p) ∗ reached ER (rCell (mate (rph p) s c) (rph p) s) 0
      ∗ reached ER (rCell (mate (gph (qp p)) s c) (gph (qp p)) s) 0) : sProp 𝕄))]
  refine bigSep_congr fun a _ => ?_
  have e : paE s a = pa s a := rfl
  rw [e, mate_r, mate_g, qp_qp, ax_pa]

/-- The places to write to, and the knowledge that the neighbours are ready. -/
def landsAll : sProp 𝕄 := bigSep Finset.univ fun s : Fin 16 => bigSep Finset.univ fun p : Fin 3 => piece x s c (.land p)
def nbrReady : sProp 𝕄 :=
  bigSep Finset.univ fun s : Fin 16 => bigSep Finset.univ fun p : Fin 3 =>
    iprop(reached ER (rCell (mate (rph p) s c) (rph p) s) 0 ∗ reached ER (rCell (mate (gph (qp p)) s c) (gph (qp p)) s) 0)
instance nbrReady_persistent : BI.Persistent (nbrReady (F := F) c) := by unfold nbrReady; infer_instance

theorem given_split : given x c = iprop(landsAll x c ∗ nbrReady c) := by
  unfold given landsAll nbrReady
  simp only [bigSep_two]

theorem nbrReady_at (p : Fin 6) (s : Fin 16) : (nbrReady c : sProp 𝕄) ⊢ reached ER (rCell (mate p s c) p s) 0 := by
  have h (q : Fin 3) : (nbrReady c : sProp 𝕄) ⊢ iprop(reached ER (rCell (mate (rph q) s c) (rph q) s) 0
      ∗ reached ER (rCell (mate (gph (qp q)) s c) (gph (qp q)) s) 0) := by
    unfold nbrReady
    exact (bigSep_elim (Finset.mem_univ s)).trans (bigSep_elim (Finset.mem_univ q))
  match p with
  | 0 => exact (h 0).trans sep_elim_left
  | 1 => exact (h 1).trans sep_elim_left
  | 2 => exact (h 2).trans sep_elim_left
  | 3 => exact (h 2).trans sep_elim_right
  | 4 => exact (h 1).trans sep_elim_right
  | 5 => exact (h 0).trans sep_elim_right

theorem facts_intro : iprop(levAts L lv ∗ invs x K c ∗ ready c ∗ nbrReady c) ⊢ facts x K c := by
  unfold facts
  iintro ⟨#HL, #HI, #HR, #HN⟩
  isplitr; · iexact HL
  iapply (show iprop(invs x K c ∗ ready c ∗ nbrReady c) ⊢ bigSep Finset.univ (fact x K c) from
    bigSep_intro_persistent fun k _ => by
      unfold fact
      iintro ⟨#HI, #HR, #HN⟩
      ihave #H1 := (invs_at x K c k) $$ HI
      ihave #H2 := (ready_at c k) $$ HR
      ihave #H3 := (nbrReady_at c k.1 k.2) $$ HN
      icases H1 with ⟨#a, #b, #d⟩
      icases H2 with ⟨#e, -⟩
      isplitr; · iexact a
      isplitr; · iexact b
      isplitr; · iexact d
      isplitr; · iexact e
      iexact H3)
  isplitr; · iexact HI
  isplitr; · iexact HR
  iexact HN

/-! ## The chains before and after -/

/-- A chain before the handshake. -/
abbrev early : Multiset Atom := Tag.conv.pre + sems

theorem lands_eq (s : Fin 16) : atoms x s c lands = bigSep Finset.univ fun p : Fin 3 => piece x s c (.land p) := by
  unfold atoms lands bigSepM BI.bigSep
  rw [Multiset.map_map]
  rfl

theorem init_eq (s : Fin 16) :
    atoms x s c (state 0) = iprop(atoms x s c early ∗ bigSep Finset.univ fun p : Fin 3 => piece x s c (.land p)) := by
  rw [← lands_eq, ← atoms_add]
  show atoms x s c (Tag.conv.pre + (sems + lands)) = _
  rw [add_assoc]

/-- All chains, chain 0 having loaded its rows. -/
theorem chains_start :
    iprop(((atoms x 0 c Tag.conv.post ∗ atoms x 0 c sems) ∗ bigSep (Finset.univ.erase 0) (fun s => atoms x s c early)) ∗ landsAll x c)
      ⊢ chains x c (pos 1) := by
  have h0 : pos 1 0 = 1 := by decide
  have hs : ∀ s : Fin 16, s ≠ 0 → pos 1 s = 0 := by decide
  unfold chains landsAll
  rw [bigSep_out (0 : Fin 16), bigSep_out (0 : Fin 16), h0, ← state_next x c 0 0 (by decide)]
  have e : (bigSep (Finset.univ.erase (0 : Fin 16)) fun s => atoms x s c (state (pos 1 s)))
      = bigSep (Finset.univ.erase (0 : Fin 16)) fun s => iprop(atoms x s c early ∗ bigSep Finset.univ fun p : Fin 3 => piece x s c (.land p)) :=
    bigSep_congr fun s h => by rw [hs s (Finset.ne_of_mem_erase h), init_eq]
  have e' : state 0 - (tagAt 0).pre = sems + lands := by
    show Tag.conv.pre + (sems + lands) - Tag.conv.pre = _
    exact add_tsub_cancel_left _ _
  rw [e, e', bigSep_two, atoms_add, lands_eq]
  iintro ⟨⟨⟨Hp, Hs⟩, Ho⟩, Hl, Hm⟩
  isplitl [Hp Hs Hl]
  · isplitl [Hp]; · iexact Hp
    isplitl [Hs]; · iexact Hs
    iexact Hl
  isplitl [Ho]; · iexact Ho
  iexact Hm

/-- The memory a chain ends with. -/
def endMem (s : Fin 16) : sProp 𝕄 :=
  iprop(oPt c (Reg.W.set s c) fullShare (Z x) ∗ xPt c (Reg.W.set s c) fullShare (x c)
    ∗ bigSep Finset.univ fun p : Fin 3 => piece x s c (.got p))

theorem fin_eq (s : Fin 16) : atoms x s c fin
    = iprop(endMem x c s ∗ (bigSep Finset.univ fun p : Fin 6 => atPos ER (sCell c p s) (0 + 1) ∅ 0)
        ∗ bigSep Finset.univ fun p : Fin 6 => atPos ER (rCell c p s) (0 + 1) ∅ 0) := by
  unfold fin endMem
  rw [atoms_add, atoms_add, atoms_add, atoms_add, atoms_one, atoms_one]
  have e (n : ℕ) (f : Fin n → Atom) : atoms x s c ((Finset.univ : Finset (Fin n)).val.map f) = bigSep Finset.univ fun p => atom x s c (f p) := by
    unfold atoms bigSepM BI.bigSep
    rw [Multiset.map_map]
    rfl
  rw [e, e, e, sep_three]
  rfl

theorem close (g : GSem nD τ sig) :
    iprop(cellInv ER (Rd x) (K g) g ∗ atPos ER g (0 + 1) ∅ 0) ⊢ (|={Set.univ}=> semVal g 0 : sProp 𝕄) :=
  Rounds.cell_close ER (Rd x) (Set.mem_univ (K g)) id (duties_later x g)

/-- The sending semaphores of all chains, at zero at the end; likewise the receiving ones. -/
theorem close_snd : iprop(invs x K c ∗ bigSep Finset.univ fun s : Fin 16 => bigSep Finset.univ fun p : Fin 6 => atPos ER (sCell c p s) (0 + 1) ∅ 0)
    ⊢ (|={Set.univ}=> bigSep Finset.univ fun k : Fin 6 × Fin 16 => semVal (sCell c k.1 k.2) 0 : sProp 𝕄) := by
  rw [bigSep_univ_comm, ← bigSep_univ_prod (fun k : Fin 6 × Fin 16 => (atPos ER (sCell c k.1 k.2) (0 + 1) ∅ 0 : sProp 𝕄))]
  refine (bigSep_with_persistent fun k _ => ?_).trans (bigSep_fupd _ _)
  iintro ⟨#HI, H⟩
  ihave #H1 := (invs_at x K c k) $$ HI
  icases H1 with ⟨#a, -, -⟩
  iapply (close x K (sCell c k.1 k.2))
  isplitr; · iexact a
  iexact H
theorem close_rcv : iprop(invs x K c ∗ bigSep Finset.univ fun s : Fin 16 => bigSep Finset.univ fun p : Fin 6 => atPos ER (rCell c p s) (0 + 1) ∅ 0)
    ⊢ (|={Set.univ}=> bigSep Finset.univ fun k : Fin 6 × Fin 16 => semVal (rCell c k.1 k.2) 0 : sProp 𝕄) := by
  rw [bigSep_univ_comm, ← bigSep_univ_prod (fun k : Fin 6 × Fin 16 => (atPos ER (rCell c k.1 k.2) (0 + 1) ∅ 0 : sProp 𝕄))]
  refine (bigSep_with_persistent fun k _ => ?_).trans (bigSep_fupd _ _)
  iintro ⟨#HI, H⟩
  ihave #H1 := (invs_at x K c k) $$ HI
  icases H1 with ⟨-, #a, -⟩
  iapply (close x K (rCell c k.1 k.2))
  isplitr; · iexact a
  iexact H

/-! ## The program -/

/-- What a device owes when it starts: a unit to each neighbour's barrier, and its copies. -/
def owed₀ : CellTallies nD τ sig Unit :=
  owed c (pos 0) + tallyAt (bCell (peer 2 c)) () 1 + tallyAt (bCell (peer 1 c)) () 1 + tallyAt (bCell (peer 0 c)) () 1

/-- What a device starts with. -/
def begin : sProp 𝕄 :=
  iprop(levAts L lv ∗ invs x K c ∗ ready c
    ∗ (slots c 0 ∗ slots c 1 ∗ slots c 2)
    ∗ (dutyTok ER (bCell (peer 0 c)) 0 0 ∗ dutyTok ER (bCell (peer 1 c)) 0 1 ∗ dutyTok ER (bCell (peer 2 c)) 0 2)
    ∗ atPos ER (bCell c) 0 ∅ 0 ∗ cred (tallyAt (bCell c) () 3)
    ∗ (bigSep Finset.univ fun s : Fin 16 => atoms x s c early)
    ∗ owes' c (owed₀ c))

/-- What it ends with. -/
def ending : sProp 𝕄 :=
  iprop(semVal (bCell c) 0 ∗ (bigSep Finset.univ fun k : Fin 6 × Fin 16 => semVal (sCell c k.1 k.2) 0)
    ∗ (bigSep Finset.univ fun k : Fin 6 × Fin 16 => semVal (rCell c k.1 k.2) 0)
    ∗ (bigSep Finset.univ fun s : Fin 16 => endMem x c s) ∗ owes' c 0)

theorem owed_first : owed c (pos 1) = owed c (pos 0) := by
  have h : ∀ p : Fin 6, ∀ s : Fin 16, (pos 1 s ≤ sendAt p ↔ pos 0 s ≤ sendAt p) := by decide
  unfold owed
  exact Finset.sum_congr rfl fun k _ => if_congr (h k.1 k.2) rfl rfl

theorem may_bar : (levAts L lv : sProp 𝕄) ⊢ MayWait (c : Thread nD τ) (.reg barS.sem) () (owed c (pos 1)) :=
  mayWait c (pos 1) _ 0 (by unfold lv; rw [role_bar]) fun _ _ _ => Nat.zero_le _

/-- The text, its first operations spelled out. -/
theorem body_start : (stepBody xM oM (Memref.isWhole_whole _) rM (Memref.isWhole_whole _) cc0_scratch1 cc0_scratch2
      : Prog (TpuEff nD τ sig (Elt F) Λ₀ .tc) PUnit)
    = .op .deviceId fun d : Dev nD =>
        .op (.semSignal (((⟨k0_dev1 d, k0_dev1_lt d⟩ : Dev nD) : Thread nD τ)) barS.sem 1) fun _ =>
        .op (.semSignal (((⟨k0_dev2 d, k0_dev2_lt d⟩ : Dev nD) : Thread nD τ)) barS.sem 1) fun _ =>
        .op (.semSignal (((⟨k0_dev3 d, k0_dev3_lt d⟩ : Dev nD) : Thread nD τ)) barS.sem 1) fun _ =>
        Step.prog xM oM (Memref.isWhole_whole _) rM (Memref.isWhole_whole _) cc0_scratch1 cc0_scratch2 d ⟨0, .conv⟩
          (.op (.semWait barS.sem 3) fun _ =>
            runSteps xM oM (Memref.isWhole_whole _) rM (Memref.isWhole_whole _) cc0_scratch1 cc0_scratch2 d (script d)) := rfl

/-- Chain 0's rows taken out of the start. -/
theorem early_out : (bigSep Finset.univ fun s : Fin 16 => atoms x s c early)
    = iprop((atoms x 0 c Tag.conv.pre ∗ atoms x 0 c sems) ∗ bigSep (Finset.univ.erase 0) fun s => atoms x s c early) := by
  rw [bigSep_out (0 : Fin 16), atoms_add]

theorem wp_end (Q : PUnit.{1} → sProp 𝕄) : (|={Set.univ}=> Q ⟨⟩) ⊢ WP c (.ret ⟨⟩) Q := by
  unfold WP
  rw [wp_ret]

theorem wp_id (k : Dev nD → Prog (TpuEff nD τ sig (Elt F) Λ₀ .tc) PUnit) (Q : PUnit.{1} → sProp 𝕄) :
    WP c (k c) Q ⊢ WP c (.op .deviceId k) Q :=
  Entails.of_eq (wp_deviceId 𝒱₀ (c : Thread nD τ) none Set.univ).symm

theorem device_run (Q : PUnit.{1} → sProp 𝕄) :
    iprop(begin x K c ∗ (ending x c -∗ Q ⟨⟩))
      ⊢ WP c (stepBody xM oM (Memref.isWhole_whole _) rM (Memref.isWhole_whole _) cc0_scratch1 cc0_scratch2) Q := by
  rw [body_start]
  refine BIBase.Entails.trans ?_ (wp_id c _ Q)
  unfold begin owed₀
  rw [← owed_first c]
  iintro ⟨⟨#HL, #HI, #HR, ⟨Hs0, Hs1, Hs2⟩, ⟨Ht0, Ht1, Ht2⟩, Hat, Hcr, Hch, HO⟩, Hk⟩
  rw [k0_dev1_peer, k0_dev2_peer, k0_dev3_peer]
  iapply (signal x K c 0 _ _ Q)
  isplitr; · iexact HI
  isplitr; · iexact HR
  isplitl [Hs0]; · iexact Hs0
  isplitl [Ht0]; · iexact Ht0
  isplitl [HO]; · iexact HO
  iintro HO
  iapply (signal x K c 1 _ _ Q)
  isplitr; · iexact HI
  isplitr; · iexact HR
  isplitl [Hs1]; · iexact Hs1
  isplitl [Ht1]; · iexact Ht1
  isplitl [HO]; · iexact HO
  iintro HO
  iapply (signal x K c 2 _ _ Q)
  isplitr; · iexact HI
  isplitr; · iexact HR
  isplitl [Hs2]; · iexact Hs2
  isplitl [Ht2]; · iexact Ht2
  isplitl [HO]; · iexact HO
  iintro HO
  ihave Hch := (Entails.of_eq (early_out x c)) $$ Hch
  icases Hch with ⟨⟨Hpre, Hsem⟩, Hoth⟩
  iapply (step_conv x c 0 _ Q (owed c (pos 1)))
  isplitl [Hpre]; · iexact Hpre
  isplitl [HO]; · iexact HO
  iintro ⟨Hpost, HO⟩
  unfold owes'
  icases HO with ⟨%W, HO⟩
  iapply (Rounds.wp_wait_rest_token 𝒱₀ ER (Rd x) (c : Thread nD τ) none (κ := K (bCell c))
      (wpE_semWait_eq 𝒱₀ (c : Thread nD τ) none Set.univ) (Set.mem_univ _) () (O := owed c (pos 1)) (W := W) (R := 0) (m := 0) (T := ∅)
      ((Nat.zero_add 3).trans (expect_bar x c).symm)) $$ [Hcr HO Hat]
  · isplitr; · iapply (invs_bar x K c); iexact HI
    isplitl [Hcr]; · iexact Hcr
    isplitl [HO]; · iexact HO
    isplitr; · iapply (may_bar c); iexact HL
    iexact Hat
  iintro ⟨HO, Hat, -, Hpay⟩
  ihave Hp := (Entails.of_eq ((rest_bar x c).trans ((regroup_bar x c).trans (given_split x c)))) $$ Hpay
  icases Hp with ⟨Hland, #HN⟩
  iapply (run_steps x K c Q (script c) 1 (script_runs c))
  isplitr
  · iapply (facts_intro x K c)
    isplitr; · iexact HL
    isplitr; · iexact HI
    isplitr; · iexact HR
    iexact HN
  isplitl [Hpost Hsem Hoth Hland]
  · iapply (chains_start x c)
    isplitr [Hland]
    · isplitr [Hoth]
      · isplitl [Hpost]; · iexact Hpost
        iexact Hsem
      · iexact Hoth
    · iexact Hland
  isplitl [HO]; · unfold owes'; iexists _; iexact HO
  iintro ⟨Hfin, HO⟩
  ihave Hfin := (Entails.of_eq ((bigSep_congr fun s _ => fin_eq x c s).trans
    ((bigSep_two _ _ _).trans (congrArg _ (bigSep_two _ _ _))))) $$ Hfin
  icases Hfin with ⟨Hmem, Hsnd, Hrcv⟩
  iapply (wp_end c Q)
  imod (close x K (bCell c)) $$ [Hat] with Hb
  · isplitr; · iapply (invs_bar x K c); iexact HI
    iexact Hat
  imod (close_snd x K c) $$ [Hsnd] with Hsnd
  · isplitr; · iexact HI
    iexact Hsnd
  imod (close_rcv x K c) $$ [Hrcv] with Hrcv
  · isplitr; · iexact HI
    iexact Hrcv
  imodintro
  iapply Hk
  unfold ending
  isplitl [Hb]; · iexact Hb
  isplitl [Hsnd]; · iexact Hsnd
  isplitl [Hrcv]; · iexact Hrcv
  isplitl [Hmem]; · iexact Hmem
  iexact HO

end Cert.AllReduce
-- ==== Proof.Memory.lean ====
/-
The body's buffers, whole, and cut up among the chains.
-/
module

public import proofs.«01_k».proof.Proof.Device

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Big F) (c : Dev nD)

/-! ## Rows -/

theorem off_W (s : Fin 16) : Reg.W.off s c = 64 * s.val := rfl
theorem len_W : Reg.W.len = 64 := rfl

theorem W_disjoint (s t : Fin 16) (h : s ≠ t) : Disjoint (Reg.W.set s c) (Reg.W.set t c) := by
  rw [Finset.disjoint_left]
  intro i hi hj
  rw [mem_rows, off_W, len_W] at hi hj
  exact h (Fin.ext (by omega))

theorem W_cover (i : S1024x1024.Idx) : ∃ s : Fin 16, i ∈ Reg.W.set s c := by
  have hi : (i 0).val < 1024 := (i 0).isLt
  refine ⟨⟨(i 0).val / 64, by omega⟩, ?_⟩
  rw [mem_rows, off_W, len_W]
  dsimp only
  omega

theorem rb_vals : (rbo 0 = 0 ∧ rsz 0 = 32) ∧ (rbo 1 = 32 ∧ rsz 1 = 16) ∧ (rbo 2 = 48 ∧ rsz 2 = 8) := by decide

theorem plane_disjoint (k l : Fin 16 × Fin 3) (h : k ≠ l) :
    Disjoint (plane k.1 (rbo k.2) (rsz k.2)) (plane l.1 (rbo l.2) (rsz l.2)) := by
  rw [Finset.disjoint_left]
  intro i hi hj
  rw [mem_plane] at hi hj
  have h1 : k.1 = l.1 := Fin.ext (hi.1.symm.trans hj.1)
  refine h (Prod.ext h1 ?_)
  have key (p : Fin 3) (h : rbo p ≤ (i 1).val ∧ (i 1).val < rbo p + rsz p) : phOf (i 1).val = p := by
    rw [show (i 1).val = rbo p + ((i 1).val - rbo p) from by omega]
    exact phOf_land p _ (by omega)
  exact (key _ hi.2).symm.trans (key _ hj.2)

theorem plane_cover (i : S16x56x1024.Idx) : ∃ k : Fin 16 × Fin 3, i ∈ plane k.1 (rbo k.2) (rsz k.2) := by
  have h0 : (i 0).val < 16 := (i 0).isLt
  have h1 : (i 1).val < 56 := (i 1).isLt
  obtain ⟨⟨a, a'⟩, ⟨b, b'⟩, ⟨d, d'⟩⟩ := rb_vals
  rcases Nat.lt_or_ge (i 1).val 32 with h | h
  · exact ⟨(⟨(i 0).val, h0⟩, 0), by rw [mem_plane]; dsimp only; omega⟩
  rcases Nat.lt_or_ge (i 1).val 48 with h' | h'
  · exact ⟨(⟨(i 0).val, h0⟩, 1), by rw [mem_plane]; dsimp only; omega⟩
  · exact ⟨(⟨(i 0).val, h0⟩, 2), by rw [mem_plane]; dsimp only; omega⟩

/-! ## Buffers -/

/-- A buffer held whole is its parts, held separately. -/
theorem cut_up {ℓ : Loc nD τ sig} {T : Type} [Fintype T] (P : T → Finset (Idx ℓ))
    (hU : ∀ i, ∃ t, i ∈ P t) (hd : ∀ s t, s ≠ t → Disjoint (P s) (P t)) (f : Buf (Elt F) ℓ) :
    (ℓ ↦{fullShare} f : sProp 𝕄) = bigSep Finset.univ fun t => ℓ ↦[P t]{fullShare} f := by
  rw [← pointsTo_biUnion Finset.univ P fun s _ t _ h => hd s t h,
    Finset.eq_univ_of_forall fun i => Finset.mem_biUnion.mpr ((hU i).imp fun t h => ⟨Finset.mem_univ t, h⟩)]

/-- The three buffers of the body, whole. -/
abbrev oWh (f : Big F) : sProp 𝕄 := (oM : Memref sig .tc .vmem S1024x1024 .bf16).view.loc (c : Thread nD τ) ↦{fullShare} f
abbrev xWh (f : Big F) : sProp 𝕄 := (xM : Memref sig .tc .vmem S1024x1024 .bf16).view.loc (c : Thread nD τ) ↦{fullShare} f
abbrev rWh (f : Buf3 F) : sProp 𝕄 := (rM : Memref sig .tc .vmem S16x56x1024 .bf16).view.loc (c : Thread nD τ) ↦{fullShare} f

theorem out_cut (f : Big F) : (oWh c f : sProp 𝕄) = bigSep Finset.univ fun s => oPt c (Reg.W.set s c) fullShare f :=
  cut_up (ℓ := (oM : Memref sig .tc .vmem S1024x1024 .bf16).view.loc (c : Thread nD τ)) (fun s => Reg.W.set s c) (W_cover c) (W_disjoint c) f
theorem in_cut (f : Big F) : (xWh c f : sProp 𝕄) = bigSep Finset.univ fun s => xPt c (Reg.W.set s c) fullShare f :=
  cut_up (ℓ := (xM : Memref sig .tc .vmem S1024x1024 .bf16).view.loc (c : Thread nD τ)) (fun s => Reg.W.set s c) (W_cover c) (W_disjoint c) f
theorem buf_cut (f : Buf3 F) : (rWh c f : sProp 𝕄)
    = bigSep Finset.univ fun s : Fin 16 => bigSep Finset.univ fun p : Fin 3 => rPt c (plane s (rbo p) (rsz p)) fullShare f :=
  (cut_up (ℓ := (rM : Memref sig .tc .vmem S16x56x1024 .bf16).view.loc (c : Thread nD τ))
    (fun k : Fin 16 × Fin 3 => plane k.1 (rbo k.2) (rsz k.2)) plane_cover plane_disjoint f).trans (bigSep_univ_prod _)

/-- Three, one by one. -/
theorem bigSep_three (Φ : Fin 3 → sProp 𝕄) : bigSep Finset.univ Φ = iprop(Φ 0 ∗ Φ 1 ∗ Φ 2) :=
  bigSep_univ_eq_bigSepL [0, 1, 2] (by decide) (by decide) Φ

/-- The receive buffer, cut up among the neighbours that write to it. -/
theorem slots_intro (f : Buf3 F) : (rWh c f : sProp 𝕄) ⊢ iprop(slots c 0 ∗ slots c 1 ∗ slots c 2) := by
  rw [buf_cut, ← bigSep_three (fun a => slots c a)]
  unfold slots
  rw [bigSep_univ_comm (fun a : Fin 3 => fun s : Fin 16 => (iprop(∃ f, rPt c (plane s (rbo (pa s a)) (rsz (pa s a))) fullShare f) : sProp 𝕄))]
  refine bigSep_mono fun s _ => ?_
  rw [bigSep_univ_equiv (paE s) (fun p : Fin 3 => (rPt c (plane s (rbo p) (rsz p)) fullShare f : sProp 𝕄))]
  refine bigSep_mono fun a _ => ?_
  show (rPt c (plane s (rbo (pa s a)) (rsz (pa s a))) fullShare f : sProp 𝕄) ⊢ iprop(∃ f, rPt c (plane s (rbo (pa s a)) (rsz (pa s a))) fullShare f)
  iintro H; iexists f; iexact H

/-- The memory at the end, put together again. -/
theorem end_join : (bigSep Finset.univ fun s : Fin 16 => endMem x c s)
    ⊢ iprop(oWh c (Z x) ∗ xWh c (x c) ∗ rWh c (RB x c)) := by
  rw [out_cut, in_cut, buf_cut]
  unfold endMem
  rw [bigSep_two, bigSep_two]
  exact BI.Entails.refl _

/-! ## Semaphores -/

/-- A chain's tickets, row by row. -/
def tickets (s : Fin 16) (p : Fin 6) : sProp 𝕄 :=
  iprop(dutyTok ER (sCell c p s) 0 0 ∗ dutyTok ER (rCell (mate p s c) p s) 0 0 ∗ atPos ER (sCell c p s) 0 ∅ 0
    ∗ atPos ER (rCell c p s) 0 ∅ 0 ∗ cred (tallyAt (rCell c p s) () (amt p)))

theorem bind_atoms (s : Fin 16) (f : Fin 6 → Multiset Atom) (S : Finset (Fin 6)) :
    atoms x s c (S.val.bind f) = bigSep S fun p => atoms x s c (f p) := by
  classical
  induction S using Finset.induction_on with
  | empty => rw [bigSep_empty]; exact bigSepM_zero
  | insert p S hp ih => rw [Finset.insert_val_of_notMem hp, Multiset.cons_bind, atoms_add, ih, bigSep_insert hp]; rfl

theorem sems_eq (s : Fin 16) : atoms x s c sems = bigSep Finset.univ fun p : Fin 6 => tickets c s p := by
  unfold sems
  rw [bind_atoms]
  refine bigSep_congr fun p _ => ?_
  simp only [atoms_add, atoms_one, atom]
  rfl

theorem conv_pre (s : Fin 16) : atoms x s c Tag.conv.pre
    = iprop((∃ f, oPt c (Reg.W.set s c) fullShare f) ∗ xPt c (Reg.W.set s c) fullShare (x c)) := by
  unfold Tag.pre
  simp only [atoms_add, atoms_one, atom]
  rfl

/-- Each chain's start, from the whole input and output buffers and the tickets. -/
theorem early_intro (f : Big F) :
    iprop(oWh c f ∗ xWh c (x c)
        ∗ bigSep Finset.univ fun s : Fin 16 => bigSep Finset.univ fun p : Fin 6 => tickets c s p)
      ⊢ bigSep Finset.univ fun s : Fin 16 => atoms x s c early := by
  rw [out_cut, in_cut, ← bigSep_two, ← bigSep_two]
  refine bigSep_mono fun s _ => ?_
  rw [show atoms x s c early = iprop(atoms x s c Tag.conv.pre ∗ atoms x s c sems) from atoms_add x s c _ _, conv_pre, sems_eq]
  show iprop(oPt c (Reg.W.set s c) fullShare f ∗ xPt c (Reg.W.set s c) fullShare (x c) ∗ bigSep Finset.univ fun p : Fin 6 => tickets c s p)
    ⊢ iprop(((∃ f, oPt c (Reg.W.set s c) fullShare f) ∗ xPt c (Reg.W.set s c) fullShare (x c)) ∗ bigSep Finset.univ fun p : Fin 6 => tickets c s p)
  iintro ⟨Ho, Hx, Ht⟩
  isplitr [Ht]
  · isplitl [Ho]; · iexists f; iexact Ho
    iexact Hx
  iexact Ht

/-! ## The body from whole buffers -/

/-- What a device carries into its body besides the buffers. -/
def carry (K : GSem nD τ sig → ℕ) : sProp 𝕄 :=
  iprop(invs x K c ∗ ready c ∗ (dutyTok ER (bCell (peer 0 c)) 0 0 ∗ dutyTok ER (bCell (peer 1 c)) 0 1 ∗ dutyTok ER (bCell (peer 2 c)) 0 2)
    ∗ atPos ER (bCell c) 0 ∅ 0 ∗ cred (tallyAt (bCell c) () 3)
    ∗ bigSep Finset.univ fun s : Fin 16 => bigSep Finset.univ fun p : Fin 6 => tickets c s p)

theorem body_run (K : GSem nD τ sig → ℕ) (f : Big F) (g : Buf3 F) (Q : PUnit.{1} → sProp 𝕄) :
    iprop(levAts L lv ∗ carry x c K ∗ rWh c g ∗ oWh c f ∗ xWh c (x c)
        ∗ owes' c (owed₀ c)
        ∗ ((semVal (bCell c) 0 ∗ (bigSep Finset.univ fun k : Fin 6 × Fin 16 => semVal (sCell c k.1 k.2) 0)
            ∗ (bigSep Finset.univ fun k : Fin 6 × Fin 16 => semVal (rCell c k.1 k.2) 0)
            ∗ oWh c (Z x) ∗ xWh c (x c) ∗ rWh c (RB x c) ∗ owes' c 0)
          -∗ Q ⟨⟩))
      ⊢ WP c (cc0_body xM (Memref.isWhole_whole _) oM (Memref.isWhole_whole _) rM (Memref.isWhole_whole _) cc0_scratch1 cc0_scratch2) Q := by
  rw [body_eq]
  refine BIBase.Entails.trans ?_ (device_run x K c Q)
  unfold carry begin ending
  iintro ⟨#HL, ⟨#HI, #HR, Ht, Hat, Hcr, Htk⟩, Hr, Ho, Hx, HO, Hk⟩
  isplitr [Hk]
  · isplitr; · iexact HL
    isplitr; · iexact HI
    isplitr; · iexact HR
    isplitl [Hr]; · iapply (slots_intro c g); iexact Hr
    isplitl [Ht]; · iexact Ht
    isplitl [Hat]; · iexact Hat
    isplitl [Hcr]; · iexact Hcr
    isplitl [Ho Hx Htk]
    · iapply (early_intro x c f)
      isplitl [Ho]; · iexact Ho
      isplitl [Hx]; · iexact Hx
      iexact Htk
    iexact HO
  iintro ⟨Hb, Hs, Hr, Hm, HO⟩
  ihave Hm := (end_join x c) $$ Hm
  icases Hm with ⟨Hz, Hx, Hbuf⟩
  iapply Hk
  isplitl [Hb]; · iexact Hb
  isplitl [Hs]; · iexact Hs
  isplitl [Hr]; · iexact Hr
  isplitl [Hz]; · iexact Hz
  isplitl [Hx]; · iexact Hx
  isplitl [Hbuf]; · iexact Hbuf
  iexact HO

end Cert.AllReduce
-- ==== Proof.Ghost.lean ====
/-
The launch's bookkeeping: which semaphores carry the exchange, who holds what at the start, and how the copies'
semaphores are opened when the kernel is entered.
-/
module

public import proofs.«01_k».proof.Proof.Memory
public import Idealize.ShloMosaic.Lib.Pipeline.RegionTalk

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Big F) (c : Dev nD)

/-! ## The copies' semaphores -/

/-- A row and a chain. -/
abbrev Key : Type := Fin 6 × Fin 16

/-- The copies' semaphores, first the sending ones and then the receiving ones. -/
abbrev osem : Key ⊕ Key → SemLoc sig := Sum.elim (fun k => sSem k.1 k.2) (fun k => rSem k.1 k.2)

theorem osem_inj : Function.Injective osem := by
  have hs (k : Key) : role (osem (.inl k)) = .snd k.1 k.2 := role_snd k.1 k.2
  have hr (k : Key) : role (osem (.inr k)) = .rcv k.1 k.2 := role_rcv k.1 k.2
  rintro (a | a) (b | b) h <;> have h := congrArg role h <;> simp only [hs, hr] at h
  · injection h with h1 h2; exact congrArg Sum.inl (Prod.ext h1 h2)
  · cases h
  · cases h
  · injection h with h1 h2; exact congrArg Sum.inr (Prod.ext h1 h2)

theorem osem_ne_bar (k : Key ⊕ Key) : osem k ≠ .reg barS.sem := by
  rcases k with k | k <;> intro h <;> cases h

theorem osem_facts : Pipeline.OwnSemFacts spec0 osem where
  isScoped := by decide +kernel
  inj := osem_inj
  disj k w s h := by
    have h0 : ∀ w : Fin 2, ∀ s : Fin (spec0 w).nbuf, role (.dma ((spec0 w).sem s)) = .none := by decide +kernel
    have h' := congrArg role h
    rw [h0] at h'
    rcases k with k | k
    · exact absurd ((role_snd k.1 k.2).symm.trans h') (by intro h; cases h)
    · exact absurd ((role_rcv k.1 k.2).symm.trans h') (by intro h; cases h)

/-- A family over both kinds of semaphore is a family over each. -/
theorem bigSep_both (Φ : Key ⊕ Key → sProp 𝕄) :
    bigSep Finset.univ Φ = iprop((bigSep Finset.univ fun k => Φ (.inl k)) ∗ bigSep Finset.univ fun k => Φ (.inr k)) :=
  bigSep_univ_sum Φ

theorem ownSems_eq : (Pipeline.ownSems0 osem c : sProp 𝕄)
    = iprop((bigSep Finset.univ fun k : Key => semVal (sCell c k.1 k.2) 0) ∗ bigSep Finset.univ fun k : Key => semVal (rCell c k.1 k.2) 0) :=
  bigSep_both _

/-! ## Who holds what -/

/-- What stays with a device from the launch on: its place at its barrier, the rights to open its semaphores, and the
    rights to pay what it pays. -/
def linear : sProp 𝕄 :=
  iprop(atPos ER (bCell c) 0 ∅ 0
    ∗ (bigSep Finset.univ fun k : Key ⊕ Key => openTok ER ((c : Thread nD τ), osem k))
    ∗ (bigSep Finset.univ fun a : Fin 3 => dutyTok ER (bCell (peer a c)) 0 a)
    ∗ (bigSep Finset.univ fun k : Key => dutyTok ER (sCell c k.1 k.2) 0 0)
    ∗ bigSep Finset.univ fun k : Key => dutyTok ER (rCell (mate k.1 k.2 c) k.1 k.2) 0 0)

/-- What a device brings to the kernel. -/
def Tk : sProp 𝕄 :=
  iprop((∃ K, invs x K c ∗ linear c) ∗ cred (tallyAt (bCell c) () 3)
    ∗ bigSep Finset.univ fun k : Key => cred (tallyAt (rCell c k.1 k.2) () (amt k.1)))

/-- What it has once its semaphores are open. -/
def Xk : sProp 𝕄 := iprop((∃ K, carry x c K) ∗ levAts L lv)

theorem open_one (K : GSem nD τ sig → ℕ) (g : GSem nD τ sig) :
    iprop(cellInv ER (Rd x) (K g) g ∗ openTok ER g ∗ semVal g 0)
      ⊢ (|={Set.univ}=> iprop(atPos ER g 0 ∅ 0 ∗ reached ER g 0) : sProp 𝕄) :=
  Rounds.cell_open ER (Rd x) (g := g) (Set.mem_univ (K g))

/-- One's own semaphores, opened. -/
theorem open_all (K : GSem nD τ sig → ℕ) :
    iprop(invs x K c ∗ (bigSep Finset.univ fun k : Key ⊕ Key => openTok ER ((c : Thread nD τ), osem k)) ∗ Pipeline.ownSems0 osem c)
      ⊢ (|={Set.univ}=> iprop(((bigSep Finset.univ fun k : Key => atPos ER (sCell c k.1 k.2) 0 ∅ 0)
            ∗ bigSep Finset.univ fun k : Key => atPos ER (rCell c k.1 k.2) 0 ∅ 0) ∗ ready c) : sProp 𝕄) := by
  have h1 : iprop(invs x K c ∗ bigSep Finset.univ fun k : Key ⊕ Key =>
        iprop(openTok ER ((c : Thread nD τ), osem k) ∗ semVal ((c : Thread nD τ), osem k) 0))
      ⊢ (|={Set.univ}=> (bigSep Finset.univ fun k : Key ⊕ Key =>
        iprop(atPos ER ((c : Thread nD τ), osem k) 0 ∅ 0 ∗ reached ER ((c : Thread nD τ), osem k) 0)) : sProp 𝕄) := by
    refine (bigSep_with_persistent fun k _ => ?_).trans (bigSep_fupd _ _)
    iintro ⟨#HI, H⟩
    iapply (open_one x K _)
    isplitr
    · rcases k with k | k
      · ihave #H := (invs_at x K c k) $$ HI
        icases H with ⟨#a, -, -⟩; iexact a
      · ihave #H := (invs_at x K c k) $$ HI
        icases H with ⟨-, #a, -⟩; iexact a
    iexact H
  have h2 : (bigSep Finset.univ fun k : Key ⊕ Key =>
        iprop(atPos ER ((c : Thread nD τ), osem k) 0 ∅ 0 ∗ reached ER ((c : Thread nD τ), osem k) 0) : sProp 𝕄)
      = iprop(((bigSep Finset.univ fun k : Key => atPos ER (sCell c k.1 k.2) 0 ∅ 0)
            ∗ bigSep Finset.univ fun k : Key => atPos ER (rCell c k.1 k.2) 0 ∅ 0) ∗ ready c) := by
    rw [bigSep_two, bigSep_both, bigSep_both]
    unfold ready
    rw [bigSep_two]
    rfl
  rw [← h2]
  refine BIBase.Entails.trans ?_ h1
  rw [bigSep_two]
  exact BI.Entails.refl _

/-- The tickets of all chains, from their kinds. -/
theorem tickets_join :
    iprop((bigSep Finset.univ fun k : Key => dutyTok ER (sCell c k.1 k.2) 0 0)
        ∗ (bigSep Finset.univ fun k : Key => dutyTok ER (rCell (mate k.1 k.2 c) k.1 k.2) 0 0)
        ∗ (bigSep Finset.univ fun k : Key => atPos ER (sCell c k.1 k.2) 0 ∅ 0)
        ∗ (bigSep Finset.univ fun k : Key => atPos ER (rCell c k.1 k.2) 0 ∅ 0)
        ∗ bigSep Finset.univ fun k : Key => cred (tallyAt (rCell c k.1 k.2) () (amt k.1)))
      = (bigSep Finset.univ fun s : Fin 16 => bigSep Finset.univ fun p : Fin 6 => tickets c s p : sProp 𝕄) := by
  rw [bigSep_univ_comm, ← bigSep_univ_prod (fun k : Key => (tickets c k.2 k.1 : sProp 𝕄))]
  unfold tickets
  simp only [bigSep_two]

/-- The kernel's entrance: the semaphores are opened. -/
theorem enter : iprop(Tk x c ∗ Pipeline.ownSems0 osem c ∗ levAts L lv) ⊢ (|={Set.univ}=> Xk x c : sProp 𝕄) := by
  unfold Tk Xk linear
  iintro ⟨⟨⟨%K, #HI, Hb, Hopen, Ht, Hts, Htr⟩, Hcb, Hcr⟩, Hsem, #HL⟩
  imod (open_all x c K) $$ [Hopen Hsem] with ⟨⟨Has, Har⟩, #HR⟩
  · isplitr; · iexact HI
    isplitl [Hopen]; · iexact Hopen
    iexact Hsem
  imodintro
  isplitl
  · iexists K
    unfold carry
    isplitr; · iexact HI
    isplitr; · iexact HR
    isplitl [Ht]
    · ihave Ht := (Entails.of_eq (bigSep_three fun a : Fin 3 => (dutyTok ER (bCell (peer a c)) 0 a : sProp 𝕄))) $$ Ht
      iexact Ht
    isplitl [Hb]; · iexact Hb
    isplitl [Hcb]; · iexact Hcb
    iapply (Entails.of_eq (tickets_join c))
    isplitl [Hts]; · iexact Hts
    isplitl [Htr]; · iexact Htr
    isplitl [Has]; · iexact Has
    isplitl [Har]; · iexact Har
    iexact Hcr
  iexact HL

/-! ## The launch's cells and tokens -/

def barEmb : Dev nD ↪ GSem nD τ sig := ⟨fun c => bCell c, fun _ _ h => congrArg (fun g : GSem nD τ sig => g.1.1) h⟩
def dmaEmb : Dev nD × (Key ⊕ Key) ↪ GSem nD τ sig :=
  ⟨fun k => ((k.1 : Thread nD τ), osem k.2), fun _ _ h =>
    Prod.ext (congrArg (fun g : GSem nD τ sig => g.1.1) h) (osem_inj (congrArg Prod.snd h))⟩
def barTok : Dev nD × Fin 3 ↪ GSem nD τ sig × ℕ × Fin 3 :=
  ⟨fun k => (bCell k.1, 0, k.2), fun _ _ h =>
    Prod.ext (congrArg (fun t : GSem nD τ sig × ℕ × Fin 3 => t.1.1.1) h) (congrArg (fun t : GSem nD τ sig × ℕ × Fin 3 => t.2.2) h)⟩
def dmaTok : Dev nD × (Key ⊕ Key) ↪ GSem nD τ sig × ℕ × Fin 3 :=
  ⟨fun k => (dmaEmb k, 0, 0), fun _ _ h => dmaEmb.injective (congrArg Prod.fst h)⟩

abbrev barCells : Finset (GSem nD τ sig) := Finset.univ.map barEmb
abbrev dmaCells : Finset (GSem nD τ sig) := Finset.univ.map dmaEmb
abbrev barToks : Finset (GSem nD τ sig × ℕ × Fin 3) := Finset.univ.map barTok
abbrev dmaToks : Finset (GSem nD τ sig × ℕ × Fin 3) := Finset.univ.map dmaTok

theorem cells_disjoint : Disjoint barCells dmaCells := by
  rw [Finset.disjoint_left]
  rintro g h₁ h₂
  obtain ⟨c, -, rfl⟩ := Finset.mem_map.mp h₁
  obtain ⟨k, -, h⟩ := Finset.mem_map.mp h₂
  exact osem_ne_bar k.2 (congrArg Prod.snd h)
theorem toks_disjoint : Disjoint barToks dmaToks := by
  rw [Finset.disjoint_left]
  rintro g h₁ h₂
  obtain ⟨c, -, rfl⟩ := Finset.mem_map.mp h₁
  obtain ⟨k, -, h⟩ := Finset.mem_map.mp h₂
  exact osem_ne_bar k.2 (congrArg (fun t : GSem nD τ sig × ℕ × Fin 3 => t.1.2) h)

theorem bar_mem : bCell c ∈ barCells ∪ dmaCells :=
  Finset.mem_union_left _ (Finset.mem_map_of_mem barEmb (Finset.mem_univ c))
theorem snd_mem (k : Key) : sCell c k.1 k.2 ∈ barCells ∪ dmaCells :=
  Finset.mem_union_right _ (Finset.mem_map_of_mem dmaEmb (Finset.mem_univ (c, Sum.inl k)))
theorem rcv_mem (k : Key) : rCell c k.1 k.2 ∈ barCells ∪ dmaCells :=
  Finset.mem_union_right _ (Finset.mem_map_of_mem dmaEmb (Finset.mem_univ (c, Sum.inr k)))

/-- What everyone may consult: all invariants, and that every barrier semaphore is ready. -/
def records (K : GSem nD τ sig → ℕ) : sProp 𝕄 :=
  iprop((bigSep (barCells ∪ dmaCells) fun g => cellInv ER (Rd x) (K g) g) ∗ bigSep barCells fun g => reached ER g 0)
instance records_persistent (K : GSem nD τ sig → ℕ) : BI.Persistent (records x K) := by unfold records; infer_instance

theorem rec_inv (K : GSem nD τ sig → ℕ) {g : GSem nD τ sig} (hg : g ∈ barCells ∪ dmaCells) :
    records x K ⊢ cellInv ER (Rd x) (K g) g := by
  unfold records
  exact (sep_elim_left (PROP := sProp 𝕄)).trans (bigSep_elim hg)
theorem rec_bar (K : GSem nD τ sig → ℕ) : records x K ⊢ reached ER (bCell c) 0 := by
  unfold records
  exact (sep_elim_right (PROP := sProp 𝕄)).trans (bigSep_elim (Finset.mem_map_of_mem barEmb (Finset.mem_univ c)))

theorem invs_intro (K : GSem nD τ sig → ℕ) : records x K ⊢ invs x K c := by
  unfold invs
  iintro #H
  isplitr
  · iapply (show records x K ⊢ _ from bigSep_intro_persistent fun (k : Key) _ => by
      iintro #H
      isplitr; · iapply (rec_inv x K (snd_mem c k)); iexact H
      isplitr; · iapply (rec_inv x K (rcv_mem c k)); iexact H
      iapply (rec_inv x K (rcv_mem (mate k.1 k.2 c) k)); iexact H)
    iexact H
  isplitr
  · iapply (rec_inv x K (bar_mem c)); iexact H
  iapply (show records x K ⊢ _ from bigSep_intro_persistent fun (a : Fin 3) _ => by
    iintro #H
    isplitr; · iapply (rec_inv x K (bar_mem (peer a c))); iexact H
    iapply (rec_bar x (peer a c) K); iexact H)
  iexact H

/-! ## Handing the tokens out -/

/-- The rights to pay at the barriers, each with the device that pays. -/
theorem bar_around : (bigSep barToks fun t => (dutyTok ER t.1 t.2.1 t.2.2 : sProp 𝕄))
    = bigSep Finset.univ fun c : Dev nD => bigSep Finset.univ fun a : Fin 3 => dutyTok ER (bCell (peer a c)) 0 a := by
  rw [bigSep_map, bigSep_univ_prod, bigSep_univ_comm, bigSep_univ_comm (fun c : Dev nD => fun a : Fin 3 => (dutyTok ER (bCell (peer a c)) 0 a : sProp 𝕄))]
  exact bigSep_congr fun a _ => bigSep_univ_equiv (peerE a) fun c : Dev nD => (dutyTok ER (bCell c) 0 a : sProp 𝕄)

/-- Those of the copies, each with the device that copies. -/
theorem dma_around : (bigSep dmaToks fun t => (dutyTok ER t.1 t.2.1 t.2.2 : sProp 𝕄))
    = bigSep Finset.univ fun c : Dev nD => iprop((bigSep Finset.univ fun k : Key => dutyTok ER (sCell c k.1 k.2) 0 0)
        ∗ bigSep Finset.univ fun k : Key => dutyTok ER (rCell (mate k.1 k.2 c) k.1 k.2) 0 0) := by
  rw [bigSep_map, bigSep_univ_prod]
  have e (c : Dev nD) : (bigSep Finset.univ fun k : Key ⊕ Key =>
        (dutyTok ER (dmaTok (c, k)).1 (dmaTok (c, k)).2.1 (dmaTok (c, k)).2.2 : sProp 𝕄))
      = iprop((bigSep Finset.univ fun k : Key => dutyTok ER (sCell c k.1 k.2) 0 0)
        ∗ bigSep Finset.univ fun k : Key => dutyTok ER (rCell c k.1 k.2) 0 0) := bigSep_both _
  rw [bigSep_congr fun c _ => e c, bigSep_two, bigSep_two]
  refine congrArg _ ?_
  rw [bigSep_univ_comm, bigSep_univ_comm (fun c : Dev nD => fun k : Key => (dutyTok ER (rCell (mate k.1 k.2 c) k.1 k.2) 0 0 : sProp 𝕄))]
  exact bigSep_congr fun k _ => bigSep_univ_equiv (peerE (ax k.2 (ph k.1))) fun c : Dev nD => (dutyTok ER (rCell c k.1 k.2) 0 0 : sProp 𝕄)

/-! ## What is owed at the launch -/

theorem bar_eq_iff (c d : Dev nD) (a : Fin 3) : bCell c = bCell (peer a d) ↔ d = peer a c := by
  constructor
  · intro h
    have h : c = peer a d := congrArg (fun g : GSem nD τ sig => g.1.1) h
    rw [h, peer_peer]
  · rintro rfl; rw [peer_peer]
theorem rcv_eq_iff (c d : Dev nD) (k j : Key) : rCell c k.1 k.2 = rCell (mate j.1 j.2 d) j.1 j.2 ↔ j = k ∧ d = mate k.1 k.2 c := by
  constructor
  · intro h
    have h1 : c = mate j.1 j.2 d := congrArg (fun g : GSem nD τ sig => g.1.1) h
    have h2 : (Sum.inr k : Key ⊕ Key) = Sum.inr j := osem_inj (congrArg Prod.snd h)
    have h2 : k = j := Sum.inr.inj h2
    subst h2
    exact ⟨rfl, by rw [h1]; exact (peer_peer _ _).symm⟩
  · rintro ⟨rfl, rfl⟩; exact congrArg (fun e : Dev nD => rCell e j.1 j.2) (peer_peer _ _).symm
theorem bar_ne_rcv (c d : Dev nD) (k : Key) : bCell c ≠ rCell d k.1 k.2 := fun h => osem_ne_bar (.inr k) (congrArg Prod.snd h).symm

theorem owed_all : owed c (pos 0) = ∑ k : Key, tallyAt (rCell (mate k.1 k.2 c) k.1 k.2) () (amt k.1) := by
  have h : ∀ p : Fin 6, ∀ s : Fin 16, pos 0 s ≤ sendAt p := by decide
  unfold owed
  exact Finset.sum_congr rfl fun k _ => if_pos (h k.1 k.2)

/-- What device `d` owes at the barrier of `c`, and at a receiving semaphore of `c`. -/
theorem owed_bar (d : Dev nD) : owed₀ d (bCell c) () = ∑ a : Fin 3, if d = peer a c then 1 else 0 := by
  unfold owed₀
  rw [owed_all]
  simp only [Pi.add_apply, Finsupp.add_apply, Finset.sum_apply, Finsupp.finsetSum_apply, tallyAt_apply, bar_eq_iff, bar_ne_rcv, false_and, and_true,
    if_false, Finset.sum_const_zero, Nat.zero_add, Fin.sum_univ_three]
  omega
theorem owed_rcv (d : Dev nD) (k : Key) : owed₀ d (rCell c k.1 k.2) () = if d = mate k.1 k.2 c then amt k.1 else 0 := by
  unfold owed₀
  rw [owed_all]
  simp only [Pi.add_apply, Finsupp.add_apply, Finset.sum_apply, Finsupp.finsetSum_apply, tallyAt_apply, rcv_eq_iff, (bar_ne_rcv _ _ _).symm, false_and, and_true,
    if_false, Nat.add_zero, ite_and]
  rw [Finset.sum_ite_eq' Finset.univ k fun j => if d = mate k.1 k.2 c then amt j.1 else 0, if_pos (Finset.mem_univ _)]

theorem launch_bar : tallyOn (bCell c) (launchCredit (Pipeline.owing owed₀) 0 (bCell c)) = (tallyAt (bCell c) () 3 : CellTallies nD τ sig Unit) := by
  unfold tallyAt; refine congrArg _ (Finsupp.ext fun u => ?_); cases u
  rw [Pipeline.launchCredit_owing, Finsupp.single_eq_same, Finset.sum_congr rfl fun d _ => owed_bar c d, Finset.sum_comm]
  rw [Finset.sum_congr rfl fun a _ => (Finset.sum_ite_eq' Finset.univ (peer a c) fun _ => 1).trans (if_pos (Finset.mem_univ _))]
  rfl
theorem launch_rcv (k : Key) : tallyOn (rCell c k.1 k.2) (launchCredit (Pipeline.owing owed₀) 0 (rCell c k.1 k.2))
    = (tallyAt (rCell c k.1 k.2) () (amt k.1) : CellTallies nD τ sig Unit) := by
  unfold tallyAt; refine congrArg _ (Finsupp.ext fun u => ?_); cases u
  rw [Pipeline.launchCredit_owing, Finsupp.single_eq_same, Finset.sum_congr rfl fun d _ => owed_rcv c d k,
    Finset.sum_ite_eq' Finset.univ (mate k.1 k.2 c) fun _ => amt k.1, if_pos (Finset.mem_univ _)]

/-- The semaphores on which a device is owed something. -/
def owedSem : Option Key ↪ SemLoc sig :=
  ⟨fun o => o.elim (.reg barS.sem) fun k => rSem k.1 k.2, fun
    | none, none, _ => rfl
    | none, some k, h => absurd h.symm (osem_ne_bar (.inr k))
    | some k, none, h => absurd h (osem_ne_bar (.inr k))
    | some k, some j, h => congrArg some (Sum.inr.inj (osem_inj (a₁ := .inr k) (a₂ := .inr j) h))⟩

theorem creds : (Pipeline.launchCred owed₀ c : sProp 𝕄)
    ⊢ iprop(cred (tallyAt (bCell c) () 3) ∗ bigSep Finset.univ fun k : Key => cred (tallyAt (rCell c k.1 k.2) () (amt k.1))) := by
  unfold Pipeline.launchCred
  refine BIBase.Entails.trans (bigSep_subset (Finset.subset_univ ((Finset.univ : Finset (Option Key)).map owedSem))) (Entails.of_eq ?_)
  rw [bigSep_map, bigSep_out (none : Option Key)]
  have e : (Finset.univ.erase (none : Option Key)) = Finset.univ.map (Function.Embedding.some) := by
    ext o; rcases o with _ | k <;> simp
  rw [e, bigSep_map, ← launch_bar]
  refine congrArg _ (bigSep_congr fun k _ => ?_)
  rw [← launch_rcv]
  rfl

end Cert.AllReduce
-- ==== Proof.Launch.lean ====
/-
The whole program: the reshape, the kernel, and the run on eight devices from any memory.
-/
module

public import proofs.«01_k».proof.Proof.Ghost
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.ValueKit

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- A device's buffers at the launch, and when the kernel is entered. -/
abbrev V₀ (c : Dev nD) : Valuation τ sig (Elt F) := fun b => m ((c : Dev nD), b)
abbrev V₁ (c : Dev nD) : Valuation τ sig (Elt F) := StableHlo.after hostOps0 (V₀ m c)
/-- What the kernel finds in its input. -/
def inp (c : Dev nD) : Big F := iblk m c 0 t0_0
/-- A device's buffers when the kernel is left. -/
abbrev V₂ (c : Dev nD) : Valuation τ sig (Elt F) := Function.update (V₁ m c) (Proc.devRef .tc main_v2) (Z (inp m))

/-! ## The kernel's proof data -/

/-- The receive buffer, at any contents. -/
def rAny (c : Dev nD) : sProp 𝕄 := iprop(∃ f, rWh c f)

def dat0 (c : Dev nD) : Pipeline.Dat τ (Elt F) Unit ℕ UU ℕ cfg0 c where
  A w := V₁ m c (Proc.devRef .tc (Pipeline.arrRef spec0 w))
  after w _ := match w with
    | ⟨0, _⟩ => inp m c
    | ⟨1, _⟩ => Z (inp m)
  Φ t := if t.val = 0 then iprop(Xk (inp m) c ∗ rAny c ∗ ∃ r, prngReg c r)
    else iprop(semVal (bCell c) 0 ∗ Pipeline.ownSems0 osem c ∗ rAny c ∗ ∃ r, prngReg c r)
  q _ := fullShare
  owed t := if t.val = 0 then owed₀ c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat0 m

theorem before_in (c : Dev nD) (d : (cfg0.win 0).block.Idx → Elt F (cfg0.win 0).elt) : (dat0 m c).before 0 t0_0 d = inp m c := by
  unfold Pipeline.Dat.before; rw [if_pos (by decide)]; rfl

theorem owed_zero (c : Dev nD) : (pdats (F := F) m 0 c).owed 0 = owed₀ c := by
  show (if ((0 : Fin (cfg0.N + 1)).val = 0) then owed₀ c else 0) = owed₀ c; exact if_pos rfl
theorem owed_at (c : Dev nD) : (dat0 (F := F) m c).owed t0_0.castSucc = owed₀ c := by
  show (if (t0_0.castSucc : Fin (cfg0.N + 1)).val = 0 then owed₀ c else 0) = owed₀ c; exact if_pos rfl
theorem owed_end (c : Dev nD) : (pdats (F := F) m 0 c).owed (Fin.last _) = 0 := by
  show (if (Fin.last cfg0.N).val = 0 then owed₀ c else 0) = 0
  rw [Fin.val_last, if_neg (by rw [show cfg0.N = 1 from N_0]; decide)]

/-- A buffer held whole, as the pipeline writes it. -/
theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

/-- What is owed, as the pipeline writes it. -/
theorem owes_out (c : Dev nD) : ((dat0 m c).owesAt () t0_0.castSucc : sProp 𝕄) ⊢ owes' c (owed₀ c) := by
  unfold Pipeline.Dat.owesAt Pipeline.owesWithin owes'; rw [owed_at]
  iintro ⟨%W, -, H⟩; iexists W; iexact H
theorem owes_in (c : Dev nD) : (owes' c 0 : sProp 𝕄) ⊢ (dat0 m c).owesAt () t0_0.succ := by
  unfold Pipeline.Dat.owesAt Pipeline.owesWithin owes'; rw [show (dat0 m c).owed t0_0.succ = 0 from owed_end m c]
  iintro ⟨%W, H⟩; iexists W
  isplitr; · ipureintro; exact fun _ _ => Or.inl trivial
  iexact H

/-- The body. -/
theorem body_ok (c : Dev nD) : BodyObligation (dat0 (F := F) m c) defs₀ 𝒱₀ () Set.univ := fun t => by
  obtain rfl := fin_N0 t
  rw [bigSep_W0, bigSep_W0]
  simp only [owns_buf]
  rw [show (dat0 m c).Φ t0_0.castSucc = iprop(Xk (inp m) c ∗ rAny c ∗ ∃ r, prngReg c r) from rfl,
    show (dat0 m c).Φ t0_0.succ = iprop(semVal (bCell c) 0 ∗ Pipeline.ownSems0 osem c ∗ rAny c ∗ ∃ r, prngReg c r) from rfl]
  unfold Xk rAny
  iintro ⟨⟨⟨⟨%K, Hc⟩, #HL⟩, ⟨%g, Hr⟩, Hp⟩, HO, ⟨%d0, %f0, %hf0, H0⟩, ⟨%d1, %f1, %hf1, H1⟩⟩
  rw [before_in] at hf0
  subst hf0
  ihave HO := (owes_out m c) $$ HO
  iapply (body_run (inp m) c K f1 g _)
  isplitr; · iexact HL
  isplitl [Hc]; · iexact Hc
  isplitl [Hr]; · iexact Hr
  isplitl [H1]; · iexact H1
  isplitl [H0]; · iexact H0
  isplitl [HO]; · iexact HO
  iintro ⟨Hb, Hs, Hv, Ho, Hx, Hr, HO⟩
  isplitl [Hb Hs Hv Hr Hp]
  · isplitl [Hb]; · iexact Hb
    isplitl [Hs Hv]
    · rw [ownSems_eq]
      isplitl [Hs]; · iexact Hs
      iexact Hv
    isplitl [Hr]; · iexists _; iexact Hr
    iexact Hp
  isplitl [HO]; · iapply (owes_in m c); iexact HO
  isplitl [Hx]
  · iexists _; isplitr; swap; (· iexact Hx); ipureintro; rfl
  iexists _; isplitr; swap; (· iexact Ho); ipureintro; rfl

end Cert.AllReduce
-- ==== Proof.World.lean ====
/-
The run of the program on eight devices, from any memory.
-/
module

public import proofs.«01_k».proof.Proof.Launch

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffers outside the kernel -/

def bufs : Finset (DevRef τ sig) := (StableHlo.tcRefs τ sig).filter fun b => ¬ b.isScoped
/-- The argument, which the kernel does not see. -/
def argRef : Finset (DevRef τ sig) := {Proc.devRef .tc main_arg0}

theorem unscoped_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- A buffer of device `c`, whole. -/
abbrev whole (c : Dev nD) (b : Ref sig .tc) (f : Buf (Elt F) ((c : Thread nD τ).loc b)) : sProp 𝕄 := ((c : Thread nD τ).loc b) ↦{fullShare} f

theorem bufs_eq (c : Dev nD) (W : Valuation τ sig (Elt F)) : (StableHlo.held (c : Thread nD τ) bufs W : sProp 𝕄)
    = iprop(whole c main_arg0 (W main_arg0) ∗ whole c main_v1 (W main_v1) ∗ whole c main_v2 (W main_v2)) := by
  unfold StableHlo.held
  rw [bigSep_eq_bigSepL_of_eq [Proc.devRef .tc main_arg0, Proc.devRef .tc main_v1, Proc.devRef .tc main_v2] (by decide) (by decide)]
  rfl
theorem arrs_eq (c : Dev nD) (W : Valuation τ sig (Elt F)) :
    (StableHlo.held (c.tc : Thread nD τ) (Pipeline.arrRefs (τ := τ) (pcfgs (F := F) 0).spec) W : sProp 𝕄)
      = iprop(whole c main_v1 (W main_v1) ∗ whole c main_v2 (W main_v2)) := by
  unfold StableHlo.held
  have e : Pipeline.arrRefs (τ := τ) spec0 = [Proc.devRef .tc main_v1, Proc.devRef .tc main_v2].toFinset := by decide
  rw [bigSep_eq_bigSepL_of_eq [Proc.devRef .tc main_v1, Proc.devRef .tc main_v2] e (by decide)]
  rfl
theorem arg_eq (c : Dev nD) (W : Valuation τ sig (Elt F)) : (StableHlo.held (c : Thread nD τ) argRef W : sProp 𝕄) = whole c main_arg0 (W main_arg0) := by
  unfold StableHlo.held argRef
  rw [bigSep_singleton]

theorem unscopedSems_eq (c : Dev nD) : (unscopedSems0 c : sProp 𝕄) = semVal (bCell c) 0 := by
  unfold unscopedSems0
  rw [show (Finset.univ.filter fun sm : SemLoc sig => ¬ sm.isScoped .tc) = {SemLoc.reg barS.sem} from by decide +kernel, BI.bigSep_singleton]
theorem unscoped_bar : ∀ sm : SemLoc sig, sm.isScoped .tc = false → sm = .reg barS.sem := by decide +kernel

/-! ## The kernel as a segment -/

theorem scoped_eq (c : Dev nD) :
    (Pipeline.scopedRest (Ix := Unit) (Name := ℕ) (U := UU) (Lvl := ℕ) (Val := Elt F) (Pipeline.pin (pcfgs (F := F)) adm 0).spec c : sProp 𝕄) = rAny c :=
  scopedRest0_eq c

theorem held_none (c : Dev nD) (W : Valuation τ sig (Elt F)) : (StableHlo.held (c.tc : Thread nD τ) ∅ W : sProp 𝕄) = iprop(emp) := by
  unfold StableHlo.held; exact bigSep_empty

theorem kernel_in (c : Dev nD) : iprop(Pipeline.scopedRest (Pipeline.pin (pcfgs (F := F)) adm 0).spec c ∗ (∃ r, prngReg c r)
      ∗ StableHlo.held (c.tc : Thread nD τ) ∅ (V₁ m c) ∗ Xk (inp m) c) ⊢ (pdats m 0 c).Φ 0 := by
  rw [show (pdats m 0 c).Φ 0 = iprop(Xk (inp m) c ∗ rAny c ∗ ∃ r, prngReg c r) from rfl, scoped_eq]
  iintro ⟨Hr, Hp, -, HX⟩
  isplitl [HX]; · iexact HX
  isplitl [Hr]; · iexact Hr
  iexact Hp
theorem kernel_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ semVal (bCell c) 0) := by
  rw [show (pdats m 0 c).Φ (Fin.last _) = iprop(semVal (bCell c) 0 ∗ Pipeline.ownSems0 osem c ∗ rAny c ∗ ∃ r, prngReg c r) from rfl, scoped_eq, held_none]
  iintro ⟨Hb, Hs, Hr, Hp⟩
  isplitl [Hr]; · iexact Hr
  isplitl [Hp]; · iexact Hp
  isplitr; · iempintro
  isplitl [Hs]; · iexact Hs
  iexact Hb

theorem owed₀_pos (c : Dev nD) {g : GSem nD τ sig} {u : Unit} (h : 0 < owed₀ c g u) :
    (∃ d, g = bCell d) ∨ ∃ d, ∃ k : Key, g = rCell d k.1 k.2 := by
  have bar (a : Fin 3) (h : 0 < (tallyAt (bCell (peer a c)) () 1 : CellTallies nD τ sig Unit) g u) : ∃ d, g = bCell d := by
    rw [tallyAt_apply] at h
    split at h
    · next hg => exact ⟨_, hg.1⟩
    · exact absurd h (Nat.lt_irrefl 0)
  unfold owed₀ at h
  simp only [Pi.add_apply, Finsupp.add_apply] at h
  rcases Nat.add_pos_iff_pos_or_pos.mp h with h | h
  · rcases Nat.add_pos_iff_pos_or_pos.mp h with h | h
    · rcases Nat.add_pos_iff_pos_or_pos.mp h with h | h
      · obtain ⟨p, s, -, hg⟩ := owed_pos h
        exact .inr ⟨_, (p, s), hg⟩
      · exact .inl (bar 2 h)
    · exact .inl (bar 1 h)
  · exact .inl (bar 0 h)

theorem cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then owed₀ c else 0 := rfl
  rw [e] at h
  split at h
  · rcases owed₀_pos c h with ⟨d, rfl⟩ | ⟨d, k, rfl⟩
    · exact ⟨by rw [L_tc]; exact Finset.mem_singleton_self _, by unfold lv; rw [role_bar]; decide⟩
    · exact ⟨by rw [L_tc]; exact Finset.mem_singleton_self _, by unfold lv; rw [role_rcv]; exact Nat.add_pos_left (by decide) _⟩
  · exact absurd h (Nat.lt_irrefl 0)

theorem cut_stage (c : Dev nD) (w : Fin 2) (s : Fin (spec0 w).nbuf) : lv ((c : Thread nD τ), .dma ((spec0 w).sem s)) () = 0 := by
  have h0 : ∀ w : Fin 2, ∀ s : Fin (spec0 w).nbuf, role (.dma ((spec0 w).sem s)) = .none := by decide +kernel
  unfold lv; rw [h0]

/-- The arrays when the kernel is left. -/
theorem out_arr (c : Dev nD) : (dat0 m c).arrAt 1 cfg0.N = Z (inp m) := by
  refine (dat0 m c).arrAt_eq_of_after_last 1 t0_0 (by decide +kernel) _ fun j => ?_
  blk_simp
  rfl
theorem V₂_in (c : Dev nD) : V₂ m c (Proc.devRef .tc main_v1) = V₁ m c (Proc.devRef .tc main_v1) := Function.update_of_ne (by decide) ..
theorem V₂_out (c : Dev nD) : V₂ m c (Proc.devRef .tc main_v2) = Z (inp m) := Function.update_self ..
theorem arrs_in (c : Dev nD) (w : Fin 2) : (pdats m 0 c).arrAt w 0 = V₁ m c (Proc.devRef .tc (Pipeline.arrRef (Pipeline.pin (pcfgs (F := F)) adm 0).spec w)) := rfl
theorem arrs_out (c : Dev nD) (w : Fin 2) : (pdats m 0 c).arrAt w (Pipeline.pin (pcfgs (F := F)) adm 0).N
    = V₂ m c (Proc.devRef .tc (Pipeline.arrRef (Pipeline.pin (pcfgs (F := F)) adm 0).spec w)) := by
  match w with
  | 0 => exact ((dat0 m c).arrAt_in 0 rfl _).trans (V₂_in m c).symm
  | 1 => exact (out_arr m c).trans (V₂_out m c).symm

theorem arg_rest (c : Dev nD) : ∀ b ∈ argRef \ ∅, V₂ m c b = V₁ m c b := fun b hb => by
  rw [Finset.sdiff_empty] at hb
  rw [Finset.mem_singleton.mp hb]
  exact Function.update_of_ne (by decide) ..

set_option backward.isDefEq.respectTransparency.types false in
def kernelSeg : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ argRef (Finset.empty_subset _) launch0.toP rfl (fun c => (body_ok m c).loose)
    (fun _ => 0) owed₀ (fun c => (owed_zero m c).trans (zero_add _).symm) (owed_end m) (fun _ => rfl)
    (fun c => (pdats m 0 c).share_full fun _ => rfl)
    (V₁ m) (V₂ m) (arg_rest m)
    (Tk (inp m)) (fun c => semVal (bCell c) 0) (Xk (inp m)) (fun c => semVal (bCell c) 0) (enter (inp m)) (kernel_in m) (kernel_out m)
    (fun c => by iintro H; imodintro; iexact H)
    (fun _ => 0)
    ⟨fun c w s => by rw [L_tc]; exact Finset.mem_singleton_self _, fun c w s => Nat.le_of_eq (cut_stage c w s), fun c t g i h => cut m c t g i h⟩
    (fun _ => iprop(emp))
    (arrs_in m) (arrs_out m)

/-! ## The reshape as a segment -/

/-- What rides along until the kernel. -/
def ride (c : Dev nD) : sProp 𝕄 := iprop(Tk (inp m) c ∗ (∃ r, prngReg c r) ∗ ∃ W, owes (c : Thread nD τ) (owed₀ c) W)

theorem ops_sub : ∀ op ∈ (hostOps0 : List (HloOp τ sig (Elt F))), op.bufs ⊆ bufs := fun op h => by
  obtain rfl := List.mem_singleton.mp h
  show ({Proc.devRef .tc main_arg0, Proc.devRef .tc main_v1} : Finset (DevRef τ sig)) ⊆ bufs; decide
theorem ops_fresh : ∀ op ∈ (hostOps0 : List (HloOp τ sig (Elt F))), op.fresh = ∅ := List.forall_iff_forall_mem.mp hostOps0_fresh

def hostSeg : Pipeline.HostSeg (Name := ℕ) (U := UU) (pcfgs (F := F)) defs₀ 𝒱₀ L lv :=
  Pipeline.HostSeg.ofOps _ _ _ _ _ bufs hostOps0 ops_sub ops_fresh (V₀ m) (ride m)

def segs : List (Pipeline.Seg (pcfgs (F := F)) adm (pdats m) () defs₀ 𝒱₀ L lv) := [.host (hostSeg m), .region (kernelSeg m)]

theorem kernel_pre (c : Dev nD) : iprop(StableHlo.held (c : Thread nD τ) bufs (V₁ m c) ∗ ride m c) ⊢ (kernelSeg m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) argRef (V₁ m c) ∗ emp) ∗ Tk (inp m) c ∗ ∃ Wd, owes (c : Thread nD τ) (0 + owed₀ c) Wd)
  rw [arrs_eq, arg_eq, bufs_eq, zero_add]
  unfold ride
  iintro ⟨⟨Ha, H1, H2⟩, HT, Hp, HO⟩
  isplitl [H1 H2]
  · isplitl [H1]; · iexact H1
    iexact H2
  isplitl [Hp]; · iexact Hp
  isplitl [Ha]
  · isplitl [Ha]; · iexact Ha
    iempintro
  isplitl [HT]; · iexact HT
  iexact HO
theorem kernel_post (c : Dev nD) : (kernelSeg m).post c
    ⊢ iprop((StableHlo.held (c : Thread nD τ) bufs (V₂ m c) ∗ semVal (bCell c) 0) ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) argRef (V₂ m c) ∗ emp) ∗ semVal (bCell c) 0 ∗ ∃ Wd, owes (c : Thread nD τ) (0 : CellTallies nD τ sig Unit) Wd) ⊢ _
  rw [arrs_eq, arg_eq, bufs_eq]
  iintro ⟨⟨H1, H2⟩, -, ⟨Ha, -⟩, Hb, HO⟩
  isplitr [HO]
  · isplitr [Hb]
    · isplitl [Ha]; · iexact Ha
      isplitl [H1]; · iexact H1
      iexact H2
    iexact Hb
  iexact HO

/-! ## The launch -/

/-- The ghost state at the launch. -/
def u₀ : UU :=
  (initOf (Pipeline.cells (Pipeline.pin (pcfgs (F := F)) adm) cellOf_inj) (Pipeline.launchToks (Pipeline.pin (pcfgs (F := F)) adm) cellOf_inj),
    launchOf barCells dmaCells (barToks ∪ dmaToks))

/-- The exchange's part of it, kept with device 0 until it is dealt out. -/
def G (c : Dev nD) : sProp 𝕄 := if c = 0 then BI.own (ER (launchOf barCells dmaCells (barToks ∪ dmaToks))) else iprop(emp)
theorem G_all : bigSep Finset.univ (G (F := F)) = BI.own (ER (launchOf barCells dmaCells (barToks ∪ dmaToks))) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.Entails.antisymm (Laws.sep_emp (PROP := sProp 𝕄)).1 (Laws.sep_emp (PROP := sProp 𝕄)).2

/-- What a device holds at the start of the program, and at its end. -/
abbrev T₀ (c : Dev nD) : sProp 𝕄 := iprop(StableHlo.held (c : Thread nD τ) bufs (V₀ m c) ∗ ride m c)
abbrev Tₙ (c : Dev nD) : sProp 𝕄 := iprop(StableHlo.held (c : Thread nD τ) bufs (V₂ m c) ∗ semVal (bCell c) 0)

/-- Of that at the start, what is no right of the exchange. -/
def plain (c : Dev nD) : sProp 𝕄 :=
  iprop(StableHlo.held (c : Thread nD τ) bufs (V₀ m c)
    ∗ (cred (tallyAt (bCell c) () 3) ∗ bigSep Finset.univ fun k : Key => cred (tallyAt (rCell c k.1 k.2) () (amt k.1)))
    ∗ owes (c : Thread nD τ) (owed₀ c) ∅ ∗ ∃ r, prngReg c r)

theorem T₀_intro (K : GSem nD τ sig → ℕ) (c : Dev nD) : iprop(records (inp m) K ∗ (linear c ∗ plain m c)) ⊢ T₀ m c := by
  unfold plain T₀ ride Tk
  iintro ⟨#HR, Hl, Hh, ⟨Hb, Hr⟩, HO, Hp⟩
  isplitl [Hh]; · iexact Hh
  isplitl [Hl Hb Hr]
  · isplitl [Hl]
    · iexists K
      isplitr; · iapply (invs_intro (inp m) c K); iexact HR
      iexact Hl
    isplitl [Hb]; · iexact Hb
    iexact Hr
  isplitl [Hp]; · iexact Hp
  iexists ∅; iexact HO

/-- What the launch gives a device. -/
def given₀ (c : Dev nD) : sProp 𝕄 :=
  iprop(unscopedBufs c (fun b => m ((c : Thread nD τ).loc b)) ∗ unscopedSems0 c
    ∗ owes (c : Thread nD τ) (owed₀ c) ∅ ∗ Pipeline.launchCred owed₀ c ∗ prngReg c (ρ c) ∗ G c)

theorem given_sort (c : Dev nD) : given₀ m ρ c ⊢ iprop(plain m c ∗ semVal (bCell c) 0 ∗ G c) := by
  unfold given₀ plain
  rw [show unscopedBufs c (fun b => m ((c : Thread nD τ).loc b)) = StableHlo.held (c : Thread nD τ) bufs (V₀ m c) from unscoped_held c (V₀ m c),
    unscopedSems_eq]
  iintro ⟨Hh, Hs, HO, Hc, Hp, HG⟩
  ihave Hc := (creds (F := F) c) $$ Hc
  isplitl [Hh HO Hc Hp]
  · isplitl [Hh]; · iexact Hh
    isplitl [Hc]; · iexact Hc
    isplitl [HO]; · iexact HO
    iexists (ρ c); iexact Hp
  isplitl [Hs]; · iexact Hs
  iexact HG

/-- The exchange's rights, from what the launch makes. -/
theorem linear_all :
    iprop((bigSep barCells fun g => (atPos ER g 0 ∅ 0 : sProp 𝕄)) ∗ (bigSep dmaCells fun g => (openTok ER g : sProp 𝕄))
        ∗ bigSep (barToks ∪ dmaToks) fun t => (dutyTok ER t.1 t.2.1 t.2.2 : sProp 𝕄))
      = bigSep Finset.univ fun c : Dev nD => (linear c : sProp 𝕄) := by
  have hu : (bigSep (barToks ∪ dmaToks) fun t => (dutyTok ER t.1 t.2.1 t.2.2 : sProp 𝕄))
      = iprop((bigSep barToks fun t => (dutyTok ER t.1 t.2.1 t.2.2 : sProp 𝕄)) ∗ bigSep dmaToks fun t => (dutyTok ER t.1 t.2.1 t.2.2 : sProp 𝕄)) :=
    bigSep_union toks_disjoint
  have ha : (bigSep barCells fun g => (atPos ER g 0 ∅ 0 : sProp 𝕄)) = bigSep Finset.univ fun c : Dev nD => (atPos ER (bCell c) 0 ∅ 0 : sProp 𝕄) :=
    bigSep_map (s := Finset.univ) barEmb (Φ := fun g : GSem nD τ sig => (atPos ER g 0 ∅ 0 : sProp 𝕄))
  have ho : (bigSep dmaCells fun g => (openTok ER g : sProp 𝕄))
      = bigSep Finset.univ fun c : Dev nD => bigSep Finset.univ fun k : Key ⊕ Key => (openTok ER ((c : Thread nD τ), osem k) : sProp 𝕄) :=
    (bigSep_map (s := Finset.univ) dmaEmb (Φ := fun g : GSem nD τ sig => (openTok ER g : sProp 𝕄))).trans (bigSep_univ_prod _)
  rw [hu, bar_around, dma_around, ha, ho]
  unfold linear
  simp only [bigSep_two]

theorem deal : iprop((bigSep Finset.univ fun c : Dev nD => given₀ m ρ c) ∗ levAts L lv) ⊢ (|={Set.univ}=> bigSep Finset.univ (T₀ m) : sProp 𝕄) := by
  have hs : (bigSep Finset.univ fun c : Dev nD => given₀ m ρ c)
      ⊢ iprop((bigSep Finset.univ fun c : Dev nD => plain m c) ∗ (bigSep barCells fun g => (semVal g 0 : sProp 𝕄))
        ∗ BI.own (ER (launchOf barCells dmaCells (barToks ∪ dmaToks)))) := by
    rw [← G_all, bigSep_map, ← bigSep_two, ← bigSep_two]
    exact bigSep_mono fun c _ => given_sort m ρ c
  iintro ⟨H, -⟩
  ihave H := hs $$ H
  icases H with ⟨HB, Hv, Hu⟩
  imod (Rounds.fund_launch ER (Rd (inp m)) cells_disjoint (fun g _ h => h) (barToks ∪ dmaToks)) $$ [Hv Hu] with ⟨%K, -, #Hinv, #Hr, Hat, Hopen, Htok⟩
  · isplitl [Hv]; · iexact Hv
    iexact Hu
  imodintro
  iapply (bigSep_with_persistent (R := records (inp m) K) (Φ := fun c => iprop(linear c ∗ plain m c)) fun c _ => T₀_intro m K c)
  isplitr
  · unfold records
    isplitr; · iexact Hinv
    iexact Hr
  iapply (Entails.of_eq (bigSep_two Finset.univ (fun c : Dev nD => (linear c : sProp 𝕄)) (plain m)).symm)
  isplitr [HB]
  · iapply (Entails.of_eq (linear_all (F := F)))
    isplitl [Hat]; · iexact Hat
    isplitl [Hopen]; · iexact Hopen
    iexact Htok
  iexact HB

/-! ## The run -/

theorem V₂_arg (c : Dev nD) : V₂ m c main_arg0 = m ((c : Thread nD τ).loc main_arg0) :=
  (Function.update_of_ne (by decide) ..).trans (V_main_arg0 m c)

set_option backward.isDefEq.respectTransparency.types false in
/-- From any memory with zero counters every weakly fair execution on the eight devices terminates, and every final state
    has the argument unchanged, the result at `Z (inp m)` on every device, and all counters at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_v2) = Z (inp m)) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (hostSeg m) (kernelSeg m) rfl c]; rfl)
    (by simp only [segs, Pipeline.Seg.pipes_host, Pipeline.Seg.pipes_region, Pipeline.Seg.pipes_nil]; decide)
    (O₀ := owed₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, fun c => kernel_pre m c, fun c => kernel_post m c⟩)
    (hinit := deal m ρ)
    (QY := fun c s => (s.mem ((c : Thread nD τ).loc main_arg0) = V₂ m c main_arg0 ∧ s.mem ((c : Thread nD τ).loc main_v2) = V₂ m c main_v2)
      ∧ s.sem (bCell c) = 0)
    (hfin := fun c s' => by
      dsimp only [Tₙ]; rw [bufs_eq]
      iintro ⟨⟨⟨Hx, -, Hy⟩, Hb⟩, HSI⟩
      icombine HSI Hx gives %hx
      icombine HSI Hy gives %hy
      icombine HSI Hb gives %hb
      imodintro
      isplitr
      · ipureintro
        exact ⟨⟨Buf.eq_of_forall_mem_univ hx, Buf.eq_of_forall_mem_univ hy⟩, by simpa using hb⟩
      iexact HSI)
    (hQ := fun s h hs => ⟨fun c => ⟨(h c).1.1.trans (V₂_arg m c), (h c).1.2.trans (V₂_out m c)⟩,
      sem_eq_zero hs fun c sm hsm => by
        obtain rfl := unscoped_bar sm hsm
        exact (h c).2⟩)

end Cert.AllReduce
-- ==== Proof.Value.lean ====
/-
The kernel's result in exact arithmetic: at every place, the sum of the eight devices' arguments.
-/
module

public import proofs.«01_k».proof.Proof.Launch
public import Idealize.ShloMosaic.Lib.Layout
public import Idealize.ShloMosaic.PureOps.Ideal.Laws

@[expose] public section

set_option maxRecDepth 16384

noncomputable section

namespace Cert.AllReduce

open Cert.KernelIdeal Cert.KernelIdeal.Gen
open Idealize.ShloMosaic Idealize.ShloMosaic.TcCoe Idealize.SL.Sem

/-! ## The sum over the mesh -/

/-- Exchanging once along every axis, in any order, reaches every device once. -/
theorem reach (s : Fin 16) (c : Dev nD) :
    (Finset.univ.val : Multiset (Dev nD)) =
      ([c, peer (ax s 0) c, peer (ax s 1) c, peer (ax s 0) (peer (ax s 1) c), peer (ax s 2) c,
        peer (ax s 0) (peer (ax s 2) c), peer (ax s 1) (peer (ax s 2) c),
        peer (ax s 0) (peer (ax s 1) (peer (ax s 2) c))] : List (Dev nD)) := by
  revert s c; decide

theorem sum_reach (s : Fin 16) (c : Dev nD) (f : Dev nD → EReal) :
    ((f c + f (peer (ax s 0) c)) + (f (peer (ax s 1) c) + f (peer (ax s 0) (peer (ax s 1) c))))
      + ((f (peer (ax s 2) c) + f (peer (ax s 0) (peer (ax s 2) c)))
        + (f (peer (ax s 1) (peer (ax s 2) c)) + f (peer (ax s 0) (peer (ax s 1) (peer (ax s 2) c))))) = ∑ d, f d := by
  unfold Finset.sum
  rw [reach s c, Multiset.map_coe, Multiset.sum_coe]
  simp only [List.map_cons, List.map_nil, List.sum_cons, List.sum_nil, add_zero, add_assoc]

/-- The finished sums. -/
theorem Z_apply (x : Dev nD → Big Ideal) (i : S1024x1024.Idx) : Z x i = ∑ d : Dev nD, (x d i : EReal) :=
  sum_reach (chain i) (owner ((i 0).val / 8)) fun d => x d i

/-! ## What the kernel finds -/

variable {F : FTy → Type} [FloatOps F] (m : (ℓ : Loc nD τ sig) → Buf (Elt F) ℓ)

/-- A place of a device's block, as the program's argument names it. -/
def inBlock (i : S1024x1024.Idx) : S1x1x1x1024x1024.Idx := fun a =>
  match a with
  | 0 => ⟨0, by decide⟩
  | 1 => ⟨0, by decide⟩
  | 2 => ⟨0, by decide⟩
  | 3 => i 0
  | 4 => i 1

theorem reshape_place (i : S1024x1024.Idx) :
    Shape.reshapeEquiv shapeCasts_S1x1x1x1024x1024_S1024x1024 i = inBlock i := by
  apply Shape.reshapeEquiv_eq_of_rowMajor
  rw [Shape.rowMajor_val_five, Shape.rowMajor_val_two]
  show (((0 * 1 + 0) * 1 + 0) * 1024 + (i 0).val) * 1024 + (i 1).val = (i 0).val * 1024 + (i 1).val
  omega

theorem entry_at (c : Dev nD) (i : S1024x1024.Idx) :
    Gen.V m c main_v1 i = m ((c : Thread nD τ).loc main_arg0) (inBlock i) := by
  entry_read
  rw [← reshape_place]
  rfl

theorem window_at : win0_0.index t0_0 = ![0, 0] := by decide +kernel

theorem inp_apply (c : Dev nD) (i : S1024x1024.Idx) :
    inp m c i = m ((c : Thread nD τ).loc main_arg0) (inBlock i) := by
  rw [← entry_at m c i]
  unfold inp
  blk_simp [iblk]
  congr 1
  blk_ext [window_at]

end Cert.AllReduce

end
-- ==== Proof.Ref.lean ====
/-
The reference: one device that holds the whole array and sums it over the three mesh axes.
-/
module

public import proofs.«01_k».proof.Proof.Gen.ReferenceIdeal
public import Idealize.ShloMosaic.Lib.StableHlo.Run
public import Idealize.ShloMosaic.Lib.IdealHost
public import Idealize.ShloMosaic.PureOps.Reduce
public import Idealize.ShloMosaic.Lib.Quiescent

@[expose] public section

noncomputable section

namespace Cert.AllReduce.Ref

open Cert.ReferenceIdeal Cert.ReferenceIdeal.Gen
open Idealize.ShloMosaic Idealize.ShloMosaic.TcCoe Idealize.ShloMosaic.StableHlo Idealize.SL.Sem

variable {F : FTy → Type} [FloatOps F]

/-- The reference's result from its argument: widen, sum over the first three axes, narrow. -/
abbrev total (x : FVec F S2x2x2x1024x1024 .bf16) : FVec F S1024x1024 .bf16 :=
  truncf .bf16 (Host.reduceAdd (extf .f32 x bitsLt_bf16_f32) (constant S_ .f32 0x00000000#32)
    reducesTo_S2x2x2x1024x1024_S1024x1024_d0_1_2 h_S_) bitsLt_bf16_f32

/-- The four operations of the reference. -/
abbrev steps : List (HloOp τ sig (Elt F)) :=
  [unary main_arg0 main_v0 (extf .f32 · bitsLt_bf16_f32),
   nullary main_cst (constant S_ .f32 0x00000000#32),
   binary main_v0 main_cst main_v1 (fun x v => Host.reduceAdd x v reducesTo_S2x2x2x1024x1024_S1024x1024_d0_1_2 h_S_),
   unary main_v1 main_v2 (truncf .bf16 · bitsLt_bf16_f32)]

theorem steps_res (W : Valuation τ sig (Elt F)) :
    after steps W (main_v2 : DevRef τ sig) = total (W (main_arg0 : DevRef τ sig)) := by
  after_results
theorem steps_arg (W : Valuation τ sig (Elt F)) :
    after steps W (main_arg0 : DevRef τ sig) = W (main_arg0 : DevRef τ sig) := by
  after_results

/-- The reference, from any memory: its result is `total` of its argument, the argument stays, and no counter moves. -/
theorem run_ref (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v2) = total (m ((c.tc : Thread nD τ).loc main_arg0))
        ∧ r.2.mem ((c.tc : Thread nD τ).loc main_arg0) = m ((c.tc : Thread nD τ).loc main_arg0))
      ∧ r.2.sem = fun _ => 0 :=
  (θ_run defs _ _).mono
    (fun r h => ⟨fun c => ⟨(h c main_v2).trans (steps_res _), (h c main_arg0).trans (steps_arg _)⟩,
      sem_eq_zero_of_no_sems (by decide) r.2⟩)
    (run_seq (by decide) (by decide) defs main (fun _ => steps) (fun _ => rfl)
      (fun _ => ⟨unary_bufs_sub .., nullary_bufs_sub .., binary_bufs_sub .., unary_bufs_sub ..⟩) m ρ)

/-! ## The sum, device by device -/

/-- The whole array, in exact arithmetic. -/
abbrev Whole := FVec Ideal S2x2x2x1024x1024 .bf16

/-- Element `i` of the block of device `d` of the 2 × 2 × 2 mesh, in the whole array. -/
def place (d : Fin 8) (i : S1024x1024.Idx) : S2x2x2x1024x1024.Idx := fun a =>
  match a with
  | 0 => ⟨d.val / 4, by have := d.isLt; show _ < 2; omega⟩
  | 1 => ⟨d.val / 2 % 2, by show _ < 2; omega⟩
  | 2 => ⟨d.val % 2, by show _ < 2; omega⟩
  | 3 => i 0
  | 4 => i 1

/-- The device whose block an element of the whole array lies in. -/
def dev (k : S2x2x2x1024x1024.Idx) : Fin 8 := ⟨(k 0).val * 4 + (k 1).val * 2 + (k 2).val, by
  have h0 : (k 0).val < 2 := (k 0).isLt
  have h1 : (k 1).val < 2 := (k 1).isLt
  have h2 : (k 2).val < 2 := (k 2).isLt
  omega⟩

theorem drop_iff (k : S2x2x2x1024x1024.Idx) (i : S1024x1024.Idx) :
    reducesTo_S2x2x2x1024x1024_S1024x1024_d0_1_2.drop k = i ↔ (k 3).val = (i 0).val ∧ (k 4).val = (i 1).val := by
  have e0 := Shape.ReducesTo.drop_apply_val_of_eq reducesTo_S2x2x2x1024x1024_S1024x1024_d0_1_2 k 0 3
  have e1 := Shape.ReducesTo.drop_apply_val_of_eq reducesTo_S2x2x2x1024x1024_S1024x1024_d0_1_2 k 1 4
  constructor
  · rintro rfl; exact ⟨e0.symm, e1.symm⟩
  · rintro ⟨h0, h1⟩
    funext b
    match b with
    | 0 => exact Fin.ext (e0.trans h0)
    | 1 => exact Fin.ext (e1.trans h1)

/-- In exact arithmetic the result is the sum over the eight devices' blocks. -/
theorem total_apply (x : FVec Ideal S2x2x2x1024x1024 .bf16) (i : S1024x1024.Idx) :
    total (F := Ideal) x i = ∑ d : Fin 8, (x (place d i) : EReal) := by
  show (Ideal.ofBits .f32 0x00000000#32 : EReal)
    + ∑ k ∈ Finset.univ.filter (fun k => reducesTo_S2x2x2x1024x1024_S1024x1024_d0_1_2.drop k = i), (x k : EReal) = _
  rw [Ideal.ofBits_zero_f32, zero_add]
  refine Finset.sum_nbij' (M := EReal) dev (fun d => place d i) (fun _ _ => Finset.mem_univ _) (fun d _ => ?_)
    (fun k hk => ?_) (fun d _ => ?_) (fun k hk => ?_)
  · exact Finset.mem_filter.2 ⟨Finset.mem_univ _, (drop_iff _ _).2 ⟨rfl, rfl⟩⟩
  · exact back k hk
  · apply Fin.ext
    show d.val / 4 * 4 + d.val / 2 % 2 * 2 + d.val % 2 = d.val
    omega
  · rw [back k hk]
where
  back {i : S1024x1024.Idx} (k : S2x2x2x1024x1024.Idx)
      (hk : k ∈ Finset.univ.filter (fun k => reducesTo_S2x2x2x1024x1024_S1024x1024_d0_1_2.drop k = i)) :
      place (dev k) i = k := by
    obtain ⟨h3, h4⟩ := (drop_iff k i).1 (Finset.mem_filter.1 hk).2
    have h0 : (k 0).val < 2 := (k 0).isLt
    have h1 : (k 1).val < 2 := (k 1).isLt
    have h2 : (k 2).val < 2 := (k 2).isLt
    funext a
    match a with
    | 0 => apply Fin.ext; show ((k 0).val * 4 + (k 1).val * 2 + (k 2).val) / 4 = _; omega
    | 1 => apply Fin.ext; show ((k 0).val * 4 + (k 1).val * 2 + (k 2).val) / 2 % 2 = _; omega
    | 2 => apply Fin.ext; show ((k 0).val * 4 + (k 1).val * 2 + (k 2).val) % 2 = _; omega
    | 3 => exact Fin.ext h3.symm
    | 4 => exact Fin.ext h4.symm

end Cert.AllReduce.Ref

end
-- ==== Proof.Agree.lean ====
/-
The kernel's result and the reference's are equal when every device's argument is its block of the whole array.
-/
module

public import proofs.«01_k».proof.Defs
public import proofs.«01_k».proof.Proof.Gen.Kernel
public import proofs.«01_k».proof.Proof.World
public import proofs.«01_k».proof.Proof.Value
public import proofs.«01_k».proof.Proof.Ref

@[expose] public section

set_option maxRecDepth 16384

noncomputable section

namespace Cert.AllReduce

open Cert.KernelIdeal Cert.KernelIdeal.Gen
open Idealize.ShloMosaic Idealize.ShloMosaic.TcCoe Idealize.SL.Sem

theorem first_coord (d : Dev nD) : Layout.meshLin [2, 2, 2] d.val [0] = d.val / 4 := by revert d; decide
theorem second_coord (d : Dev nD) : Layout.meshLin [2, 2, 2] d.val [1] = d.val / 2 % 2 := by revert d; decide
theorem third_coord (d : Dev nD) : Layout.meshLin [2, 2, 2] d.val [2] = d.val % 2 := by revert d; decide

/-- Where a device's block lies in the whole array. -/
theorem block_apply (d : Dev nD) (X : Ref.Whole) (i : S1024x1024.Idx) :
    (Layout.blockN ⟨5, ![1, 1, 1, 1024, 1024]⟩ ⟨5, ![2, 2, 2, 1024, 1024]⟩ (Layout.meshBlock [2, 2, 2] ![[0], [1], [2], [], []] d) X)
      (inBlock i) = X (Ref.place d i) := by
  rw [Layout.blockN_apply]
  refine congrArg X (funext fun a => Fin.ext ?_)
  rw [Layout.TilesN.idx_val]
  match a with
  | 0 => show Layout.meshLin [2, 2, 2] d.val [0] * 1 + 0 = d.val / 4; rw [first_coord]; omega
  | 1 => show Layout.meshLin [2, 2, 2] d.val [1] * 1 + 0 = d.val / 2 % 2; rw [second_coord]; omega
  | 2 => show Layout.meshLin [2, 2, 2] d.val [2] * 1 + 0 = d.val % 2; rw [third_coord]; omega
  | 3 => show 0 * 1024 + (i 0).val = (i 0).val; omega
  | 4 => show 0 * 1024 + (i 1).val = (i 1).val; omega

/-- The two results are one array. -/
theorem same_result (m : (ℓ : Loc nD τ sig) → Buf (Elt Ideal) ℓ) (X : Ref.Whole)
    (h : ∀ c : Dev nD, m ((c.tc : Thread nD τ).loc main_arg0)
      = Layout.blockN ⟨5, ![1, 1, 1, 1024, 1024]⟩ ⟨5, ![2, 2, 2, 1024, 1024]⟩ (Layout.meshBlock [2, 2, 2] ![[0], [1], [2], [], []] c) X) :
    Z (inp m) = Ref.total X := by
  funext i
  rw [Z_apply, Ref.total_apply]
  refine Finset.sum_congr rfl fun d _ => ?_
  rw [inp_apply, h d]
  exact block_apply d X i

/-! ## The claims -/

/-- The run leaves the argument as it was and every counter at zero. -/
theorem kept {F : FTy → Type} [FloatOps F] (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0))
      ∧ r.2.sem = fun _ => 0) :=
  (θ_run defs _ _).mono (fun _ h => ⟨fun c => (h.1 c).1, h.2⟩) (run_main m ρ)

/-- The frame of the kernel in exact arithmetic. -/
theorem frame_pi : Cert.quiescent_KernelIdeal := fun m ρ _ => kept m ρ

/-! The kernel as printed and the kernel read in exact arithmetic are one text. -/

theorem same_table : Cert.Kernel.defs₀ (F := Bits) = defs₀ (F := Bits) := by
  unfold Cert.Kernel.defs₀ defs₀
  refine congrArg Defs.onTc (funext fun ℓ => funext fun a => ?_)
  match ℓ, a with
  | 0, (_, _) => rfl
theorem same_defs : Cert.Kernel.defs (F := Bits) = defs (F := Bits) := congrArg (Pipeline.defs (pcfgs (F := Bits))) same_table

/-- The frame of the kernel on words. -/
theorem frame_p : Cert.quiescent_Kernel := fun m ρ _ => by
  have h := kept (F := Bits) m ρ
  rw [← same_defs] at h
  exact h

/-- The frame of the reference. -/
theorem frame_ri : Cert.quiescent_ReferenceIdeal := fun m ρ _ =>
  (θ_run Cert.ReferenceIdeal.defs _ _).mono (fun _ h => ⟨fun c => (h.1 c).2, h.2⟩) (Ref.run_ref (F := Ideal) m ρ)

/-- In exact arithmetic every device ends with the reference's result. -/
theorem algebraic : Cert.algebraic_KernelIdeal_ReferenceIdeal := fun m g m' g' _ h =>
  ⟨Ref.total (F := Ideal) (m' (((0 : Dev Cert.ReferenceIdeal.nD).tc : Thread Cert.ReferenceIdeal.nD Cert.ReferenceIdeal.τ).loc Cert.ReferenceIdeal.main_arg0)),
    (θ_run Cert.KernelIdeal.defs _ _).mono (fun _ k c => ⟨(k.1 c).2.trans (same_result m _ h), (k.1 c).1⟩)
      (run_main (F := Ideal) m g),
    (θ_run Cert.ReferenceIdeal.defs _ _).mono (fun _ k => k.1 0) (Ref.run_ref (F := Ideal) m' g')⟩

end Cert.AllReduce

end
-- ==== Proof.lean ====
/- The claim: the kernel and the reference run and stop with their arguments kept, and in exact arithmetic every device
   ends with the reference's result. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Agree

@[expose] public section

noncomputable section

namespace Cert.Proof

theorem claim : Cert.Claim :=
  ⟨Cert.Kernel.Gen.facts, Cert.KernelIdeal.Gen.facts, Cert.ReferenceIdeal.Gen.facts,
    Cert.AllReduce.frame_p, Cert.AllReduce.frame_pi, Cert.AllReduce.frame_ri, trivial, Cert.AllReduce.algebraic⟩

end Cert.Proof

end
